-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 8192]⟩ ⟨2, ![2048, 8192]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S1024x8192 : Shape := ⟨2, ![1024, 8192]⟩
abbrev S2048x1024 : Shape := ⟨2, ![2048, 1024]⟩
abbrev S2x1024x2048 : Shape := ⟨3, ![2, 1024, 2048]⟩
abbrev S4x1024x256 : Shape := ⟨3, ![4, 1024, 256]⟩
abbrev S4x3x1024x256 : Shape := ⟨4, ![4, 3, 1024, 256]⟩
abbrev S2x1024x512 : Shape := ⟨3, ![2, 1024, 512]⟩
abbrev S3 : Shape := ⟨1, ![3]⟩
abbrev S4 : Shape := ⟨1, ![4]⟩
abbrev S2 : Shape := ⟨1, ![2]⟩
abbrev S12 : Shape := ⟨1, ![12]⟩
abbrev S1 : Shape := ⟨1, ![1]⟩
abbrev S_ : Shape := ⟨0, ![]⟩
abbrev S1x1024x2048 : Shape := ⟨3, ![1, 1024, 2048]⟩
abbrev S1024x2048 : Shape := ⟨2, ![1024, 2048]⟩
abbrev S1024x1024 : Shape := ⟨2, ![1024, 1024]⟩
abbrev S2048x256 : Shape := ⟨2, ![2048, 256]⟩
abbrev S1024x256 : Shape := ⟨2, ![1024, 256]⟩
abbrev S1x1024x256 : Shape := ⟨3, ![1, 1024, 256]⟩
abbrev S1x1x1024x256 : Shape := ⟨4, ![1, 1, 1024, 256]⟩
abbrev S2048x512 : Shape := ⟨2, ![2048, 512]⟩
abbrev S1024x512 : Shape := ⟨2, ![1024, 512]⟩
abbrev S1x1024x512 : Shape := ⟨3, ![1, 1024, 512]⟩

abbrev nBuf : Space → Nat
  | .hbm => 3
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S1024x8192, .bf16⟩
  | .local _ .vmem, ⟨0, _⟩ => ⟨S2048x1024, .bf16⟩
  | .local _ .vmem, ⟨1, _⟩ => ⟨S2048x1024, .bf16⟩
  | .local _ .vmem, ⟨2, _⟩ => ⟨S2x1024x2048, .f32⟩
  | .local _ .vmem, ⟨3, _⟩ => ⟨S2048x1024, .f32⟩
  | .local _ .vmem, ⟨4, _⟩ => ⟨S4x1024x256, .bf16⟩
  | .local _ .vmem, ⟨5, _⟩ => ⟨S4x1024x256, .bf16⟩
  | .local _ .vmem, ⟨6, _⟩ => ⟨S4x1024x256, .bf16⟩
  | .local _ .vmem, ⟨7, _⟩ => ⟨S4x3x1024x256, .bf16⟩
  | .local _ .vmem, ⟨8, _⟩ => ⟨S4x3x1024x256, .bf16⟩
  | .local _ .vmem, ⟨9, _⟩ => ⟨S2x1024x512, .bf16⟩
  | .local _ .vmem, ⟨10, _⟩ => ⟨S2x1024x512, .bf16⟩
  | .local _ .vmem, ⟨11, _⟩ => ⟨S2x1024x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_43 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_41 : BitVec 32 := 1024#32
  let v66 : BitVec 32 := Scalar.muli v11 c1024_i32_41
  ![0, v66.toNat]
def k0_dev1 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v71 : BitVec 32 := Scalar.muli v2 c8_i32_45
  let v72 : BitVec 32 := Scalar.addi c0_i32_46 v71
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_47 : BitVec 32 := 4#32
  let v73 : BitVec 32 := Scalar.muli v55 c4_i32_47
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v75 : BitVec 32 := Scalar.muli v8 c1_i32_48
  let v76 : BitVec 32 := Scalar.addi v74 v75
  v76.toNat
def k0_dev2 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_50 : BitVec 32 := 8#32
  let v77 : BitVec 32 := Scalar.muli v51 c8_i32_50
  let v78 : BitVec 32 := Scalar.addi c0_i32_51 v77
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_52 : BitVec 32 := 4#32
  let v79 : BitVec 32 := Scalar.muli v5 c4_i32_52
  let v80 : BitVec 32 := Scalar.addi v78 v79
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_53 : BitVec 32 := 1#32
  let v81 : BitVec 32 := Scalar.muli v54 c1_i32_53
  let v82 : BitVec 32 := Scalar.addi v80 v81
  v82.toNat
def k0_dev3 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_55 : BitVec 32 := 8#32
  let v83 : BitVec 32 := Scalar.muli v35 c8_i32_55
  let v84 : BitVec 32 := Scalar.addi c0_i32_56 v83
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v85 : BitVec 32 := Scalar.muli v5 c4_i32_57
  let v86 : BitVec 32 := Scalar.addi v84 v85
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_58 : BitVec 32 := 1#32
  let v87 : BitVec 32 := Scalar.muli v38 c1_i32_58
  let v88 : BitVec 32 := Scalar.addi v86 v87
  v88.toNat
def k0_dev4 (d0 : Dev nD) : Nat :=
  let c0_i32_88 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_87 : BitVec 32 := 8#32
  let v116 : BitVec 32 := Scalar.muli v2 c8_i32_87
  let v117 : BitVec 32 := Scalar.addi c0_i32_88 v116
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_89 : BitVec 32 := 4#32
  let v118 : BitVec 32 := Scalar.muli v55 c4_i32_89
  let v119 : BitVec 32 := Scalar.addi v117 v118
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v120 : BitVec 32 := Scalar.muli v8 c1_i32_90
  let v121 : BitVec 32 := Scalar.addi v119 v120
  v121.toNat
def k0_dev5 (d0 : Dev nD) : Nat :=
  let c0_i32_118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_117 : BitVec 32 := 8#32
  let v152 : BitVec 32 := Scalar.muli v2 c8_i32_117
  let v153 : BitVec 32 := Scalar.addi c0_i32_118 v152
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_119 : BitVec 32 := 4#32
  let v154 : BitVec 32 := Scalar.muli v55 c4_i32_119
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v156 : BitVec 32 := Scalar.muli v8 c1_i32_120
  let v157 : BitVec 32 := Scalar.addi v155 v156
  v157.toNat
def k0_dev6 (d0 : Dev nD) : Nat :=
  let c0_i32_144 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_143 : BitVec 32 := 8#32
  let v182 : BitVec 32 := Scalar.muli v2 c8_i32_143
  let v183 : BitVec 32 := Scalar.addi c0_i32_144 v182
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_145 : BitVec 32 := 4#32
  let v184 : BitVec 32 := Scalar.muli v55 c4_i32_145
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_146 : BitVec 32 := 1#32
  let v186 : BitVec 32 := Scalar.muli v8 c1_i32_146
  let v187 : BitVec 32 := Scalar.addi v185 v186
  v187.toNat
def k0_dev7 (d0 : Dev nD) : Nat :=
  let c0_i32_170 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_169 : BitVec 32 := 8#32
  let v212 : BitVec 32 := Scalar.muli v2 c8_i32_169
  let v213 : BitVec 32 := Scalar.addi c0_i32_170 v212
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_171 : BitVec 32 := 4#32
  let v214 : BitVec 32 := Scalar.muli v55 c4_i32_171
  let v215 : BitVec 32 := Scalar.addi v213 v214
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v216 : BitVec 32 := Scalar.muli v8 c1_i32_172
  let v217 : BitVec 32 := Scalar.addi v215 v216
  v217.toNat
def k0_off2 (d0 : Dev nD) : Fin 2 → Nat :=
  let c0_i32_187 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_2 : BitVec 32 := 4#32
  let v12 : BitVec 32 := Scalar.addi v11 c4_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1024_i32_185 : BitVec 32 := 1024#32
  let v234 : BitVec 32 := Scalar.muli v22 c1024_i32_185
  ![0, v234.toNat]
def k0_dev8 (d0 : Dev nD) : Nat :=
  let c0_i32_224 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_223 : BitVec 32 := 8#32
  let v267 : BitVec 32 := Scalar.muli v35 c8_i32_223
  let v268 : BitVec 32 := Scalar.addi c0_i32_224 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_225 : BitVec 32 := 4#32
  let v269 : BitVec 32 := Scalar.muli v5 c4_i32_225
  let v270 : BitVec 32 := Scalar.addi v268 v269
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_226 : BitVec 32 := 1#32
  let v271 : BitVec 32 := Scalar.muli v38 c1_i32_226
  let v272 : BitVec 32 := Scalar.addi v270 v271
  v272.toNat
def k0_dev9 (d0 : Dev nD) : Nat :=
  let c0_i32_237 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_236 : BitVec 32 := 8#32
  let v281 : BitVec 32 := Scalar.muli v51 c8_i32_236
  let v282 : BitVec 32 := Scalar.addi c0_i32_237 v281
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_238 : BitVec 32 := 4#32
  let v283 : BitVec 32 := Scalar.muli v5 c4_i32_238
  let v284 : BitVec 32 := Scalar.addi v282 v283
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_239 : BitVec 32 := 1#32
  let v285 : BitVec 32 := Scalar.muli v54 c1_i32_239
  let v286 : BitVec 32 := Scalar.addi v284 v285
  v286.toNat
def k0_off3 (d0 : Dev nD) (c0_i32_245 : BitVec 32) : Fin 2 → Nat :=
  let c0_i32_248 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_244 : BitVec 32 := 1024#32
  let v295 : BitVec 32 := Scalar.muli v11 c1024_i32_244
  let v296 : BitVec 32 := Scalar.addi v295 c0_i32_245
  ![0, v296.toNat]
def k0_dev10 (d0 : Dev nD) : Nat :=
  let c0_i32_287 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_286 : BitVec 32 := 8#32
  let v331 : BitVec 32 := Scalar.muli v35 c8_i32_286
  let v332 : BitVec 32 := Scalar.addi c0_i32_287 v331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_288 : BitVec 32 := 4#32
  let v333 : BitVec 32 := Scalar.muli v5 c4_i32_288
  let v334 : BitVec 32 := Scalar.addi v332 v333
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_289 : BitVec 32 := 1#32
  let v335 : BitVec 32 := Scalar.muli v38 c1_i32_289
  let v336 : BitVec 32 := Scalar.addi v334 v335
  v336.toNat
def k0_dev11 (d0 : Dev nD) : Nat :=
  let c0_i32_300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_299 : BitVec 32 := 8#32
  let v345 : BitVec 32 := Scalar.muli v51 c8_i32_299
  let v346 : BitVec 32 := Scalar.addi c0_i32_300 v345
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v347 : BitVec 32 := Scalar.muli v5 c4_i32_301
  let v348 : BitVec 32 := Scalar.addi v346 v347
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_302 : BitVec 32 := 1#32
  let v349 : BitVec 32 := Scalar.muli v54 c1_i32_302
  let v350 : BitVec 32 := Scalar.addi v348 v349
  v350.toNat
def k0_dev12 (d0 : Dev nD) : Nat :=
  let c0_i32_348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_347 : BitVec 32 := 8#32
  let v395 : BitVec 32 := Scalar.muli v35 c8_i32_347
  let v396 : BitVec 32 := Scalar.addi c0_i32_348 v395
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_349 : BitVec 32 := 4#32
  let v397 : BitVec 32 := Scalar.muli v5 c4_i32_349
  let v398 : BitVec 32 := Scalar.addi v396 v397
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_350 : BitVec 32 := 1#32
  let v399 : BitVec 32 := Scalar.muli v38 c1_i32_350
  let v400 : BitVec 32 := Scalar.addi v398 v399
  v400.toNat
def k0_dev13 (d0 : Dev nD) : Nat :=
  let c0_i32_361 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_360 : BitVec 32 := 8#32
  let v409 : BitVec 32 := Scalar.muli v51 c8_i32_360
  let v410 : BitVec 32 := Scalar.addi c0_i32_361 v409
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_362 : BitVec 32 := 4#32
  let v411 : BitVec 32 := Scalar.muli v5 c4_i32_362
  let v412 : BitVec 32 := Scalar.addi v410 v411
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_363 : BitVec 32 := 1#32
  let v413 : BitVec 32 := Scalar.muli v54 c1_i32_363
  let v414 : BitVec 32 := Scalar.addi v412 v413
  v414.toNat
def k0_dev14 (d0 : Dev nD) : Nat :=
  let c0_i32_409 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_408 : BitVec 32 := 8#32
  let v459 : BitVec 32 := Scalar.muli v35 c8_i32_408
  let v460 : BitVec 32 := Scalar.addi c0_i32_409 v459
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_410 : BitVec 32 := 4#32
  let v461 : BitVec 32 := Scalar.muli v5 c4_i32_410
  let v462 : BitVec 32 := Scalar.addi v460 v461
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_411 : BitVec 32 := 1#32
  let v463 : BitVec 32 := Scalar.muli v38 c1_i32_411
  let v464 : BitVec 32 := Scalar.addi v462 v463
  v464.toNat
def k0_dev15 (d0 : Dev nD) : Nat :=
  let c0_i32_422 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_421 : BitVec 32 := 8#32
  let v473 : BitVec 32 := Scalar.muli v51 c8_i32_421
  let v474 : BitVec 32 := Scalar.addi c0_i32_422 v473
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_423 : BitVec 32 := 4#32
  let v475 : BitVec 32 := Scalar.muli v5 c4_i32_423
  let v476 : BitVec 32 := Scalar.addi v474 v475
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_424 : BitVec 32 := 1#32
  let v477 : BitVec 32 := Scalar.muli v54 c1_i32_424
  let v478 : BitVec 32 := Scalar.addi v476 v477
  v478.toNat
def k0_dev16 (d0 : Dev nD) : Nat :=
  let c0_i32_455 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_454 : BitVec 32 := 8#32
  let v506 : BitVec 32 := Scalar.muli v35 c8_i32_454
  let v507 : BitVec 32 := Scalar.addi c0_i32_455 v506
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_456 : BitVec 32 := 4#32
  let v508 : BitVec 32 := Scalar.muli v5 c4_i32_456
  let v509 : BitVec 32 := Scalar.addi v507 v508
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_457 : BitVec 32 := 1#32
  let v510 : BitVec 32 := Scalar.muli v38 c1_i32_457
  let v511 : BitVec 32 := Scalar.addi v509 v510
  v511.toNat
def k0_dev17 (d0 : Dev nD) : Nat :=
  let c0_i32_482 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_481 : BitVec 32 := 8#32
  let v532 : BitVec 32 := Scalar.muli v51 c8_i32_481
  let v533 : BitVec 32 := Scalar.addi c0_i32_482 v532
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_483 : BitVec 32 := 4#32
  let v534 : BitVec 32 := Scalar.muli v5 c4_i32_483
  let v535 : BitVec 32 := Scalar.addi v533 v534
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_484 : BitVec 32 := 1#32
  let v536 : BitVec 32 := Scalar.muli v54 c1_i32_484
  let v537 : BitVec 32 := Scalar.addi v535 v536
  v537.toNat
def k0_dev18 (d0 : Dev nD) : Nat :=
  let c0_i32_509 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_508 : BitVec 32 := 8#32
  let v558 : BitVec 32 := Scalar.muli v35 c8_i32_508
  let v559 : BitVec 32 := Scalar.addi c0_i32_509 v558
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_510 : BitVec 32 := 4#32
  let v560 : BitVec 32 := Scalar.muli v5 c4_i32_510
  let v561 : BitVec 32 := Scalar.addi v559 v560
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_511 : BitVec 32 := 1#32
  let v562 : BitVec 32 := Scalar.muli v38 c1_i32_511
  let v563 : BitVec 32 := Scalar.addi v561 v562
  v563.toNat
def k0_dev19 (d0 : Dev nD) : Nat :=
  let c0_i32_536 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_535 : BitVec 32 := 8#32
  let v584 : BitVec 32 := Scalar.muli v51 c8_i32_535
  let v585 : BitVec 32 := Scalar.addi c0_i32_536 v584
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_537 : BitVec 32 := 4#32
  let v586 : BitVec 32 := Scalar.muli v5 c4_i32_537
  let v587 : BitVec 32 := Scalar.addi v585 v586
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_538 : BitVec 32 := 1#32
  let v588 : BitVec 32 := Scalar.muli v54 c1_i32_538
  let v589 : BitVec 32 := Scalar.addi v587 v588
  v589.toNat
def k0_dev20 (d0 : Dev nD) : Nat :=
  let c0_i32_563 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_562 : BitVec 32 := 8#32
  let v610 : BitVec 32 := Scalar.muli v35 c8_i32_562
  let v611 : BitVec 32 := Scalar.addi c0_i32_563 v610
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_564 : BitVec 32 := 4#32
  let v612 : BitVec 32 := Scalar.muli v5 c4_i32_564
  let v613 : BitVec 32 := Scalar.addi v611 v612
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_565 : BitVec 32 := 1#32
  let v614 : BitVec 32 := Scalar.muli v38 c1_i32_565
  let v615 : BitVec 32 := Scalar.addi v613 v614
  v615.toNat
def k0_dev21 (d0 : Dev nD) : Nat :=
  let c0_i32_590 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_589 : BitVec 32 := 8#32
  let v636 : BitVec 32 := Scalar.muli v51 c8_i32_589
  let v637 : BitVec 32 := Scalar.addi c0_i32_590 v636
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_591 : BitVec 32 := 4#32
  let v638 : BitVec 32 := Scalar.muli v5 c4_i32_591
  let v639 : BitVec 32 := Scalar.addi v637 v638
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_592 : BitVec 32 := 1#32
  let v640 : BitVec 32 := Scalar.muli v54 c1_i32_592
  let v641 : BitVec 32 := Scalar.addi v639 v640
  v641.toNat
def k0_dev22 (d0 : Dev nD) : Nat :=
  let c0_i32_616 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_615 : BitVec 32 := 8#32
  let v662 : BitVec 32 := Scalar.muli v35 c8_i32_615
  let v663 : BitVec 32 := Scalar.addi c0_i32_616 v662
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_617 : BitVec 32 := 4#32
  let v664 : BitVec 32 := Scalar.muli v5 c4_i32_617
  let v665 : BitVec 32 := Scalar.addi v663 v664
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_618 : BitVec 32 := 1#32
  let v666 : BitVec 32 := Scalar.muli v38 c1_i32_618
  let v667 : BitVec 32 := Scalar.addi v665 v666
  v667.toNat
def k0_dev23 (d0 : Dev nD) : Nat :=
  let c0_i32_643 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_642 : BitVec 32 := 8#32
  let v688 : BitVec 32 := Scalar.muli v51 c8_i32_642
  let v689 : BitVec 32 := Scalar.addi c0_i32_643 v688
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644 : BitVec 32 := 4#32
  let v690 : BitVec 32 := Scalar.muli v5 c4_i32_644
  let v691 : BitVec 32 := Scalar.addi v689 v690
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_645 : BitVec 32 := 1#32
  let v692 : BitVec 32 := Scalar.muli v54 c1_i32_645
  let v693 : BitVec 32 := Scalar.addi v691 v692
  v693.toNat
def k0_dev24 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v713 : BitVec 32 := Scalar.muli v2 c8_i32_664
  let v714 : BitVec 32 := Scalar.addi c0_i32_665 v713
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_666 : BitVec 32 := 4#32
  let v715 : BitVec 32 := Scalar.muli v55 c4_i32_666
  let v716 : BitVec 32 := Scalar.addi v714 v715
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_667 : BitVec 32 := 1#32
  let v717 : BitVec 32 := Scalar.muli v8 c1_i32_667
  let v718 : BitVec 32 := Scalar.addi v716 v717
  v718.toNat
def k0_dev25 (d0 : Dev nD) : Nat :=
  let c0_i32_693 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_692 : BitVec 32 := 8#32
  let v743 : BitVec 32 := Scalar.muli v2 c8_i32_692
  let v744 : BitVec 32 := Scalar.addi c0_i32_693 v743
  let c1_i32_29 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v55 : BitVec 32 := Scalar.subi c1_i32_29 v5
  let c4_i32_694 : BitVec 32 := 4#32
  let v745 : BitVec 32 := Scalar.muli v55 c4_i32_694
  let v746 : BitVec 32 := Scalar.addi v744 v745
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_695 : BitVec 32 := 1#32
  let v747 : BitVec 32 := Scalar.muli v8 c1_i32_695
  let v748 : BitVec 32 := Scalar.addi v746 v747
  v748.toNat
def k0_off4 (d0 : Dev nD) (c0_i32_708 : BitVec 32) (c0_i32_717 : BitVec 32) : Fin 2 → Nat :=
  let c0_i32_726 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v765 : BitVec 32 := Scalar.subi v11 c0_i32_708
  let c1_i32_709 : BitVec 32 := 1#32
  let v766 : BitVec 32 := Scalar.subi v765 c1_i32_709
  let c8_i32_710 : BitVec 32 := 8#32
  let c0_i32_711 : BitVec 32 := 0#32
  let v767 : BitVec 1 := Scalar.cmpi .eq c8_i32_710 c0_i32_711
  let c1_i32_712 : BitVec 32 := 1#32
  let v768 : BitVec 32 := Scalar.select v767 c1_i32_712 c8_i32_710
  let v769 : BitVec 32 := Scalar.remsi v766 v768
  let c0_i32_714 : BitVec 32 := 0#32
  let v771 : BitVec 1 := Scalar.cmpi .slt v769 c0_i32_714
  let c0_i32_715 : BitVec 32 := 0#32
  let v772 : BitVec 1 := Scalar.cmpi .slt v768 c0_i32_715
  let v773 : BitVec 1 := Scalar.xori v771 v772
  let c0_i32_713 : BitVec 32 := 0#32
  let v770 : BitVec 1 := Scalar.cmpi .ne v769 c0_i32_713
  let v774 : BitVec 1 := Scalar.andi v773 v770
  let v775 : BitVec 32 := Scalar.addi v769 v768
  let v776 : BitVec 32 := Scalar.select v774 v775 v769
  let c1024_i32_716 : BitVec 32 := 1024#32
  let v777 : BitVec 32 := Scalar.muli v776 c1024_i32_716
  let v778 : BitVec 32 := Scalar.addi v777 c0_i32_717
  ![0, v778.toNat]
def k0_off5 (d0 : Dev nD) (c0_i32_729 : BitVec 32) (c0_i32_738 : BitVec 32) : Fin 2 → Nat :=
  let c0_i32_747 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v789 : BitVec 32 := Scalar.addi v11 c0_i32_729
  let c1_i32_730 : BitVec 32 := 1#32
  let v790 : BitVec 32 := Scalar.addi v789 c1_i32_730
  let c8_i32_731 : BitVec 32 := 8#32
  let c0_i32_732 : BitVec 32 := 0#32
  let v791 : BitVec 1 := Scalar.cmpi .eq c8_i32_731 c0_i32_732
  let c1_i32_733 : BitVec 32 := 1#32
  let v792 : BitVec 32 := Scalar.select v791 c1_i32_733 c8_i32_731
  let v793 : BitVec 32 := Scalar.remsi v790 v792
  let c0_i32_735 : BitVec 32 := 0#32
  let v795 : BitVec 1 := Scalar.cmpi .slt v793 c0_i32_735
  let c0_i32_736 : BitVec 32 := 0#32
  let v796 : BitVec 1 := Scalar.cmpi .slt v792 c0_i32_736
  let v797 : BitVec 1 := Scalar.xori v795 v796
  let c0_i32_734 : BitVec 32 := 0#32
  let v794 : BitVec 1 := Scalar.cmpi .ne v793 c0_i32_734
  let v798 : BitVec 1 := Scalar.andi v797 v794
  let v799 : BitVec 32 := Scalar.addi v793 v792
  let v800 : BitVec 32 := Scalar.select v798 v799 v793
  let c1024_i32_737 : BitVec 32 := 1024#32
  let v801 : BitVec 32 := Scalar.muli v800 c1024_i32_737
  let v802 : BitVec 32 := Scalar.addi v801 c0_i32_738
  ![0, v802.toNat]
def k0_dev26 (d0 : Dev nD) : Nat :=
  let c0_i32_901 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_900 : BitVec 32 := 8#32
  let v969 : BitVec 32 := Scalar.muli v35 c8_i32_900
  let v970 : BitVec 32 := Scalar.addi c0_i32_901 v969
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_902 : BitVec 32 := 4#32
  let v971 : BitVec 32 := Scalar.muli v5 c4_i32_902
  let v972 : BitVec 32 := Scalar.addi v970 v971
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_903 : BitVec 32 := 1#32
  let v973 : BitVec 32 := Scalar.muli v38 c1_i32_903
  let v974 : BitVec 32 := Scalar.addi v972 v973
  v974.toNat
def k0_dev27 (d0 : Dev nD) : Nat :=
  let c0_i32_929 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_928 : BitVec 32 := 8#32
  let v995 : BitVec 32 := Scalar.muli v51 c8_i32_928
  let v996 : BitVec 32 := Scalar.addi c0_i32_929 v995
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_930 : BitVec 32 := 4#32
  let v997 : BitVec 32 := Scalar.muli v5 c4_i32_930
  let v998 : BitVec 32 := Scalar.addi v996 v997
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_931 : BitVec 32 := 1#32
  let v999 : BitVec 32 := Scalar.muli v54 c1_i32_931
  let v1000 : BitVec 32 := Scalar.addi v998 v999
  v1000.toNat
def k0_dev28 (d0 : Dev nD) : Nat :=
  let c0_i32_956 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_955 : BitVec 32 := 8#32
  let v1021 : BitVec 32 := Scalar.muli v35 c8_i32_955
  let v1022 : BitVec 32 := Scalar.addi c0_i32_956 v1021
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_957 : BitVec 32 := 4#32
  let v1023 : BitVec 32 := Scalar.muli v5 c4_i32_957
  let v1024 : BitVec 32 := Scalar.addi v1022 v1023
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_958 : BitVec 32 := 1#32
  let v1025 : BitVec 32 := Scalar.muli v38 c1_i32_958
  let v1026 : BitVec 32 := Scalar.addi v1024 v1025
  v1026.toNat
def k0_dev29 (d0 : Dev nD) : Nat :=
  let c0_i32_984 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_983 : BitVec 32 := 8#32
  let v1047 : BitVec 32 := Scalar.muli v51 c8_i32_983
  let v1048 : BitVec 32 := Scalar.addi c0_i32_984 v1047
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_985 : BitVec 32 := 4#32
  let v1049 : BitVec 32 := Scalar.muli v5 c4_i32_985
  let v1050 : BitVec 32 := Scalar.addi v1048 v1049
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_986 : BitVec 32 := 1#32
  let v1051 : BitVec 32 := Scalar.muli v54 c1_i32_986
  let v1052 : BitVec 32 := Scalar.addi v1050 v1051
  v1052.toNat
def k0_dev30 (d0 : Dev nD) : Nat :=
  let c0_i32_1012 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_1011 : BitVec 32 := 8#32
  let v1073 : BitVec 32 := Scalar.muli v35 c8_i32_1011
  let v1074 : BitVec 32 := Scalar.addi c0_i32_1012 v1073
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1013 : BitVec 32 := 4#32
  let v1075 : BitVec 32 := Scalar.muli v5 c4_i32_1013
  let v1076 : BitVec 32 := Scalar.addi v1074 v1075
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_1014 : BitVec 32 := 1#32
  let v1077 : BitVec 32 := Scalar.muli v38 c1_i32_1014
  let v1078 : BitVec 32 := Scalar.addi v1076 v1077
  v1078.toNat
def k0_dev31 (d0 : Dev nD) : Nat :=
  let c0_i32_1040 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_1039 : BitVec 32 := 8#32
  let v1099 : BitVec 32 := Scalar.muli v51 c8_i32_1039
  let v1100 : BitVec 32 := Scalar.addi c0_i32_1040 v1099
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1041 : BitVec 32 := 4#32
  let v1101 : BitVec 32 := Scalar.muli v5 c4_i32_1041
  let v1102 : BitVec 32 := Scalar.addi v1100 v1101
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_1042 : BitVec 32 := 1#32
  let v1103 : BitVec 32 := Scalar.muli v54 c1_i32_1042
  let v1104 : BitVec 32 := Scalar.addi v1102 v1103
  v1104.toNat
def k0_dev32 (d0 : Dev nD) : Nat :=
  let c0_i32_1067 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_9 : BitVec 32 := 1#32
  let v23 : BitVec 32 := Scalar.addi v11 c1_i32_9
  let c8_i32_10 : BitVec 32 := 8#32
  let c0_i32_11 : BitVec 32 := 0#32
  let v24 : BitVec 1 := Scalar.cmpi .eq c8_i32_10 c0_i32_11
  let c1_i32_12 : BitVec 32 := 1#32
  let v25 : BitVec 32 := Scalar.select v24 c1_i32_12 c8_i32_10
  let v26 : BitVec 32 := Scalar.remsi v23 v25
  let c0_i32_14 : BitVec 32 := 0#32
  let v28 : BitVec 1 := Scalar.cmpi .slt v26 c0_i32_14
  let c0_i32_15 : BitVec 32 := 0#32
  let v29 : BitVec 1 := Scalar.cmpi .slt v25 c0_i32_15
  let v30 : BitVec 1 := Scalar.xori v28 v29
  let c0_i32_13 : BitVec 32 := 0#32
  let v27 : BitVec 1 := Scalar.cmpi .ne v26 c0_i32_13
  let v31 : BitVec 1 := Scalar.andi v30 v27
  let v32 : BitVec 32 := Scalar.addi v26 v25
  let v33 : BitVec 32 := Scalar.select v31 v32 v26
  let c4_i32_16 : BitVec 32 := 4#32
  let v34 : BitVec 1 := Scalar.cmpi .sge v33 c4_i32_16
  let v35 : BitVec 32 := Scalar.extui v34
  let c8_i32_1066 : BitVec 32 := 8#32
  let v1125 : BitVec 32 := Scalar.muli v35 c8_i32_1066
  let v1126 : BitVec 32 := Scalar.addi c0_i32_1067 v1125
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1068 : BitVec 32 := 4#32
  let v1127 : BitVec 32 := Scalar.muli v5 c4_i32_1068
  let v1128 : BitVec 32 := Scalar.addi v1126 v1127
  let c0_i32_17 : BitVec 32 := 0#32
  let v36 : BitVec 1 := Scalar.cmpi .eq v35 c0_i32_17
  let c7_i32_18 : BitVec 32 := 7#32
  let v37 : BitVec 32 := Scalar.subi c7_i32_18 v33
  let v38 : BitVec 32 := Scalar.select v36 v33 v37
  let c1_i32_1069 : BitVec 32 := 1#32
  let v1129 : BitVec 32 := Scalar.muli v38 c1_i32_1069
  let v1130 : BitVec 32 := Scalar.addi v1128 v1129
  v1130.toNat
def k0_dev33 (d0 : Dev nD) : Nat :=
  let c0_i32_1095 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_19 : BitVec 32 := 1#32
  let v39 : BitVec 32 := Scalar.subi v11 c1_i32_19
  let c8_i32_20 : BitVec 32 := 8#32
  let c0_i32_21 : BitVec 32 := 0#32
  let v40 : BitVec 1 := Scalar.cmpi .eq c8_i32_20 c0_i32_21
  let c1_i32_22 : BitVec 32 := 1#32
  let v41 : BitVec 32 := Scalar.select v40 c1_i32_22 c8_i32_20
  let v42 : BitVec 32 := Scalar.remsi v39 v41
  let c0_i32_24 : BitVec 32 := 0#32
  let v44 : BitVec 1 := Scalar.cmpi .slt v42 c0_i32_24
  let c0_i32_25 : BitVec 32 := 0#32
  let v45 : BitVec 1 := Scalar.cmpi .slt v41 c0_i32_25
  let v46 : BitVec 1 := Scalar.xori v44 v45
  let c0_i32_23 : BitVec 32 := 0#32
  let v43 : BitVec 1 := Scalar.cmpi .ne v42 c0_i32_23
  let v47 : BitVec 1 := Scalar.andi v46 v43
  let v48 : BitVec 32 := Scalar.addi v42 v41
  let v49 : BitVec 32 := Scalar.select v47 v48 v42
  let c4_i32_26 : BitVec 32 := 4#32
  let v50 : BitVec 1 := Scalar.cmpi .sge v49 c4_i32_26
  let v51 : BitVec 32 := Scalar.extui v50
  let c8_i32_1094 : BitVec 32 := 8#32
  let v1151 : BitVec 32 := Scalar.muli v51 c8_i32_1094
  let v1152 : BitVec 32 := Scalar.addi c0_i32_1095 v1151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1096 : BitVec 32 := 4#32
  let v1153 : BitVec 32 := Scalar.muli v5 c4_i32_1096
  let v1154 : BitVec 32 := Scalar.addi v1152 v1153
  let c0_i32_27 : BitVec 32 := 0#32
  let v52 : BitVec 1 := Scalar.cmpi .eq v51 c0_i32_27
  let c7_i32_28 : BitVec 32 := 7#32
  let v53 : BitVec 32 := Scalar.subi c7_i32_28 v49
  let v54 : BitVec 32 := Scalar.select v52 v49 v53
  let c1_i32_1097 : BitVec 32 := 1#32
  let v1155 : BitVec 32 := Scalar.muli v54 c1_i32_1097
  let v1156 : BitVec 32 := Scalar.addi v1154 v1155
  v1156.toNat
def k0_off6 (d0 : Dev nD) (c0_i32_1597 : BitVec 32) : Fin 2 → Nat :=
  let c0_i32_1606 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_2 : BitVec 32 := 4#32
  let v12 : BitVec 32 := Scalar.addi v11 c4_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c1024_i32_1596 : BitVec 32 := 1024#32
  let v1674 : BitVec 32 := Scalar.muli v22 c1024_i32_1596
  let v1675 : BitVec 32 := Scalar.addi v1674 c0_i32_1597
  ![0, v1675.toNat]
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S2048x4096, .f32⟩
  | .hbm, ⟨3, _⟩ => ⟨S2048x8192, .f32⟩
  | .hbm, ⟨4, _⟩ => ⟨S2048x8192, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/- The mesh, the buffers' slots and the transfers of the kernel: which device is whose neighbour on the ring and
   whose partner, which slice of which buffer each transfer fills, and on which semaphores it completes. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.MemrefSat
public import Idealize.ShloMosaic.Lib.Tactic
public import Mathlib.Tactic.DeriveFintype

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh: the ring of eight at each `y`, and the partner across `y` -/

/-- A device's place on its ring. -/
def pos (c : Dev nD) : ℕ := if c.val / 8 = 0 then c.val % 4 else 7 - c.val % 4
/-- The ring a device is on. -/
def row (c : Dev nD) : ℕ := c.val / 4 % 2
/-- The device at place `p` (around) of ring `y`. -/
def devAt (y p : ℕ) : Dev nD :=
  ⟨(if p % 8 < 4 then p % 8 else 15 - p % 8) + 4 * (y % 2), by
    show _ < 16
    split <;> omega⟩
def right (c : Dev nD) : Dev nD := devAt (row c) (pos c + 1)
def left (c : Dev nD) : Dev nD := devAt (row c) (pos c + 7)
def partner (c : Dev nD) : Dev nD := devAt (row c + 1) (pos c)

theorem left_right (c : Dev nD) : left (right c) = c := by revert c; decide +kernel
theorem right_left (c : Dev nD) : right (left c) = c := by revert c; decide +kernel
theorem partner_partner (c : Dev nD) : partner (partner c) = c := by revert c; decide +kernel
theorem row_partner (c : Dev nD) : row (partner c) = 1 - row c := by revert c; decide +kernel
theorem pos_partner (c : Dev nD) : pos (partner c) = pos c := by revert c; decide +kernel

theorem dev1_eq (c : Dev nD) : (⟨k0_dev1 c, k0_dev1_lt c⟩ : Dev nD) = partner c := by revert c; decide +kernel
theorem dev2_eq (c : Dev nD) : (⟨k0_dev2 c, k0_dev2_lt c⟩ : Dev nD) = left c := by revert c; decide +kernel
theorem dev3_eq (c : Dev nD) : (⟨k0_dev3 c, k0_dev3_lt c⟩ : Dev nD) = right c := by revert c; decide +kernel

/-! ## The transfers between devices -/

/-- A transfer between devices: product slice `s` to the partner, ring hop `h` of slice `s` (to the right, or to
    the left), half `t` of the far chunk to the partner. -/
inductive Xf
  | ys (s : Fin 4)
  | ring (h : Fin 3) (s : Fin 4) (ccw : Bool)
  | y4 (t : Fin 2)
  deriving DecidableEq, Fintype

/-- What a device owes others: the three signals of the entry handshake (to the partner, the left and the right
    neighbour), and its transfers. -/
inductive Due
  | bar (i : Fin 3)
  | xf (d : Xf)
  deriving DecidableEq, Fintype

/-- The place of a transfer in the order the program issues them, after the three signals. -/
def ordX : Xf → ℕ
  | .ys s => 3 + s.val
  | .ring h s b => (if h.val = 2 then 25 else 7 + 8 * h.val) + 2 * s.val + (if b then 1 else 0)
  | .y4 t => 23 + t.val
def ord : Due → ℕ
  | .bar i => i.val
  | .xf d => ordX d
/-- The place of a transfer in the order the program waits for what arrives. -/
def wordX : Xf → ℕ
  | .ys s => s.val
  | .ring h s b => 4 + 8 * h.val + 2 * s.val + (if b then 1 else 0)
  | .y4 t => 28 + t.val

theorem ord_inj : ∀ d d' : Due, ord d = ord d' → d = d' := by decide +kernel
theorem wordX_inj : ∀ d d' : Xf, wordX d = wordX d' → d = d' := by decide +kernel

/-- The device a due is paid to. -/
def tgtX (c : Dev nD) : Xf → Dev nD
  | .ys _ => partner c
  | .ring _ _ false => right c
  | .ring _ _ true => left c
  | .y4 _ => partner c
def tgt (c : Dev nD) : Due → Dev nD
  | .bar 0 => partner c
  | .bar 1 => left c
  | .bar 2 => right c
  | .xf d => tgtX c d
/-- The device a due is paid by. -/
def srcX (c : Dev nD) : Xf → Dev nD
  | .ys _ => partner c
  | .ring _ _ false => left c
  | .ring _ _ true => right c
  | .y4 _ => partner c
def src (c : Dev nD) : Due → Dev nD
  | .bar 0 => partner c
  | .bar 1 => right c
  | .bar 2 => left c
  | .xf d => srcX c d

theorem tgt_src (c : Dev nD) (d : Due) : tgt (src c d) d = c := by revert c d; decide +kernel
theorem src_tgt (c : Dev nD) (d : Due) : src (tgt c d) d = c := by revert c d; decide +kernel

/-- The semaphore a transfer completes on at its sender. -/
def ssem : Xf → DmaSem sig
  | .ys s => ⟨7 + s.val, by show _ < 67; omega⟩
  | .ring h s false => ⟨19 + (3 * s.val + h.val), by show _ < 67; omega⟩
  | .ring h s true => ⟨43 + (3 * s.val + h.val), by show _ < 67; omega⟩
  | .y4 t => ⟨15 + t.val, by show _ < 67; omega⟩
/-- The semaphore it completes on at its receiver. -/
def rsem : Xf → DmaSem sig
  | .ys s => ⟨11 + s.val, by show _ < 67; omega⟩
  | .ring h s false => ⟨31 + (3 * s.val + h.val), by show _ < 67; omega⟩
  | .ring h s true => ⟨55 + (3 * s.val + h.val), by show _ < 67; omega⟩
  | .y4 t => ⟨17 + t.val, by show _ < 67; omega⟩
/-- The semaphores of a core's own copies: three loads, four stores. -/
def lsem (i : Fin 7) : DmaSem sig := ⟨i.val, by show _ < 67; omega⟩

abbrev barS : Sem sig := (SemArray.scalar (sig.barrier 0 rfl) : Sems sig S_).sem
/-- The semaphore a due is paid on. -/
def dsem : Due → SemLoc sig
  | .bar _ => .reg barS
  | .xf d => .dma (rsem d)

theorem rsem_inj : ∀ d d' : Xf, rsem d = rsem d' → d = d' := by decide +kernel
theorem ssem_inj : ∀ d d' : Xf, ssem d = ssem d' → d = d' := by decide +kernel

/-! ## The buffers and their slots -/

abbrev arg0M : Memref sig .tc .hbm S2048x2048 .f32 := Memref.whole main_arg0
abbrev arg1M : Memref sig .tc .hbm S2048x8192 .f32 := Memref.whole main_arg1
abbrev outM : Memref sig .tc .hbm S1024x8192 .bf16 := Memref.whole main_v1
abbrev xpM : Memref sig .tc .vmem S2048x1024 .bf16 := Memref.whole cc0_scratch0
abbrev xmM : Memref sig .tc .vmem S2048x1024 .bf16 := Memref.whole cc0_scratch1
abbrev xstM : Memref sig .tc .vmem S2x1024x2048 .f32 := Memref.whole cc0_scratch2
abbrev dyM : Memref sig .tc .vmem S2048x1024 .f32 := Memref.whole cc0_scratch3
abbrev ysM : Memref sig .tc .vmem S4x1024x256 .bf16 := Memref.whole cc0_scratch4
abbrev yrM : Memref sig .tc .vmem S4x1024x256 .bf16 := Memref.whole cc0_scratch5
abbrev redM : Memref sig .tc .vmem S4x1024x256 .bf16 := Memref.whole cc0_scratch6
abbrev cwM : Memref sig .tc .vmem S4x3x1024x256 .bf16 := Memref.whole cc0_scratch7
abbrev ccwM : Memref sig .tc .vmem S4x3x1024x256 .bf16 := Memref.whole cc0_scratch8
abbrev y4sM : Memref sig .tc .vmem S2x1024x512 .bf16 := Memref.whole cc0_scratch9
abbrev y4rM : Memref sig .tc .vmem S2x1024x512 .bf16 := Memref.whole cc0_scratch10
abbrev red4M : Memref sig .tc .vmem S2x1024x512 .bf16 := Memref.whole cc0_scratch11

theorem inb4 (s : Fin 4) : ∀ a : Fin 3, (![s.val, 0, 0] : Fin 3 → ℕ) a + S1x1024x256.size a ≤ S4x1024x256.size a := by
  revert s; decide
theorem inb43 (s : Fin 4) (h : Fin 3) : ∀ a : Fin 4, (![s.val, h.val, 0, 0] : Fin 4 → ℕ) a + S1x1x1024x256.size a ≤ S4x3x1024x256.size a := by
  revert s h; decide
theorem inb2 (t : Fin 2) : ∀ a : Fin 3, (![t.val, 0, 0] : Fin 3 → ℕ) a + S1x1024x512.size a ≤ S2x1024x512.size a := by
  revert t; decide
theorem inbx (t : Fin 2) : ∀ a : Fin 3, (![t.val, 0, 0] : Fin 3 → ℕ) a + S1x1024x2048.size a ≤ S2x1024x2048.size a := by
  revert t; decide

abbrev r4 (s : Fin 4) : Rect S4x1024x256 := Rect.unit (s := S4x1024x256) ![s.val, 0, 0] S1x1024x256.size (inb4 s)
abbrev r43 (s : Fin 4) (h : Fin 3) : Rect S4x3x1024x256 := Rect.unit (s := S4x3x1024x256) ![s.val, h.val, 0, 0] S1x1x1024x256.size (inb43 s h)
abbrev r2 (t : Fin 2) : Rect S2x1024x512 := Rect.unit (s := S2x1024x512) ![t.val, 0, 0] S1x1024x512.size (inb2 t)
abbrev rx (t : Fin 2) : Rect S2x1024x2048 := Rect.unit (s := S2x1024x2048) ![t.val, 0, 0] S1x1024x2048.size (inbx t)

/-- Slot `s` of a four-slot buffer. -/
abbrev sl4 (m : Memref sig .tc .vmem S4x1024x256 .bf16) (s : Fin 4) : Memref sig .tc .vmem S1024x256 .bf16 :=
  (m.slice (r4 s) (fun _ => rfl)).squeeze S1024x256 squeezes_S1x1024x256_S1024x256
/-- Slot `(s, h)` of a ring buffer. -/
abbrev sl43 (m : Memref sig .tc .vmem S4x3x1024x256 .bf16) (s : Fin 4) (h : Fin 3) : Memref sig .tc .vmem S1024x256 .bf16 :=
  (m.slice (r43 s h) (fun _ => rfl)).squeeze S1024x256 squeezes_S1x1x1024x256_S1024x256
/-- Half `t` of a two-slot buffer. -/
abbrev sl2 (m : Memref sig .tc .vmem S2x1024x512 .bf16) (t : Fin 2) : Memref sig .tc .vmem S1024x512 .bf16 :=
  (m.slice (r2 t) (fun _ => rfl)).squeeze S1024x512 squeezes_S1x1024x512_S1024x512
/-- Half `t` of the staged rows of `x`. -/
abbrev slx (m : Memref sig .tc .vmem S2x1024x2048 .f32) (t : Fin 2) : Memref sig .tc .vmem S1024x2048 .f32 :=
  (m.slice (rx t) (fun _ => rfl)).squeeze S1024x2048 squeezes_S1x1024x2048_S1024x2048

/-- The ring buffer of a direction. -/
abbrev bufR : Bool → Memref sig .tc .vmem S4x3x1024x256 .bf16
  | false => cwM
  | true => ccwM

/-- What a transfer of 256 columns, or of 512, adds to the semaphores it completes on. -/
abbrev N256 : ℕ := (sl4 yrM 0).view.dmaCredit
abbrev N512 : ℕ := (sl2 y4rM 0).view.dmaCredit
theorem N256_pos : 0 < N256 := View.dmaCredit_pos _ (by decide)
theorem N512_pos : 0 < N512 := View.dmaCredit_pos _ (by decide)

/-- What a due pays in. -/
def amt : Due → ℕ
  | .bar _ => 1
  | .xf (.ys _) => N256
  | .xf (.ring _ _ _) => N256
  | .xf (.y4 _) => N512
theorem amt_pos (d : Due) : 0 < amt d := by
  rcases d with i | (s | ⟨h, s, b⟩ | t)
  · exact Nat.one_pos
  · exact N256_pos
  · exact N256_pos
  · exact N512_pos

/-! ## The result's pieces, in the order they are stored -/

/-- A store into the result: slice `s` of the device's own chunk, what arrived at ring hop `h` of slice `s`, half
    `t` of the far chunk. -/
inductive Job
  | own (s : Fin 4)
  | ring (h : Fin 3) (s : Fin 4) (ccw : Bool)
  | far (t : Fin 2)
  deriving DecidableEq, Fintype

/-- The place of a store in the order the program issues them (and waits for them). -/
def jord : Job → ℕ
  | .own s => s.val
  | .ring h s b => 4 + 8 * h.val + 2 * s.val + (if b then 1 else 0)
  | .far t => 28 + t.val
theorem jord_inj : ∀ j j' : Job, jord j = jord j' → j = j' := by decide +kernel

/-- The columns of the result a store fills. -/
abbrev jrect (c : Dev nD) : Job → Rect S1024x8192
  | .own s => Rect.unit (s := S1024x8192) (k0_off3 c (BitVec.ofNat 32 (256 * s.val))) S1024x256.size (k0_off3_inb c s)
  | .ring h s false => Rect.unit (s := S1024x8192) (k0_off4 c (BitVec.ofNat 32 h.val) (BitVec.ofNat 32 (256 * s.val))) S1024x256.size (k0_off4_inb c h s)
  | .ring h s true => Rect.unit (s := S1024x8192) (k0_off5 c (BitVec.ofNat 32 h.val) (BitVec.ofNat 32 (256 * s.val))) S1024x256.size (k0_off5_inb c h s)
  | .far t => Rect.unit (s := S1024x8192) (k0_off6 c (BitVec.ofNat 32 (512 * t.val))) S1024x512.size (k0_off6_inb c t)
theorem jrect_stride (c : Dev nD) (j : Job) (a : Fin 2) : (jrect c j).stride a = 1 := by
  rcases j with s | ⟨h, s, _ | _⟩ | t <;> rfl

end Cert.Wgrad
-- ==== Proof.Plan.lean ====
/- The values that travel, what each landing hands over, the schedule of the cells' single round, and what each
   device owes. -/
module

public import proofs.«01_k».proof.Proof.Common

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's copy, the transfers' rounds, and the counters of local copies -/

abbrev UB : Type := URounds (GSem nD τ sig) Due
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance : (ER (F := F)).LandsIn (upEmb : UEmb _ 𝕄) := by unfold ER; infer_instance
abbrev EC : UEmb Counters (MT nD τ sig Unit (Elt F) ℕ UU ℕ) := countersEmb

abbrev 𝒱₀ : Variants := Variants.none

/-! ## The values -/

section Values
variable (A : Dev nD → Vec F S2048x2048 .f32) (B : Dev nD → Vec F S2048x8192 .f32)

abbrev sq (w : Vec F S1x1024x256 .bf16) : Vec F S1024x256 .bf16 := shapeCast S1024x256 w shapeCasts_S1x1024x256_S1024x256
abbrev usq (w : Vec F S1024x256 .bf16) : Vec F S1x1024x256 .bf16 := shapeCast S1x1024x256 w shapeCasts_S1024x256_S1x1024x256
abbrev sq5 (w : Vec F S1x1024x512 .bf16) : Vec F S1024x512 .bf16 := shapeCast S1024x512 w shapeCasts_S1x1024x512_S1024x512
abbrev usq5 (w : Vec F S1024x512 .bf16) : Vec F S1x1024x512 .bf16 := shapeCast S1x1024x512 w shapeCasts_S1024x512_S1x1024x512

/-- The half of a device's columns of `x` its partner keeps, rounded (`XP`), and the half it keeps itself (`XM`). -/
def XP (c : Dev nD) : Vec F S2048x1024 .bf16 :=
  truncf .bf16 (fun i : S2048x1024.Idx => A c (fun a => match a with
    | ⟨0, _⟩ => (i 0 : Fin 2048)
    | ⟨1, _⟩ => ⟨(i 1).val + 1024 * (1 - row c), by
        have : (i 1).val < 1024 := (i 1).isLt
        show _ < 2048
        omega⟩)) bitsLt_bf16_f32
def XM (c : Dev nD) : Vec F S2048x1024 .bf16 :=
  truncf .bf16 (fun i : S2048x1024.Idx => A c (fun a => match a with
    | ⟨0, _⟩ => (i 0 : Fin 2048)
    | ⟨1, _⟩ => ⟨(i 1).val + 1024 * (row c), by
        have : (i 1).val < 1024 := (i 1).isLt
        have : row c < 2 := Nat.mod_lt _ (by decide)
        show _ < 2048
        omega⟩)) bitsLt_bf16_f32

/-- The operands as the program loads them. -/
abbrev XPl (c : Dev nD) : Vec F S2048x1024 .bf16 := fun i =>
  XP A c ((Rect.unit (s := S2048x1024) ![0, 0] S2048x1024.size inb_S2048x1024_S2048x1024_0_0).emb i)
abbrev XMl (c : Dev nD) : Vec F S2048x1024 .bf16 := fun i =>
  XM A c ((Rect.unit (s := S2048x1024) ![0, 0] S2048x1024.size inb_S2048x1024_S2048x1024_0_0).emb i)

/-- The columns of `dy` of a device's own chunk, and of the far one. -/
abbrev DY (c : Dev nD) : Vec F S2048x1024 .f32 := fun i =>
  B c ((Rect.unit (s := S2048x8192) (k0_off1 c) S2048x1024.size (k0_off1_inb c)).emb i)
abbrev DF (c : Dev nD) : Vec F S2048x1024 .f32 := fun i =>
  B c ((Rect.unit (s := S2048x8192) (k0_off2 c) S2048x1024.size (k0_off2_inb c)).emb i)

theorem inbs (s : Fin 4) : ∀ a : Fin 2, (![0, 256 * s.val] : Fin 2 → ℕ) a + S2048x256.size a ≤ S2048x1024.size a := by
  revert s; decide
theorem inbt (t : Fin 2) : ∀ a : Fin 2, (![0, 512 * t.val] : Fin 2 → ℕ) a + S2048x512.size a ≤ S2048x1024.size a := by
  revert t; decide
/-- Slice `s` of the own chunk's columns; half `t` of the far chunk's. -/
abbrev DYs (c : Dev nD) (s : Fin 4) : Vec F S2048x256 .f32 := fun i =>
  DY B c ((Rect.unit (s := S2048x1024) ![0, 256 * s.val] S2048x256.size (inbs s)).emb i)
abbrev DFt (c : Dev nD) (t : Fin 2) : Vec F S2048x512 .f32 := fun i =>
  DF B c ((Rect.unit (s := S2048x1024) ![0, 512 * t.val] S2048x512.size (inbt t)).emb i)

/-- The product a device sends its partner, the one it keeps, and their sum at the device that keeps it. -/
def YS (c : Dev nD) (s : Fin 4) : Vec F S1024x256 .bf16 := sq (k0_pay5 (XPl A c) (DYs B c s))
def OWN (c : Dev nD) (s : Fin 4) : Vec F S1024x256 .bf16 := sq (k0_pay5 (XMl A c) (DYs B c s))
def RED (c : Dev nD) (s : Fin 4) : Vec F S1024x256 .bf16 := sq (k0_pay17 (usq (OWN A B c s)) (usq (YS A B (partner c) s)))
/-- The same for the far chunk. -/
def Y4 (c : Dev nD) (t : Fin 2) : Vec F S1024x512 .bf16 := sq5 (k0_pay22 (XPl A c) (DFt B c t))
def OWN4 (c : Dev nD) (t : Fin 2) : Vec F S1024x512 .bf16 := sq5 (k0_pay22 (XMl A c) (DFt B c t))
def RED4 (c : Dev nD) (t : Fin 2) : Vec F S1024x512 .bf16 := sq5 (k0_pay27 (usq5 (OWN4 A B c t)) (usq5 (Y4 A B (partner c) t)))

/-- `n` steps back along a direction of the ring. -/
def stp (b : Bool) (n : ℕ) (c : Dev nD) : Dev nD := (if b then right else left)^[n] c
/-- What arrives at ring hop `h` of slice `s`: the sum of the device `h + 1` steps back. -/
def RV (c : Dev nD) (h : Fin 3) (s : Fin 4) (b : Bool) : Vec F S1024x256 .bf16 := RED A B (stp b (h.val + 1) c) s

/-! ## What each transfer lends and hands over -/

/-- What the sender of a transfer lends. -/
def sent (c : Dev nD) : Xf → sProp 𝕄
  | .ys s => owns (c : Thread nD τ) (sl4 ysM s) fullShare (YS A B c s)
  | .ring 0 s false => owns (c : Thread nD τ) (sl4 redM s) fullShare.left.left (RED A B c s)
  | .ring 0 s true => owns (c : Thread nD τ) (sl4 redM s) fullShare.left.right (RED A B c s)
  | .ring 1 s b => owns (c : Thread nD τ) (sl43 (bufR b) s 0) fullShare.left (RV A B c 0 s b)
  | .ring 2 s b => owns (c : Thread nD τ) (sl43 (bufR b) s 1) fullShare.left (RV A B c 1 s b)
  | .y4 t => owns (c : Thread nD τ) (sl2 y4sM t) fullShare (Y4 A B c t)

/-- The slot a transfer fills, on the device that receives it, at any contents. -/
def slotOwn (c : Dev nD) : Xf → sProp 𝕄
  | .ys s => iprop(∃ X, owns (c : Thread nD τ) (sl4 yrM s) fullShare X)
  | .ring h s b => iprop(∃ X, owns (c : Thread nD τ) (sl43 (bufR b) s h) fullShare X)
  | .y4 t => iprop(∃ X, owns (c : Thread nD τ) (sl2 y4rM t) fullShare X)

/-- The slot filled. -/
def got (c : Dev nD) : Xf → sProp 𝕄
  | .ys s => owns (c : Thread nD τ) (sl4 yrM s) fullShare (YS A B (partner c) s)
  | .ring h s b => owns (c : Thread nD τ) (sl43 (bufR b) s h) fullShare (RV A B c h s b)
  | .y4 t => owns (c : Thread nD τ) (sl2 y4rM t) fullShare (Y4 A B (partner c) t)

/-- Which of the three signals a device receives hands it the slot a transfer of its fills: the signal from the
    transfer's receiver. -/
def barOf : Xf → Fin 3
  | .ys _ => 0
  | .ring _ _ false => 1
  | .ring _ _ true => 2
  | .y4 _ => 0

/-- What a due hands the device it is paid to: a signal the slots, on the device that signals, that this device's
    transfers fill; a transfer its slot filled. -/
def pay (c : Dev nD) : Due → sProp 𝕄
  | .bar i => bigSep Finset.univ fun d : Xf => if barOf d = i then slotOwn (tgtX c d) d else iprop(emp)
  | .xf d => got A B c d

/-- What a store into the result lends. -/
def lent (c : Dev nD) : Job → sProp 𝕄
  | .own s => owns (c : Thread nD τ) (sl4 redM s) fullShare.right (RED A B c s)
  | .ring 0 s b => owns (c : Thread nD τ) (sl43 (bufR b) s 0) fullShare.right (RV A B c 0 s b)
  | .ring 1 s b => owns (c : Thread nD τ) (sl43 (bufR b) s 1) fullShare.right (RV A B c 1 s b)
  | .ring 2 s b => owns (c : Thread nD τ) (sl43 (bufR b) s 2) fullShare (RV A B c 2 s b)
  | .far t => owns (c : Thread nD τ) (sl2 red4M t) fullShare (RED4 A B c t)
/-- The piece of the result a store fills, and its contents. -/
abbrev jpiece (c : Dev nD) (j : Job) : Memref sig .tc .hbm (jrect c j).shape .bf16 := outM.slice (jrect c j) (jrect_stride c j)
def jval (c : Dev nD) : (j : Job) → (jrect c j).shape.Idx → Elt F .bf16
  | .own s => RED A B c s
  | .ring h s false => RV A B c h s false
  | .ring h s true => RV A B c h s true
  | .far t => RED4 A B c t

theorem slotOwn_storable (c : Dev nD) (d : Xf) : BI.Storable (upEmb : UEmb _ 𝕄) (slotOwn (F := F) c d) := by
  unfold slotOwn; rcases d with s | ⟨h, s, b⟩ | t <;> infer_instance
instance pay_storable (c : Dev nD) (d : Due) : BI.Storable (upEmb : UEmb _ 𝕄) (pay A B c d) := by
  unfold pay got
  have := slotOwn_storable (F := F)
  rcases d with i | (s | ⟨h, s, b⟩ | t)
  · show BI.Storable upEmb (bigSep Finset.univ fun d : Xf => if barOf d = i then slotOwn (F := F) (tgtX c d) d else iprop(emp))
    have : ∀ d : Xf, BI.Storable (upEmb : UEmb _ 𝕄) (if barOf d = i then slotOwn (F := F) (tgtX c d) d else iprop(emp)) := fun d => by
      split <;> infer_instance
    infer_instance
  all_goals infer_instance
instance sent_storable (c : Dev nD) (d : Xf) : BI.Storable (upEmb : UEmb _ 𝕄) (sent A B c d) := by
  unfold sent
  split <;> infer_instance

/-! ## The schedule: one round; each cell's duties are the dues paid on it -/

def plan : Rounds.Schedule (GSem nD τ sig) Due 𝕄 where
  duties g r := if r = 0 ∧ g.1.2 = .tc then Finset.univ.filter (fun d => dsem d = g.2) else ∅
  unitless _ := False
  amount _ _ d := amt d
  payload g _ d := pay A B g.1.1 d
  amount_pos _ _ d _ := amt_pos d

instance plan_storable (g : GSem nD τ sig) (r : ℕ) (d : Due) : BI.Storable (upEmb : UEmb _ 𝕄) ((plan A B).payload g r d) :=
  pay_storable A B g.1.1 d

theorem duties_zero (c : Dev nD) (sm : SemLoc sig) :
    (plan A B).duties ((c : Thread nD τ), sm) 0 = Finset.univ.filter (fun d => dsem d = sm) := by
  dsimp only [plan]; exact if_pos ⟨rfl, rfl⟩
theorem duties_later (g : GSem nD τ sig) : ∀ r, 1 ≤ r → (plan A B).duties g r = ∅ :=
  fun r hr => by dsimp only [plan]; exact if_neg fun h => by omega
theorem duties_xf (c : Dev nD) (d : Xf) : (plan A B).duties ((c : Thread nD τ), .dma (rsem d)) 0 = {.xf d} := by
  rw [duties_zero]
  ext e
  rw [Finset.mem_filter, Finset.mem_singleton]
  constructor
  · rintro ⟨-, h⟩
    rcases e with i | e
    · cases h
    · rw [rsem_inj e d (by injection h)]
  · rintro rfl; exact ⟨Finset.mem_univ _, rfl⟩
theorem duties_bar (c : Dev nD) : (plan A B).duties ((c : Thread nD τ), .reg barS) 0 = {.bar 0, .bar 1, .bar 2} := by
  rw [duties_zero]
  ext e
  rw [Finset.mem_filter]
  rcases e with i | e
  · fin_cases i <;> simp [dsem]
  · simp [dsem]
theorem expect_xf (c : Dev nD) (d : Xf) : (plan A B).expect ((c : Thread nD τ), .dma (rsem d)) 0 = amt (.xf d) := by
  rw [Schedule.expect, duties_xf, Schedule.amountOf, Finset.sum_singleton]; rfl
theorem expect_bar (c : Dev nD) : (plan A B).expect ((c : Thread nD τ), .reg barS) 0 = 3 := by
  rw [Schedule.expect, duties_bar, Schedule.amountOf]; rfl

end Values

/-! ## What each core owes; the levels -/

/-- The cell a due is paid on, by device `c`. -/
abbrev dcell (c : Dev nD) (d : Due) : GSem nD τ sig := ((tgt c d : Thread nD τ), dsem d)
/-- What device `c` still owes once it has paid the first `n`. -/
def O (c : Dev nD) (n : ℕ) : CellTallies nD τ sig Unit := ∑ d ∈ Finset.univ.filter (fun d : Due => n ≤ ord d), tallyAt (dcell c d) () (amt d)

theorem O_pay (c : Dev nD) (d : Due) (n : ℕ) (hn : ord d = n) : O c n = O c (n + 1) + tallyAt (dcell c d) () (amt d) := by
  unfold O
  rw [show Finset.univ.filter (fun d : Due => n ≤ ord d) = insert d (Finset.univ.filter (fun d : Due => n + 1 ≤ ord d)) from ?_,
    Finset.sum_insert (by rw [Finset.mem_filter]; omega), add_comm]
  ext e
  rw [Finset.mem_insert, Finset.mem_filter, Finset.mem_filter]
  constructor
  · rintro ⟨-, h⟩
    rcases Nat.lt_or_ge n (ord e) with h' | h'
    · exact Or.inr ⟨Finset.mem_univ _, h'⟩
    · exact Or.inl (ord_inj e d (by omega))
  · rintro (rfl | ⟨-, h⟩)
    · exact ⟨Finset.mem_univ _, by omega⟩
    · exact ⟨Finset.mem_univ _, by omega⟩
theorem ord_lt : ∀ d : Due, ord d < 33 := by decide +kernel
theorem O_end (c : Dev nD) : O c 33 = 0 := by
  unfold O
  rw [Finset.filter_false_of_mem fun d _ => by have := ord_lt d; omega, Finset.sum_empty]

def L (g : GSem nD τ sig) : Finset Unit := if g.1.2 = .tc then {()} else ∅
/-- A semaphore's level: the place, in every device's order, of the due paid on it. -/
def lvS : SemLoc sig → ℕ
  | .reg _ => 3
  | .dma q => Finset.univ.sup fun d : Xf => if rsem d = q then ordX d + 1 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lvS_rsem : ∀ d : Xf, lvS (.dma (rsem d)) = ordX d + 1 := by decide +kernel
theorem lvS_ssem : ∀ d : Xf, lvS (.dma (ssem d)) = 0 := by decide +kernel
theorem lvS_lsem : ∀ i : Fin 7, lvS (.dma (lsem i)) = 0 := by decide +kernel

theorem O_support {c : Dev nD} {n : ℕ} {g : GSem nD τ sig} {u : Unit} (h : 0 < O c n g u) : ∃ d : Due, n ≤ ord d ∧ g = dcell c d := by
  by_contra hc
  have h0 : O c n g u = 0 := by
    unfold O
    rw [Finset.sum_apply, Finsupp.finset_sum_apply]
    refine Finset.sum_eq_zero fun d hd => ?_
    rw [tallyAt_apply, if_neg]
    rintro ⟨rfl, -⟩
    exact hc ⟨d, (Finset.mem_filter.mp hd).2, rfl⟩
  omega

/-- A wait on a semaphore of a level at most what has been paid is below everything still owed. -/
theorem mayWait (c : Dev nD) (n : ℕ) (hn : 3 ≤ n) (sm : SemLoc sig) (h : lvS sm ≤ n) :
    (levAts L lv : sProp 𝕄) ⊢ MayWait (c : Thread nD τ) sm () (O c n) :=
  MayOwe.of_cut (L := L) (lev := lv) n (fun p hp => by rw [Finset.mem_singleton.mp hp, L_tc]; exact Finset.mem_singleton_self _)
    (fun g u hg => by obtain ⟨d, -, rfl⟩ := O_support hg; exact Finset.mem_singleton_self _)
    (fun p hp => by rw [Finset.mem_singleton.mp hp]; exact h)
    (fun g u hg => by
      obtain ⟨d, hd, rfl⟩ := O_support hg
      rcases d with i | d
      · have : i.val < 3 := i.isLt
        have : n ≤ i.val := hd
        omega
      · show n < lvS (.dma (rsem d))
        rw [lvS_rsem]
        have : n ≤ ordX d := hd
        omega)

end Cert.Wgrad
-- ==== Proof.Steps.lean ====
/- One lemma per kind of step of the program: a load, a store, a local copy and its wait, a transfer to another
   device, the wait for one that arrives and for one that was sent, each on the bundles a device carries. -/
module

public import proofs.«01_k».proof.Proof.Plan
public import Idealize.ShloMosaic.Lib.Pipeline.Value

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A squeezed slot's elements are its rectangle's. -/
theorem slot_set {s s' : Shape} {e : EltTy} (m : Memref sig .tc .vmem s e) (r : Rect s) (hr : ∀ a, r.stride a = 1) (hq : r.shape.Squeezes s') :
    @Eq (Finset m.view.ty.Idx) ((m.slice r hr).squeeze s' hq).view.set (m.access r).set :=
  View.set_reshape (m.view.slice r) _

theorem ent_of_eq {P R : sProp (MT nD τ sig Unit (Elt F) ℕ UU ℕ)} (h : P = R) : P ⊢ R := h ▸ .rfl

/-- A squeezed slot's points-to is its rectangle's. -/
theorem slot_pt (c : Dev nD) {s s' : Shape} {e : EltTy} (m : Memref sig .tc .vmem s e) (r : Rect s) (hr : ∀ a, r.stride a = 1) (hq : r.shape.Squeezes s')
    (q : PosShare TreeShare) (f : m.view.ty.Contents (Elt F)) :
    (((m.slice r hr).squeeze s' hq).view.loc (c : Thread nD τ) ↦[((m.slice r hr).squeeze s' hq).view.set]{q} f : sProp (MT nD τ sig Unit (Elt F) ℕ UU ℕ))
      = ((m.access r).loc (c : Thread nD τ) ↦[(m.access r).set]{q} f) :=
  congrArg (fun S : Finset m.view.ty.Idx => (m.view.loc (c : Thread nD τ) ↦[S]{q} f : sProp (MT nD τ sig Unit (Elt F) ℕ UU ℕ))) (slot_set m r hr hq)

section Mem
variable (c : Dev nD) {α : Type} {Q : α → sProp (MT nD τ sig Unit (Elt F) ℕ UU ℕ)}

/-- A load through a memref owned at `X` reads `X` on its rectangle. -/
theorem wp_ld {s : Shape} {e : EltTy} {m : Memref sig .tc .vmem s e} {r : Rect s} {hl : m.view.LoadsAt r.toLoadRect}
    {k : (r.toLoadRect.shape.Idx → Elt F e) → Prog (TpuEff nD τ sig (Elt F) Λ₀ .tc) α} {q : PosShare TreeShare} {X : s.Idx → Elt F e} :
    (owns (c : Thread nD τ) m q X : sProp 𝕄)
      ⊢ iprop((owns (c : Thread nD τ) m q X -∗ wp frame (wpE (defs₀ (F := F)) 𝒱₀ (c : Thread nD τ) none) Set.univ (k (fun i => X (r.emb i))) Q)
        -∗ wp frame (wpE (defs₀ (F := F)) 𝒱₀ (c : Thread nD τ) none) Set.univ (.op (.load m r.toLoadRect hl) k) Q) := by
  unfold owns
  iintro ⟨%f, %hf, H⟩ Hk
  subst hf
  iapply (wp_load_rect 𝒱₀ (c : Thread nD τ) none Set.univ (m := m) (r := r) (View.set_slice_subset _ _)) $$ H
  iintro H
  iapply Hk
  iexists f
  isplitr; · ipureintro; rfl
  iexact H

/-- A load, through a memref, of a slot owned by itself: the slot's contents, in the load's shape. -/
theorem wp_lds {s s' : Shape} {e : EltTy} {m : Memref sig .tc .vmem s e} {r : Rect s} {hr : ∀ a, r.stride a = 1} {hq : r.shape.Squeezes s'}
    {hl : m.view.LoadsAt r.toLoadRect}
    {k : (r.toLoadRect.shape.Idx → Elt F e) → Prog (TpuEff nD τ sig (Elt F) Λ₀ .tc) α} {q : PosShare TreeShare} {X : s'.Idx → Elt F e}
    (hc : s'.ShapeCasts r.shape) :
    (owns (c : Thread nD τ) ((m.slice r hr).squeeze s' hq) q X : sProp 𝕄)
      ⊢ iprop((owns (c : Thread nD τ) ((m.slice r hr).squeeze s' hq) q X
            -∗ wp frame (wpE (defs₀ (F := F)) 𝒱₀ (c : Thread nD τ) none) Set.univ (k (shapeCast r.shape X hc)) Q)
        -∗ wp frame (wpE (defs₀ (F := F)) 𝒱₀ (c : Thread nD τ) none) Set.univ (.op (.load m r.toLoadRect hl) k) Q) := by
  unfold owns
  iintro ⟨%f, %hf, H⟩ Hk
  subst hf
  have hv : (m.access r).read (Elt F) f = shapeCast r.shape (((m.slice r hr).squeeze s' hq).view.read (Elt F) f) hc := by
    rw [Memref.read_squeeze_slice m r hr hq hc.symm f, shapeCast_shapeCast]
    rfl
  ihave H := (ent_of_eq (slot_pt c m r hr hq q f)) $$ H
  iapply (wp_load_rect 𝒱₀ (c : Thread nD τ) none Set.univ (m := m) (r := r) subset_rfl) $$ H
  iintro H
  ihave H := (ent_of_eq (slot_pt c m r hr hq q f).symm) $$ H
  rw [hv]
  iapply Hk
  iexists f
  isplitr; · ipureintro; rfl
  iexact H

/-- A store, through a memref, of a slot owned by itself. -/
theorem wp_sts {s s' : Shape} {e : EltTy} {m : Memref sig .tc .vmem s e} {r : Rect s} {hr : ∀ a, r.stride a = 1} {hq : r.shape.Squeezes s'}
    {w : r.shape.Idx → Elt F e} {hx : (m.access r).Stores Finset.univ} {hm : Finset.univ = Finset.univ ∨ ∀ a, r.stride a = 1}
    {k : PUnit → Prog (TpuEff nD τ sig (Elt F) Λ₀ .tc) α} (hc : r.shape.ShapeCasts s') :
    (iprop(∃ X, owns (c : Thread nD τ) ((m.slice r hr).squeeze s' hq) fullShare X) : sProp 𝕄)
      ⊢ iprop((owns (c : Thread nD τ) ((m.slice r hr).squeeze s' hq) fullShare (shapeCast s' w hc)
            -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%X, %f, -, H⟩ Hk
  ihave H := (ent_of_eq (slot_pt c m r hr hq fullShare f)) $$ H
  iapply (wp_store 𝒱₀ (c : Thread nD τ) none Set.univ (m := m) (r := r) (Mk := Finset.univ) (View.setOn_subset_set _ _)) $$ H
  iintro H
  ihave H := (ent_of_eq (slot_pt c m r hr hq fullShare ((m.access r).write (Elt F) f w Finset.univ)).symm) $$ H
  iapply Hk
  iexists ((m.access r).write (Elt F) f w Finset.univ)
  isplitr
  rotate_left
  · iexact H
  · ipureintro
    rw [Memref.read_squeeze_slice m r hr hq hc]
    exact congrArg (fun x => shapeCast s' x hc) (View.read_write_univ (v := m.access r) f w)

/-- A store through a rectangle of a memref, owned by itself. -/
theorem wp_st {s : Shape} {e : EltTy} {m : Memref sig .tc .vmem s e} {r : Rect s} {hr : ∀ a, r.stride a = 1}
    {w : r.shape.Idx → Elt F e} {hx : (m.access r).Stores Finset.univ} {hm : Finset.univ = Finset.univ ∨ ∀ a, r.stride a = 1}
    {k : PUnit → Prog (TpuEff nD τ sig (Elt F) Λ₀ .tc) α} :
    (iprop(∃ X, owns (c : Thread nD τ) (m.slice r hr) fullShare X) : sProp 𝕄)
      ⊢ iprop((owns (c : Thread nD τ) (m.slice r hr) fullShare w
            -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold owns
  iintro ⟨%X, %f, -, H⟩ Hk
  iapply (wp_store 𝒱₀ (c : Thread nD τ) none Set.univ (m := m) (r := r) (Mk := Finset.univ) (f := f) (View.setOn_subset_set _ _)) $$ H
  iintro H
  iapply Hk
  iexists _
  isplitr
  rotate_left
  · iexact H
  · ipureintro
    exact View.read_write_univ (v := m.access r) f w

/-- A local copy: what it will hand over, at its wait, is the destination holding the source's contents, and the source. -/
theorem wp_copy {sp sp' : Space} {s : Shape} {e : EltTy} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {k : PUnit → Prog (TpuEff nD τ sig (Elt F) Λ₀ .tc) α} {q : PosShare TreeShare} {X : s.Idx → Elt F e}
    (hN0 : 0 < dst.view.dmaCredit) :
    (iprop(owns (c : Thread nD τ) src q X ∗ (∃ Y, owns (c : Thread nD τ) dst fullShare Y) ∗ semVal ((c : Thread nD τ), SemLoc.dma sm) 0) : sProp (MT nD τ sig Unit (Elt F) ℕ UU ℕ))
      ⊢ iprop((Transfers.Flight EC (c : Thread nD τ) (.dma sm) () dst.view.dmaCredit
                iprop(owns (c : Thread nD τ) dst fullShare X ∗ owns (c : Thread nD τ) src q X)
              -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.here dst) (.dma sm) hsrc hdst hsem) k) Q) := by
  unfold owns
  iintro ⟨⟨%f, %hf, Hs⟩, ⟨%Y, %g, -, Hd⟩, Hv⟩ Hk
  iapply (Transfers.wp_dmaLocal EC 𝒱₀ (c : Thread nD τ) none (src := src) (dst := dst) (via := .same) () dst.view.dmaCredit rfl hN0 subset_rfl) $$ [Hs Hd Hv]
  · isplitl [Hs]; · iexact Hs
    isplitl [Hd]; · iexact Hd
    iexact Hv
  iintro HF
  iapply Hk
  iapply (Transfers.Flight_mono EC (c : Thread nD τ) ?_) $$ HF
  iintro ⟨Hd, Hs⟩
  isplitl [Hd]
  · iexists _
    isplitr
    rotate_left
    · iexact Hd
    · ipureintro
      rw [View.read_write_univ]
      exact hf
  · iexists f
    isplitr; · (ipureintro; exact hf)
    iexact Hs

end Mem

/-! ## What every device holds of the protocol for good -/

section Protocol
variable (A : Dev nD → Vec F S2048x2048 .f32) (B : Dev nD → Vec F S2048x8192 .f32)

/-- The cells of the protocol: a device's barrier, and the cell each transfer to it completes on. -/
abbrev CK : Type := Dev nD × Option Xf
def ckSem : Option Xf → SemLoc sig
  | none => .reg barS
  | some d => .dma (rsem d)
abbrev kcell (x : CK) : GSem nD τ sig := ((x.1 : Thread nD τ), ckSem x.2)

variable (K : CK → ℕ)

def Inv : sProp 𝕄 :=
  iprop(levAts L lv ∗ bigSep Finset.univ (fun x : CK => iprop(cellInv ER (plan A B) (K x) (kcell x) ∗ reached ER (kcell x) 0)))
instance : Persistent (Inv A B K) := by unfold Inv; infer_instance
theorem Inv_lev : Inv A B K ⊢ (levAts L lv : sProp 𝕄) := by
  unfold Inv
  iintro ⟨H, -⟩
  iexact H
theorem Inv_cell (x : CK) : Inv A B K ⊢ iprop(cellInv ER (plan A B) (K x) (kcell x) ∗ reached ER (kcell x) 0) := by
  have h : (bigSep Finset.univ (fun x : CK => iprop(cellInv ER (plan A B) (K x) (kcell x) ∗ reached ER (kcell x) 0)) : sProp 𝕄)
      ⊢ iprop(cellInv ER (plan A B) (K x) (kcell x) ∗ reached ER (kcell x) 0) := bigSep_elim (Finset.mem_univ x)
  unfold Inv
  iintro ⟨-, H⟩
  iapply h $$ H

/-! ## The bundles -/

/-- The place of a transfer in the order its sender waits for it to have left. -/
def swX : Xf → ℕ
  | .ys s => s.val
  | .y4 t => 4 + t.val
  | .ring h s b => 6 + 8 * h.val + 2 * s.val + (if b then 1 else 0)
theorem swX_inj : ∀ d e : Xf, swX d = swX e → d = e := by decide +kernel

/-- A transfer of device `c` before it is issued, in flight, and after its sender's wait. -/
def outp (c : Dev nD) (n k : ℕ) (d : Xf) : sProp 𝕄 :=
  if n ≤ ordX d then iprop(dutyTok ER (dcell c (.xf d)) 0 (.xf d) ∗ slotOwn (tgtX c d) d ∗ semVal ((c : Thread nD τ), .dma (ssem d)) 0)
  else if k ≤ swX d then Transfers.Flight EC (c : Thread nD τ) (.dma (ssem d)) () (amt (.xf d)) (sent A B c d)
  else iprop(sent A B c d ∗ semVal ((c : Thread nD τ), .dma (ssem d)) 0)
/-- Device `c` once it has paid `n` dues and waited for `k` of its transfers to leave. -/
def Ow (c : Dev nD) (n k : ℕ) : sProp 𝕄 :=
  iprop((∃ W, owes (c : Thread nD τ) (O c n) W) ∗ bigSep Finset.univ (outp A B c n k))

def inp (c : Dev nD) (m : ℕ) (d : Xf) : sProp 𝕄 :=
  if m ≤ wordX d then iprop(atPos ER ((c : Thread nD τ), .dma (rsem d)) 0 ∅ 0 ∗ cred (tallyAt ((c : Thread nD τ), .dma (rsem d)) () (amt (.xf d))))
  else semVal ((c : Thread nD τ), .dma (rsem d)) 0
/-- Device `c` once `m` of the transfers to it have been waited for. -/
def Rx (c : Dev nD) (m : ℕ) : sProp 𝕄 := bigSep Finset.univ (inp (F := F) c m)

variable {A B K}
variable (c : Dev nD) {α : Type} {Q : α → sProp (MT nD τ sig Unit (Elt F) ℕ UU ℕ)}

/-- A transfer to another device, issued. -/
theorem wp_xf (d : Xf) {n k : ℕ} (hn : ordX d = n) (hk : k ≤ swX d) {c' : Dev nD} (hc : c' = tgtX c d)
    {s : Shape} {e : EltTy} {src dst : Memref sig .tc .vmem s e} {q : PosShare TreeShare} {V : s.Idx → Elt F e}
    (hsent : sent A B c d = owns (c : Thread nD τ) src q V)
    (hslot : slotOwn (F := F) (tgtX c d) d = iprop(∃ X, owns (tgtX c d : Thread nD τ) dst fullShare X))
    (hgot : (owns (tgtX c d : Thread nD τ) dst fullShare V : sProp 𝕄) ⊢ got A B (tgtX c d) d)
    (hamt : dst.view.dmaCredit = amt (.xf d)) {ss rs : DmaSem sig} (hss : ss = ssem d) (hrs : rs = rsem d)
    {hsc : dst.view.ref.isScScratch = false} {hsrc : src.view.WordExact} {hdst : dst.view.WordExact}
    {hsem : DmaTarget.Typed (nD := nD) .vmem (.dma rs) (.remote (c' : Thread nD τ) dst (.dma ss) hsc)}
    {kk : PUnit → Prog (TpuEff nD τ sig (Elt F) Λ₀ .tc) α} :
    Inv A B K ⊢ iprop(Ow A B c n k -∗ sent A B c d
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.remote (c' : Thread nD τ) dst (.dma ss) hsc) (.dma rs) hsrc hdst hsem) kk) Q) := by
  subst hc hss hrs
  have hne : ∀ e : Xf, e ≠ d → outp A B c (n + 1) k e = outp A B c n k e := fun e he => by
    have : ordX e ≠ n := fun h => he (Due.xf.inj (ord_inj (.xf e) (.xf d) (h.trans hn.symm)))
    unfold outp
    by_cases h : n ≤ ordX e
    · rw [if_pos h, if_pos (by omega)]
    · rw [if_neg h, if_neg (by omega)]
  have h0 : outp A B c n k d = iprop(dutyTok ER (dcell c (.xf d)) 0 (.xf d) ∗ slotOwn (tgtX c d) d ∗ semVal ((c : Thread nD τ), .dma (ssem d)) 0) :=
    if_pos hn.ge
  have h1 : outp A B c (n + 1) k d = Transfers.Flight EC (c : Thread nD τ) (.dma (ssem d)) () (amt (.xf d)) (sent A B c d) := by
    unfold outp; rw [if_neg (by omega), if_pos hk]
  have hst := sent_storable A B c d
  unfold Ow
  iintro #HI ⟨⟨%W, HO⟩, Hb⟩ Hs Hk
  ihave #Hc := (Inv_cell A B K (tgtX c d, some d)) $$ HI
  icases Hc with ⟨#Hci, #Hr⟩
  ihave ⟨Hd, Hb⟩ := (bigSep_univ_update d hne) $$ Hb
  ihave ⟨Ht, Hsl, Hv⟩ := (ent_of_eq h0) $$ Hd
  ihave Hsl := (ent_of_eq hslot) $$ Hsl
  ihave Hs := (ent_of_eq hsent) $$ Hs
  unfold owns
  icases Hsl with ⟨%X, %fd, -, Hsl⟩
  icases Hs with ⟨%fs, %hfs, Hs⟩
  imod (Transfers.flight_alloc EC (amt_pos (.xf d)) (sent A B c d) (g := ((c : Thread nD τ), .dma (ssem d)))) $$ Hv with ⟨%γ, %δ, %κ, #Hinv, Hγ, Hδ⟩
  have hpay : (dst.view.loc (tgtX c d : Thread nD τ) ↦[dst.view.set]{fullShare} (dst.view.write (Elt F) fd (src.view.read (Elt F) fs) Finset.univ) : sProp 𝕄)
      ⊢ (plan A B).payload ((tgtX c d : Thread nD τ), .dma (rsem d)) 0 (.xf d) := by
    refine BIBase.Entails.trans ?_ hgot
    unfold owns
    iintro H
    iexists _
    isplitr
    rotate_left
    · iexact H
    · ipureintro
      rw [View.read_write_univ]
      exact hfs
  have hback : (src.view.loc (c : Thread nD τ) ↦[src.view.set]{q} fs : sProp 𝕄) ⊢ sent A B c d := by
    rw [hsent]
    unfold owns
    iintro H
    iexists fs
    isplitr; · (ipureintro; exact hfs)
    iexact H
  iapply (wp_enqueueDma_remote_pointsTo 𝒱₀ (c : Thread nD τ) none Set.univ () () (c' := (tgtX c d : Thread nD τ)) (src := src) (dst := dst) (sem := .dma (rsem d)) (O c (n + 1)) (amt (.xf d)) hamt
    (O_pay c (.xf d) n hn)) $$ [Hs Hsl HO] [Hγ] [Ht]
  · isplitl [Hs]; · iexact Hs
    isplitl [Hsl]; · iexact Hsl
    iexact HO
  · iapply (Transfers.creditUpdate_anti hback)
    iapply (Transfers.flight_creditUpdate EC (δ := δ))
    isplitr; · iexact Hinv
    iexact Hγ
  · iapply (Rounds.land_credit ER (plan A B) (κ := K (tgtX c d, some d)) (r := 0) (d := .xf d) (by rw [duties_xf]; exact Finset.mem_singleton_self _) hpay)
    isplitr; · iexact Hci
    isplitl [Ht]; · iexact Ht
    iexact Hr
  iintro ⟨Hcr, HO⟩
  iapply Hk
  isplitl [HO]; · iexists W; iexact HO
  iapply Hb
  iapply (ent_of_eq h1.symm)
  iapply (Transfers.flight_intro EC (c : Thread nD τ) (κ := κ))
  isplitr; · iexact Hinv
  isplitl [Hδ] <;> iassumption

/-- The wait for a transfer to the device: its slot filled. -/
theorem wp_rcv (d : Xf) {n k m : ℕ} (hm : wordX d = m) (hn : 3 ≤ n) (hl : ordX d + 1 ≤ n)
    {sp sp' : Space} {s s' : Shape} {e e' : EltTy} {src : Memref sig .tc sp s e} {dst : Memref sig .tc sp' s' e'} (hamt : dst.view.dmaCredit = amt (.xf d))
    {rs : DmaSem sig} (hrs : rs = rsem d) {hsrc : src.view.WordExact} {hdst : dst.view.WordExact}
    {kk : PUnit → Prog (TpuEff nD τ sig (Elt F) Λ₀ .tc) α} :
    Inv A B K ⊢ iprop(Ow A B c n k -∗ Rx c m
      -∗ (Ow A B c n k -∗ Rx c (m + 1) -∗ got A B c d -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 rs src dst hsrc hdst) kk) Q) := by
  subst hrs
  have hne : ∀ e : Xf, e ≠ d → inp (F := F) c (m + 1) e = inp c m e := fun e he => by
    have : wordX e ≠ m := fun h => he (wordX_inj e d (h.trans hm.symm))
    unfold inp
    by_cases h : m ≤ wordX e
    · rw [if_pos h, if_pos (by omega)]
    · rw [if_neg h, if_neg (by omega)]
  have h0 : inp (F := F) c m d = iprop(atPos ER ((c : Thread nD τ), .dma (rsem d)) 0 ∅ 0 ∗ cred (tallyAt ((c : Thread nD τ), .dma (rsem d)) () (amt (.xf d)))) :=
    if_pos hm.ge
  have h1 : inp (F := F) c (m + 1) d = semVal ((c : Thread nD τ), .dma (rsem d)) 0 := if_neg (by omega)
  have hp : bigSep ((plan A B).duties ((c : Thread nD τ), .dma (rsem d)) 0 \ ∅) (fun x => (plan A B).payload ((c : Thread nD τ), .dma (rsem d)) 0 x) = got A B c d := by
    rw [Finset.sdiff_empty, duties_xf, bigSep_singleton]; rfl
  unfold Ow
  iintro #HI ⟨⟨%W, HO⟩, Hb⟩ Hx Hk
  ihave #Hc := (Inv_cell A B K (c, some d)) $$ HI
  icases Hc with ⟨#Hci, -⟩
  unfold Rx
  ihave ⟨Hd, Hx⟩ := (bigSep_univ_update d hne) $$ Hx
  ihave ⟨Hat, Hcr⟩ := (ent_of_eq h0) $$ Hd
  iapply (Rounds.wp_wait_rest_token 𝒱₀ ER (plan A B) (c : Thread nD τ) none (κ := K (c, some d))
      (wpE_waitDma2_eq 𝒱₀ (c : Thread nD τ) none Set.univ) (Set.mem_univ _) () (O := O c n) (W := W) (R := 0) (m := 0) (T := ∅)
      (by rw [expect_xf, Nat.zero_add]; exact hamt)) $$ [Hcr HO Hat]
  · isplitr; · iexact Hci
    isplitl [Hcr]; · (rw [hamt]; iexact Hcr)
    isplitl [HO]; · iexact HO
    isplitr
    · iapply (mayWait c n hn (.dma (rsem d)) (by rw [lvS_rsem]; exact hl))
      iapply (Inv_lev A B K) $$ HI
    iexact Hat
  iintro ⟨HO, Hat, -, Hpay⟩
  ihave Hpay := (ent_of_eq hp) $$ Hpay
  imod (Rounds.cell_close ER (plan A B) (Set.mem_univ (K (c, some d))) (fun h => h) (R := 0 + 1) (duties_later A B ((c : Thread nD τ), .dma (rsem d)))) $$ [Hat] with Hz
  · isplitr; · iexact Hci
    iexact Hat
  ihave Hx := Hx $$ [Hz]
  · iapply (ent_of_eq h1.symm); iexact Hz
  iapply Hk $$ [HO Hb] Hx Hpay
  isplitl [HO]; · (iexists _; iexact HO)
  iexact Hb

/-- The wait for a transfer of the device's to have left; what it lent stays in the bundle. -/
theorem wp_snt (d : Xf) {n k : ℕ} (hk : swX d = k) (hn : 3 ≤ n) (hl : ordX d + 1 ≤ n)
    {sp sp' : Space} {s s' : Shape} {e e' : EltTy} {src : Memref sig .tc sp s e} {dst : Memref sig .tc sp' s' e'} (hamt : dst.view.dmaCredit = amt (.xf d))
    {rs : DmaSem sig} (hrs : rs = ssem d) {hsrc : src.view.WordExact} {hdst : dst.view.WordExact}
    {kk : PUnit → Prog (TpuEff nD τ sig (Elt F) Λ₀ .tc) α} :
    Inv A B K ⊢ iprop(Ow A B c n k
      -∗ (Ow A B c n (k + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 rs src dst hsrc hdst) kk) Q) := by
  subst hrs
  have hne : ∀ e : Xf, e ≠ d → outp A B c n (k + 1) e = outp A B c n k e := fun e he => by
    have : swX e ≠ k := fun h => he (swX_inj e d (h.trans hk.symm))
    unfold outp
    by_cases h : k ≤ swX e
    · rw [if_pos h, if_pos (show k + 1 ≤ swX e by omega)]
    · rw [if_neg h, if_neg (show ¬ k + 1 ≤ swX e by omega)]
  have h0 : outp A B c n k d = Transfers.Flight EC (c : Thread nD τ) (.dma (ssem d)) () (amt (.xf d)) (sent A B c d) := by
    unfold outp; rw [if_neg (by omega), if_pos hk.ge]
  have h1 : outp A B c n (k + 1) d = iprop(sent A B c d ∗ semVal ((c : Thread nD τ), .dma (ssem d)) 0) := by
    unfold outp; rw [if_neg (by omega), if_neg (by omega)]
  unfold Ow
  iintro #HI ⟨⟨%W, HO⟩, Hb⟩ Hk
  ihave ⟨Hd, Hb⟩ := (bigSep_univ_update d hne) $$ Hb
  ihave HF := (ent_of_eq h0) $$ Hd
  iapply (Transfers.wp_waitLocalO EC 𝒱₀ (c : Thread nD τ) none () hamt (O := O c n) (W := W)) $$ [HF HO]
  · isplitl [HF]; · iexact HF
    isplitl [HO]; · iexact HO
    iapply (mayWait c n hn (.dma (ssem d)) (by rw [lvS_ssem]; exact Nat.zero_le _))
    iapply (Inv_lev A B K) $$ HI
  iintro ⟨Hs, Hv, HO⟩
  iapply Hk
  isplitl [HO]; · (iexists _; iexact HO)
  iapply Hb
  iapply (ent_of_eq h1.symm)
  isplitl [Hs] <;> iassumption

/-- The wait for a local copy. -/
theorem wp_lw {n k : ℕ} (hn : 3 ≤ n) {sm : DmaSem sig} (hl : lvS (.dma sm) = 0)
    {sp sp' : Space} {s s' : Shape} {e e' : EltTy} {src : Memref sig .tc sp s e} {dst : Memref sig .tc sp' s' e'} {N : ℕ} (hamt : dst.view.dmaCredit = N)
    {D : sProp 𝕄} {hsrc : src.view.WordExact} {hdst : dst.view.WordExact} {kk : PUnit → Prog (TpuEff nD τ sig (Elt F) Λ₀ .tc) α} :
    Inv A B K ⊢ iprop(Ow A B c n k -∗ Transfers.Flight EC (c : Thread nD τ) (.dma sm) () N D
      -∗ (Ow A B c n k -∗ D -∗ semVal ((c : Thread nD τ), SemLoc.dma sm) 0
            -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) := by
  unfold Ow
  iintro #HI ⟨⟨%W, HO⟩, Hb⟩ HF Hk
  iapply (Transfers.wp_waitLocalO EC 𝒱₀ (c : Thread nD τ) none () hamt (O := O c n) (W := W)) $$ [HF HO]
  · isplitl [HF]; · iexact HF
    isplitl [HO]; · iexact HO
    iapply (mayWait c n hn (.dma sm) (by rw [hl]; exact Nat.zero_le _))
    iapply (Inv_lev A B K) $$ HI
  iintro ⟨Hs, Hv, HO⟩
  iapply Hk $$ [HO Hb] Hs Hv
  isplitl [HO]; · (iexists _; iexact HO)
  iexact Hb

/-! ## The stores into the result -/

variable (A B) in
/-- A piece of the result before its store is issued, while it is in flight, and after the wait for it. -/
def outj (c : Dev nD) (j k : ℕ) (x : Job) : sProp 𝕄 :=
  if j ≤ jord x then iprop(∃ X, owns (c : Thread nD τ) (jpiece c x) fullShare X)
  else if k ≤ jord x then iprop(emp)
  else iprop(owns (c : Thread nD τ) (jpiece c x) fullShare (jval A B c x) ∗ lent A B c x)
variable (A B) in
def Out (c : Dev nD) (j k : ℕ) : sProp 𝕄 := bigSep Finset.univ (outj A B c j k)
variable (A B) in
/-- A store in flight. -/
def Fly (c : Dev nD) (i : Fin 7) (x : Job) : sProp 𝕄 :=
  Transfers.Flight EC (c : Thread nD τ) (.dma (lsem i)) () (jpiece c x).view.dmaCredit
    iprop(owns (c : Thread nD τ) (jpiece c x) fullShare (jval A B c x) ∗ lent A B c x)

theorem wp_put (x : Job) (i : Fin 7) {j k : ℕ} (hj : jord x = j) (hk : k ≤ j)
    {src : Memref sig .tc .vmem (jrect c x).shape .bf16} {q : PosShare TreeShare}
    (hlent : lent A B c x = owns (c : Thread nD τ) src q (jval A B c x))
    (hN0 : 0 < (jpiece c x).view.dmaCredit) {sm : DmaSem sig} (hsm : sm = lsem i)
    {hsrc : src.view.WordExact} {hdst : (jpiece c x).view.WordExact} {hsem : DmaTarget.Typed (nD := nD) (τ := τ) (p := .tc) .vmem (.dma sm) (.here (jpiece c x))}
    {kk : PUnit → Prog (TpuEff nD τ sig (Elt F) Λ₀ .tc) α} :
    Out A B c j k ⊢ iprop(lent A B c x -∗ semVal ((c : Thread nD τ), SemLoc.dma (lsem i)) 0
      -∗ (Out A B c (j + 1) k -∗ Fly A B c i x -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma src (.here (jpiece c x)) (.dma sm) hsrc hdst hsem) kk) Q) := by
  subst hsm
  have hne : ∀ e : Job, e ≠ x → outj A B c (j + 1) k e = outj A B c j k e := fun e he => by
    have : jord e ≠ j := fun h => he (jord_inj e x (h.trans hj.symm))
    unfold outj
    by_cases h : j ≤ jord e
    · rw [if_pos h, if_pos (by omega)]
    · rw [if_neg h, if_neg (by omega)]
  have h0 : outj A B c j k x = iprop(∃ X, owns (c : Thread nD τ) (jpiece c x) fullShare X) := if_pos hj.ge
  have h1 : outj A B c (j + 1) k x = iprop(emp) := by
    unfold outj; rw [if_neg (by omega), if_pos (by omega)]
  iintro Hb Hs Hv Hk
  unfold Out
  ihave ⟨Hd, Hb⟩ := (bigSep_univ_update x hne) $$ Hb
  ihave Hd := (ent_of_eq h0) $$ Hd
  ihave Hs := (ent_of_eq hlent) $$ Hs
  iapply (Cert.Wgrad.wp_copy c hN0) $$ [Hs Hd Hv]
  · isplitl [Hs]; · iexact Hs
    isplitl [Hd]; · iexact Hd
    iexact Hv
  iintro HF
  iapply Hk $$ [Hb] [HF]
  · iapply Hb
    iapply (ent_of_eq h1.symm)
    iempintro
  · unfold Fly
    rw [hlent]
    iexact HF

theorem wp_putw (x : Job) (i : Fin 7) {n k j k' : ℕ} (hn : 3 ≤ n) (hk : jord x = k') (hj : k' < j)
    {sp sp' : Space} {s s' : Shape} {e e' : EltTy} {src : Memref sig .tc sp s e} {dst : Memref sig .tc sp' s' e'}
    (hamt : dst.view.dmaCredit = (jpiece c x).view.dmaCredit) {sm : DmaSem sig} (hsm : sm = lsem i)
    {hsrc : src.view.WordExact} {hdst : dst.view.WordExact} {kk : PUnit → Prog (TpuEff nD τ sig (Elt F) Λ₀ .tc) α} :
    Inv A B K ⊢ iprop(Ow A B c n k -∗ Out A B c j k' -∗ Fly A B c i x
      -∗ (Ow A B c n k -∗ Out A B c j (k' + 1) -∗ semVal ((c : Thread nD τ), SemLoc.dma (lsem i)) 0
            -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) := by
  subst hsm
  have hne : ∀ e : Job, e ≠ x → outj A B c j (k' + 1) e = outj A B c j k' e := fun e he => by
    have : jord e ≠ k' := fun h => he (jord_inj e x (h.trans hk.symm))
    unfold outj
    by_cases h : k' ≤ jord e
    · rw [if_pos h, if_pos (show k' + 1 ≤ jord e by omega)]
    · rw [if_neg h, if_neg (show ¬ k' + 1 ≤ jord e by omega)]
  have h0 : outj A B c j k' x = iprop(emp) := by unfold outj; rw [if_neg (by omega), if_pos (by omega)]
  have h1 : outj A B c j (k' + 1) x = iprop(owns (c : Thread nD τ) (jpiece c x) fullShare (jval A B c x) ∗ lent A B c x) := by
    unfold outj; rw [if_neg (by omega), if_neg (by omega)]
  iintro #HI HO Hb HF Hk
  unfold Fly
  iapply (wp_lw c hn (lvS_lsem i) hamt) $$ HI HO HF
  iintro HO Hp Hv
  unfold Out
  ihave ⟨-, Hb⟩ := (bigSep_univ_update x hne) $$ Hb
  iapply Hk $$ HO [Hb Hp] Hv
  iapply Hb
  iapply (ent_of_eq h1.symm)
  iexact Hp

end Protocol
end Cert.Wgrad
-- ==== Proof.Families.lean ====
/- The transfers by family, the devices they go to, and a part of the program on the region's operands. -/
module

public import proofs.«01_k».proof.Proof.Steps

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices the transfers go to -/

theorem dev4_eq : ∀ c : Dev nD, (⟨k0_dev4 c, k0_dev4_lt c⟩ : Dev nD) = partner c := by decide +kernel
theorem dev5_eq : ∀ c : Dev nD, (⟨k0_dev5 c, k0_dev5_lt c⟩ : Dev nD) = partner c := by decide +kernel
theorem dev6_eq : ∀ c : Dev nD, (⟨k0_dev6 c, k0_dev6_lt c⟩ : Dev nD) = partner c := by decide +kernel
theorem dev7_eq : ∀ c : Dev nD, (⟨k0_dev7 c, k0_dev7_lt c⟩ : Dev nD) = partner c := by decide +kernel
theorem dev8_eq : ∀ c : Dev nD, (⟨k0_dev8 c, k0_dev8_lt c⟩ : Dev nD) = right c := by decide +kernel
theorem dev9_eq : ∀ c : Dev nD, (⟨k0_dev9 c, k0_dev9_lt c⟩ : Dev nD) = left c := by decide +kernel
theorem dev10_eq : ∀ c : Dev nD, (⟨k0_dev10 c, k0_dev10_lt c⟩ : Dev nD) = right c := by decide +kernel
theorem dev11_eq : ∀ c : Dev nD, (⟨k0_dev11 c, k0_dev11_lt c⟩ : Dev nD) = left c := by decide +kernel
theorem dev12_eq : ∀ c : Dev nD, (⟨k0_dev12 c, k0_dev12_lt c⟩ : Dev nD) = right c := by decide +kernel
theorem dev13_eq : ∀ c : Dev nD, (⟨k0_dev13 c, k0_dev13_lt c⟩ : Dev nD) = left c := by decide +kernel
theorem dev14_eq : ∀ c : Dev nD, (⟨k0_dev14 c, k0_dev14_lt c⟩ : Dev nD) = right c := by decide +kernel
theorem dev15_eq : ∀ c : Dev nD, (⟨k0_dev15 c, k0_dev15_lt c⟩ : Dev nD) = left c := by decide +kernel
theorem dev16_eq : ∀ c : Dev nD, (⟨k0_dev16 c, k0_dev16_lt c⟩ : Dev nD) = right c := by decide +kernel
theorem dev17_eq : ∀ c : Dev nD, (⟨k0_dev17 c, k0_dev17_lt c⟩ : Dev nD) = left c := by decide +kernel
theorem dev18_eq : ∀ c : Dev nD, (⟨k0_dev18 c, k0_dev18_lt c⟩ : Dev nD) = right c := by decide +kernel
theorem dev19_eq : ∀ c : Dev nD, (⟨k0_dev19 c, k0_dev19_lt c⟩ : Dev nD) = left c := by decide +kernel
theorem dev20_eq : ∀ c : Dev nD, (⟨k0_dev20 c, k0_dev20_lt c⟩ : Dev nD) = right c := by decide +kernel
theorem dev21_eq : ∀ c : Dev nD, (⟨k0_dev21 c, k0_dev21_lt c⟩ : Dev nD) = left c := by decide +kernel
theorem dev22_eq : ∀ c : Dev nD, (⟨k0_dev22 c, k0_dev22_lt c⟩ : Dev nD) = right c := by decide +kernel
theorem dev23_eq : ∀ c : Dev nD, (⟨k0_dev23 c, k0_dev23_lt c⟩ : Dev nD) = left c := by decide +kernel
theorem dev24_eq : ∀ c : Dev nD, (⟨k0_dev24 c, k0_dev24_lt c⟩ : Dev nD) = partner c := by decide +kernel
theorem dev25_eq : ∀ c : Dev nD, (⟨k0_dev25 c, k0_dev25_lt c⟩ : Dev nD) = partner c := by decide +kernel
theorem dev26_eq : ∀ c : Dev nD, (⟨k0_dev26 c, k0_dev26_lt c⟩ : Dev nD) = right c := by decide +kernel
theorem dev27_eq : ∀ c : Dev nD, (⟨k0_dev27 c, k0_dev27_lt c⟩ : Dev nD) = left c := by decide +kernel
theorem dev28_eq : ∀ c : Dev nD, (⟨k0_dev28 c, k0_dev28_lt c⟩ : Dev nD) = right c := by decide +kernel
theorem dev29_eq : ∀ c : Dev nD, (⟨k0_dev29 c, k0_dev29_lt c⟩ : Dev nD) = left c := by decide +kernel
theorem dev30_eq : ∀ c : Dev nD, (⟨k0_dev30 c, k0_dev30_lt c⟩ : Dev nD) = right c := by decide +kernel
theorem dev31_eq : ∀ c : Dev nD, (⟨k0_dev31 c, k0_dev31_lt c⟩ : Dev nD) = left c := by decide +kernel
theorem dev32_eq : ∀ c : Dev nD, (⟨k0_dev32 c, k0_dev32_lt c⟩ : Dev nD) = right c := by decide +kernel
theorem dev33_eq : ∀ c : Dev nD, (⟨k0_dev33 c, k0_dev33_lt c⟩ : Dev nD) = left c := by decide +kernel

/-- A part of the program, on the region's operands. -/
abbrev at₀ {β : Type 1} (f : (a0 : Memref sig .tc .hbm S2048x2048 .f32) → a0.IsWhole → (a1 : Memref sig .tc .hbm S2048x8192 .f32) → a1.IsWhole → (a2 : Memref sig .tc .hbm S1024x8192 .bf16) → a2.IsWhole → (a3 : Memref sig .tc .vmem S2048x1024 .bf16) → a3.IsWhole → (a4 : Memref sig .tc .vmem S2048x1024 .bf16) → a4.IsWhole → (a5 : Memref sig .tc .vmem S2x1024x2048 .f32) → a5.IsWhole → (a6 : Memref sig .tc .vmem S2048x1024 .f32) → a6.IsWhole → (a7 : Memref sig .tc .vmem S4x1024x256 .bf16) → a7.IsWhole → (a8 : Memref sig .tc .vmem S4x1024x256 .bf16) → a8.IsWhole → (a9 : Memref sig .tc .vmem S4x1024x256 .bf16) → a9.IsWhole → (a10 : Memref sig .tc .vmem S4x3x1024x256 .bf16) → a10.IsWhole → (a11 : Memref sig .tc .vmem S4x3x1024x256 .bf16) → a11.IsWhole → (a12 : Memref sig .tc .vmem S2x1024x512 .bf16) → a12.IsWhole → (a13 : Memref sig .tc .vmem S2x1024x512 .bf16) → a13.IsWhole → (a14 : Memref sig .tc .vmem S2x1024x512 .bf16) → a14.IsWhole → DmaSems sig S3 → DmaSems sig S4 → DmaSems sig S4 → DmaSems sig S4 → DmaSems sig S2 → DmaSems sig S2 → DmaSems sig S12 → DmaSems sig S12 → DmaSems sig S12 → DmaSems sig S12 → β) : β :=
  f (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21

/-! ## The pieces of the operands that are loaded -/

theorem inba (t : Fin 2) : ∀ a : Fin 2, (![1024 * t.val, 0] : Fin 2 → ℕ) a + S1024x2048.size a ≤ S2048x2048.size a := by
  revert t; decide
abbrev a0M (t : Fin 2) : Memref sig .tc .hbm S1024x2048 .f32 :=
  arg0M.slice (Rect.unit (s := S2048x2048) ![1024 * t.val, 0] S1024x2048.size (inba t)) (fun _ => rfl)
abbrev a1M (c : Dev nD) : Memref sig .tc .hbm S2048x1024 .f32 :=
  arg1M.slice (Rect.unit (s := S2048x8192) (k0_off1 c) S2048x1024.size (k0_off1_inb c)) (fun _ => rfl)
abbrev a1fM (c : Dev nD) : Memref sig .tc .hbm S2048x1024 .f32 :=
  arg1M.slice (Rect.unit (s := S2048x8192) (k0_off2 c) S2048x1024.size (k0_off2_inb c)) (fun _ => rfl)

/-! ## What comes of the bundles' pieces -/

section
variable {A : Dev nD → Vec F S2048x2048 .f32} {B : Dev nD → Vec F S2048x8192 .f32} {K : CK → ℕ} (c : Dev nD)

/-- The sum of a slice, in the three shares its two transfers and its store take. -/
theorem red_split (s : Fin 4) : (owns (c : Thread nD τ) (sl4 redM s) fullShare (RED A B c s) : sProp 𝕄)
    ⊢ iprop(sent A B c (.ring 0 s false) ∗ sent A B c (.ring 0 s true) ∗ lent A B c (.own s)) := by
  iintro H
  ihave ⟨Hl, Hr⟩ := (owns_halves (c : Thread nD τ) (sl4 redM s) fullShare (RED A B c s)).1 $$ H
  ihave ⟨Hll, Hlr⟩ := (owns_halves (c : Thread nD τ) (sl4 redM s) fullShare.left (RED A B c s)).1 $$ Hl
  isplitl [Hll]; · iapply (ent_of_eq rfl : owns (c : Thread nD τ) (sl4 redM s) fullShare.left.left (RED A B c s) ⊢ sent A B c (.ring 0 s false)) $$ Hll
  isplitl [Hlr]; · iapply (ent_of_eq rfl : owns (c : Thread nD τ) (sl4 redM s) fullShare.left.right (RED A B c s) ⊢ sent A B c (.ring 0 s true)) $$ Hlr
  iapply (ent_of_eq rfl : owns (c : Thread nD τ) (sl4 redM s) fullShare.right (RED A B c s) ⊢ lent A B c (.own s)) $$ Hr
/-- What arrived, in the two shares the next hop and the store take. -/
theorem got_split0 (s : Fin 4) (b : Bool) : got A B c (.ring 0 s b) ⊢ iprop(sent A B c (.ring 1 s b) ∗ lent A B c (.ring 0 s b)) :=
  (owns_halves (c : Thread nD τ) (sl43 (bufR b) s 0) fullShare (RV A B c 0 s b)).1
theorem got_split1 (s : Fin 4) (b : Bool) : got A B c (.ring 1 s b) ⊢ iprop(sent A B c (.ring 2 s b) ∗ lent A B c (.ring 1 s b)) :=
  (owns_halves (c : Thread nD τ) (sl43 (bufR b) s 1) fullShare (RV A B c 1 s b)).1

theorem got_ys (s : Fin 4) : got A B c (.ys s) ⊢ owns (c : Thread nD τ) (sl4 yrM s) fullShare (YS A B (partner c) s) := .rfl
theorem got_y4 (t : Fin 2) : got A B c (.y4 t) ⊢ owns (c : Thread nD τ) (sl2 y4rM t) fullShare (Y4 A B (partner c) t) := .rfl

theorem credit43 (m : Memref sig .tc .vmem S4x3x1024x256 .bf16) (s : Fin 4) (h : Fin 3) : (sl43 m s h).view.dmaCredit = N256 := rfl

theorem lent_far (t : Fin 2) : owns (c : Thread nD τ) (sl2 red4M t) fullShare (RED4 A B c t) ⊢ lent A B c (.far t) := .rfl
theorem got_last (s : Fin 4) (b : Bool) : got A B c (.ring 2 s b) ⊢ lent A B c (.ring 2 s b) := .rfl

theorem stp_tgt (b : Bool) (n : ℕ) : stp b (n + 1) (tgtX c (.ring 0 0 b)) = stp b n c := by
  unfold stp
  cases b
  · show left^[n + 1] (right c) = left^[n] c
    rw [Function.iterate_succ_apply, left_right]
  · show right^[n + 1] (left c) = right^[n] c
    rw [Function.iterate_succ_apply, right_left]

variable {α : Type} {Q : α → sProp (MT nD τ sig Unit (Elt F) ℕ UU ℕ)}

/-- A product to the partner. -/
theorem wp_ys (s : Fin 4) {n k : ℕ} {c' : Dev nD} {ss rs : DmaSem sig}
    (h : ordX (.ys s) = n ∧ k ≤ swX (.ys s) ∧ c' = tgtX c (.ys s) ∧ ss = ssem (.ys s) ∧ rs = rsem (.ys s))
    {hsc : (sl4 yrM s).view.ref.isScScratch = false} {hsrc : (sl4 ysM s).view.WordExact} {hdst : (sl4 yrM s).view.WordExact}
    {hsem : DmaTarget.Typed (nD := nD) .vmem (.dma rs) (.remote (c' : Thread nD τ) (sl4 yrM s) (.dma ss) hsc)}
    {kk : PUnit → Prog (TpuEff nD τ sig (Elt F) Λ₀ .tc) α} :
    Inv A B K ⊢ iprop(Ow A B c n k -∗ owns (c : Thread nD τ) (sl4 ysM s) fullShare (YS A B c s)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl4 ysM s) (.remote (c' : Thread nD τ) (sl4 yrM s) (.dma ss) hsc) (.dma rs) hsrc hdst hsem) kk) Q) :=
  wp_xf c (.ys s) (src := sl4 ysM s) (dst := sl4 yrM s) (q := fullShare) (V := YS A B c s) h.1 h.2.1 h.2.2.1 rfl rfl (by unfold got; dsimp only [tgtX]; rw [partner_partner]) (rfl) h.2.2.2.1 h.2.2.2.2

/-- A product of the far chunk to the partner. -/
theorem wp_y4 (t : Fin 2) {n k : ℕ} {c' : Dev nD} {ss rs : DmaSem sig}
    (h : ordX (.y4 t) = n ∧ k ≤ swX (.y4 t) ∧ c' = tgtX c (.y4 t) ∧ ss = ssem (.y4 t) ∧ rs = rsem (.y4 t))
    {hsc : (sl2 y4rM t).view.ref.isScScratch = false} {hsrc : (sl2 y4sM t).view.WordExact} {hdst : (sl2 y4rM t).view.WordExact}
    {hsem : DmaTarget.Typed (nD := nD) .vmem (.dma rs) (.remote (c' : Thread nD τ) (sl2 y4rM t) (.dma ss) hsc)}
    {kk : PUnit → Prog (TpuEff nD τ sig (Elt F) Λ₀ .tc) α} :
    Inv A B K ⊢ iprop(Ow A B c n k -∗ owns (c : Thread nD τ) (sl2 y4sM t) fullShare (Y4 A B c t)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl2 y4sM t) (.remote (c' : Thread nD τ) (sl2 y4rM t) (.dma ss) hsc) (.dma rs) hsrc hdst hsem) kk) Q) :=
  wp_xf c (.y4 t) (src := sl2 y4sM t) (dst := sl2 y4rM t) (q := fullShare) (V := Y4 A B c t) h.1 h.2.1 h.2.2.1 rfl rfl (by unfold got; dsimp only [tgtX]; rw [partner_partner]) (rfl) h.2.2.2.1 h.2.2.2.2

/-- Hop 0 of the ring, right. -/
theorem wp_cw0 (s : Fin 4) {n k : ℕ} {c' : Dev nD} {ss rs : DmaSem sig}
    (h : ordX (.ring 0 s false) = n ∧ k ≤ swX (.ring 0 s false) ∧ c' = tgtX c (.ring 0 s false) ∧ ss = ssem (.ring 0 s false) ∧ rs = rsem (.ring 0 s false))
    {hsc : (sl43 cwM s 0).view.ref.isScScratch = false} {hsrc : (sl4 redM s).view.WordExact} {hdst : (sl43 cwM s 0).view.WordExact}
    {hsem : DmaTarget.Typed (nD := nD) .vmem (.dma rs) (.remote (c' : Thread nD τ) (sl43 cwM s 0) (.dma ss) hsc)}
    {kk : PUnit → Prog (TpuEff nD τ sig (Elt F) Λ₀ .tc) α} :
    Inv A B K ⊢ iprop(Ow A B c n k -∗ sent A B c (.ring 0 s false)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl4 redM s) (.remote (c' : Thread nD τ) (sl43 cwM s 0) (.dma ss) hsc) (.dma rs) hsrc hdst hsem) kk) Q) :=
  wp_xf c (.ring 0 s false) (src := sl4 redM s) (dst := sl43 cwM s 0) (q := fullShare.left.left) (V := RED A B c s) h.1 h.2.1 h.2.2.1 rfl rfl ((ent_of_eq (congrArg (fun x => (owns (tgtX c (.ring 0 s false) : Thread nD τ) (sl43 cwM s 0) fullShare (RED A B x s) : sProp (MT nD τ sig Unit (Elt F) ℕ UU ℕ))) (stp_tgt c false 0).symm))) (credit43 cwM s 0) h.2.2.2.1 h.2.2.2.2

/-- Hop 0 of the ring, left. -/
theorem wp_ccw0 (s : Fin 4) {n k : ℕ} {c' : Dev nD} {ss rs : DmaSem sig}
    (h : ordX (.ring 0 s true) = n ∧ k ≤ swX (.ring 0 s true) ∧ c' = tgtX c (.ring 0 s true) ∧ ss = ssem (.ring 0 s true) ∧ rs = rsem (.ring 0 s true))
    {hsc : (sl43 ccwM s 0).view.ref.isScScratch = false} {hsrc : (sl4 redM s).view.WordExact} {hdst : (sl43 ccwM s 0).view.WordExact}
    {hsem : DmaTarget.Typed (nD := nD) .vmem (.dma rs) (.remote (c' : Thread nD τ) (sl43 ccwM s 0) (.dma ss) hsc)}
    {kk : PUnit → Prog (TpuEff nD τ sig (Elt F) Λ₀ .tc) α} :
    Inv A B K ⊢ iprop(Ow A B c n k -∗ sent A B c (.ring 0 s true)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl4 redM s) (.remote (c' : Thread nD τ) (sl43 ccwM s 0) (.dma ss) hsc) (.dma rs) hsrc hdst hsem) kk) Q) :=
  wp_xf c (.ring 0 s true) (src := sl4 redM s) (dst := sl43 ccwM s 0) (q := fullShare.left.right) (V := RED A B c s) h.1 h.2.1 h.2.2.1 rfl rfl ((ent_of_eq (congrArg (fun x => (owns (tgtX c (.ring 0 s true) : Thread nD τ) (sl43 ccwM s 0) fullShare (RED A B x s) : sProp (MT nD τ sig Unit (Elt F) ℕ UU ℕ))) (stp_tgt c true 0).symm))) (credit43 ccwM s 0) h.2.2.2.1 h.2.2.2.2

/-- Hop 1 of the ring, right. -/
theorem wp_cw1 (s : Fin 4) {n k : ℕ} {c' : Dev nD} {ss rs : DmaSem sig}
    (h : ordX (.ring 1 s false) = n ∧ k ≤ swX (.ring 1 s false) ∧ c' = tgtX c (.ring 1 s false) ∧ ss = ssem (.ring 1 s false) ∧ rs = rsem (.ring 1 s false))
    {hsc : (sl43 cwM s 1).view.ref.isScScratch = false} {hsrc : (sl43 cwM s 0).view.WordExact} {hdst : (sl43 cwM s 1).view.WordExact}
    {hsem : DmaTarget.Typed (nD := nD) .vmem (.dma rs) (.remote (c' : Thread nD τ) (sl43 cwM s 1) (.dma ss) hsc)}
    {kk : PUnit → Prog (TpuEff nD τ sig (Elt F) Λ₀ .tc) α} :
    Inv A B K ⊢ iprop(Ow A B c n k -∗ sent A B c (.ring 1 s false)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl43 cwM s 0) (.remote (c' : Thread nD τ) (sl43 cwM s 1) (.dma ss) hsc) (.dma rs) hsrc hdst hsem) kk) Q) :=
  wp_xf c (.ring 1 s false) (src := sl43 cwM s 0) (dst := sl43 cwM s 1) (q := fullShare.left) (V := RV A B c 0 s false) h.1 h.2.1 h.2.2.1 rfl rfl ((ent_of_eq (congrArg (fun x => (owns (tgtX c (.ring 1 s false) : Thread nD τ) (sl43 cwM s 1) fullShare (RED A B x s) : sProp (MT nD τ sig Unit (Elt F) ℕ UU ℕ))) (stp_tgt c false 1).symm))) (credit43 cwM s 1) h.2.2.2.1 h.2.2.2.2

/-- Hop 1 of the ring, left. -/
theorem wp_ccw1 (s : Fin 4) {n k : ℕ} {c' : Dev nD} {ss rs : DmaSem sig}
    (h : ordX (.ring 1 s true) = n ∧ k ≤ swX (.ring 1 s true) ∧ c' = tgtX c (.ring 1 s true) ∧ ss = ssem (.ring 1 s true) ∧ rs = rsem (.ring 1 s true))
    {hsc : (sl43 ccwM s 1).view.ref.isScScratch = false} {hsrc : (sl43 ccwM s 0).view.WordExact} {hdst : (sl43 ccwM s 1).view.WordExact}
    {hsem : DmaTarget.Typed (nD := nD) .vmem (.dma rs) (.remote (c' : Thread nD τ) (sl43 ccwM s 1) (.dma ss) hsc)}
    {kk : PUnit → Prog (TpuEff nD τ sig (Elt F) Λ₀ .tc) α} :
    Inv A B K ⊢ iprop(Ow A B c n k -∗ sent A B c (.ring 1 s true)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl43 ccwM s 0) (.remote (c' : Thread nD τ) (sl43 ccwM s 1) (.dma ss) hsc) (.dma rs) hsrc hdst hsem) kk) Q) :=
  wp_xf c (.ring 1 s true) (src := sl43 ccwM s 0) (dst := sl43 ccwM s 1) (q := fullShare.left) (V := RV A B c 0 s true) h.1 h.2.1 h.2.2.1 rfl rfl ((ent_of_eq (congrArg (fun x => (owns (tgtX c (.ring 1 s true) : Thread nD τ) (sl43 ccwM s 1) fullShare (RED A B x s) : sProp (MT nD τ sig Unit (Elt F) ℕ UU ℕ))) (stp_tgt c true 1).symm))) (credit43 ccwM s 1) h.2.2.2.1 h.2.2.2.2

/-- Hop 2 of the ring, right. -/
theorem wp_cw2 (s : Fin 4) {n k : ℕ} {c' : Dev nD} {ss rs : DmaSem sig}
    (h : ordX (.ring 2 s false) = n ∧ k ≤ swX (.ring 2 s false) ∧ c' = tgtX c (.ring 2 s false) ∧ ss = ssem (.ring 2 s false) ∧ rs = rsem (.ring 2 s false))
    {hsc : (sl43 cwM s 2).view.ref.isScScratch = false} {hsrc : (sl43 cwM s 1).view.WordExact} {hdst : (sl43 cwM s 2).view.WordExact}
    {hsem : DmaTarget.Typed (nD := nD) .vmem (.dma rs) (.remote (c' : Thread nD τ) (sl43 cwM s 2) (.dma ss) hsc)}
    {kk : PUnit → Prog (TpuEff nD τ sig (Elt F) Λ₀ .tc) α} :
    Inv A B K ⊢ iprop(Ow A B c n k -∗ sent A B c (.ring 2 s false)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl43 cwM s 1) (.remote (c' : Thread nD τ) (sl43 cwM s 2) (.dma ss) hsc) (.dma rs) hsrc hdst hsem) kk) Q) :=
  wp_xf c (.ring 2 s false) (src := sl43 cwM s 1) (dst := sl43 cwM s 2) (q := fullShare.left) (V := RV A B c 1 s false) h.1 h.2.1 h.2.2.1 rfl rfl ((ent_of_eq (congrArg (fun x => (owns (tgtX c (.ring 2 s false) : Thread nD τ) (sl43 cwM s 2) fullShare (RED A B x s) : sProp (MT nD τ sig Unit (Elt F) ℕ UU ℕ))) (stp_tgt c false 2).symm))) (credit43 cwM s 2) h.2.2.2.1 h.2.2.2.2

/-- Hop 2 of the ring, left. -/
theorem wp_ccw2 (s : Fin 4) {n k : ℕ} {c' : Dev nD} {ss rs : DmaSem sig}
    (h : ordX (.ring 2 s true) = n ∧ k ≤ swX (.ring 2 s true) ∧ c' = tgtX c (.ring 2 s true) ∧ ss = ssem (.ring 2 s true) ∧ rs = rsem (.ring 2 s true))
    {hsc : (sl43 ccwM s 2).view.ref.isScScratch = false} {hsrc : (sl43 ccwM s 1).view.WordExact} {hdst : (sl43 ccwM s 2).view.WordExact}
    {hsem : DmaTarget.Typed (nD := nD) .vmem (.dma rs) (.remote (c' : Thread nD τ) (sl43 ccwM s 2) (.dma ss) hsc)}
    {kk : PUnit → Prog (TpuEff nD τ sig (Elt F) Λ₀ .tc) α} :
    Inv A B K ⊢ iprop(Ow A B c n k -∗ sent A B c (.ring 2 s true)
      -∗ (Ow A B c (n + 1) k -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (sl43 ccwM s 1) (.remote (c' : Thread nD τ) (sl43 ccwM s 2) (.dma ss) hsc) (.dma rs) hsrc hdst hsem) kk) Q) :=
  wp_xf c (.ring 2 s true) (src := sl43 ccwM s 1) (dst := sl43 ccwM s 2) (q := fullShare.left) (V := RV A B c 1 s true) h.1 h.2.1 h.2.2.1 rfl rfl ((ent_of_eq (congrArg (fun x => (owns (tgtX c (.ring 2 s true) : Thread nD τ) (sl43 ccwM s 2) fullShare (RED A B x s) : sProp (MT nD τ sig Unit (Elt F) ℕ UU ℕ))) (stp_tgt c true 2).symm))) (credit43 ccwM s 2) h.2.2.2.1 h.2.2.2.2

/-! ## The waits and the copies, their conditions together -/

variable {sp sp' : Space} {sh sh' : Shape} {e e' : EltTy} {src : Memref sig .tc sp sh e} {dst : Memref sig .tc sp' sh' e'} {sm : DmaSem sig}
  {hsrc : src.view.WordExact} {hdst : dst.view.WordExact} {kk : PUnit → Prog (TpuEff nD τ sig (Elt F) Λ₀ .tc) α} {n k m j : ℕ}

/-- The wait for a transfer to the device. -/
theorem rcv (d : Xf) (h : wordX d = m ∧ 3 ≤ n ∧ ordX d + 1 ≤ n ∧ dst.view.dmaCredit = amt (.xf d) ∧ sm = rsem d) :
    Inv A B K ⊢ iprop(Ow A B c n k -∗ Rx c m
      -∗ (Ow A B c n k -∗ Rx c (m + 1) -∗ got A B c d -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) :=
  wp_rcv c d h.1 h.2.1 h.2.2.1 h.2.2.2.1 h.2.2.2.2

/-- The wait for a transfer of the device's own. -/
theorem snt (d : Xf) (h : swX d = k ∧ 3 ≤ n ∧ ordX d + 1 ≤ n ∧ dst.view.dmaCredit = amt (.xf d) ∧ sm = ssem d) :
    Inv A B K ⊢ iprop(Ow A B c n k -∗ (Ow A B c n (k + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) :=
  wp_snt c d h.1 h.2.1 h.2.2.1 h.2.2.2.1 h.2.2.2.2

/-- A store of a slot, its new contents named. -/
theorem sts4 (m : Memref sig .tc .vmem S4x1024x256 .bf16) (s : Fin 4) (V : Vec F S1024x256 .bf16) {X : Vec F S1024x256 .bf16} {w : Vec F S1x1024x256 .bf16}
    {hx : (m.access (r4 s)).Stores Finset.univ} {hm : Finset.univ = Finset.univ ∨ ∀ a, (r4 s).stride a = 1} (h : sq w = V) :
    (owns (c : Thread nD τ) (sl4 m s) fullShare X : sProp (MT nD τ sig Unit (Elt F) ℕ UU ℕ))
      ⊢ iprop((owns (c : Thread nD τ) (sl4 m s) fullShare V -∗ wp frame (wpE (defs₀ (F := F)) 𝒱₀ (c : Thread nD τ) none) Set.univ (kk ⟨⟩) Q)
        -∗ wp frame (wpE (defs₀ (F := F)) 𝒱₀ (c : Thread nD τ) none) Set.univ (.op (.store m (r4 s) w Finset.univ hx hm) kk) Q) := by
  subst h
  iintro H Hk
  iapply (wp_sts c shapeCasts_S1x1024x256_S1024x256) $$ [H]
  · iexists _; iexact H
  iexact Hk

/-- A store of a slot, its new contents named. -/
theorem sts2 (m : Memref sig .tc .vmem S2x1024x512 .bf16) (s : Fin 2) (V : Vec F S1024x512 .bf16) {X : Vec F S1024x512 .bf16} {w : Vec F S1x1024x512 .bf16}
    {hx : (m.access (r2 s)).Stores Finset.univ} {hm : Finset.univ = Finset.univ ∨ ∀ a, (r2 s).stride a = 1} (h : sq5 w = V) :
    (owns (c : Thread nD τ) (sl2 m s) fullShare X : sProp (MT nD τ sig Unit (Elt F) ℕ UU ℕ))
      ⊢ iprop((owns (c : Thread nD τ) (sl2 m s) fullShare V -∗ wp frame (wpE (defs₀ (F := F)) 𝒱₀ (c : Thread nD τ) none) Set.univ (kk ⟨⟩) Q)
        -∗ wp frame (wpE (defs₀ (F := F)) 𝒱₀ (c : Thread nD τ) none) Set.univ (.op (.store m (r2 s) w Finset.univ hx hm) kk) Q) := by
  subst h
  iintro H Hk
  iapply (wp_sts c shapeCasts_S1x1024x512_S1024x512) $$ [H]
  · iexists _; iexact H
  iexact Hk

/-- A load in flight. -/
def Ldg (i : Fin 7) (N : ℕ) (D : sProp (MT nD τ sig Unit (Elt F) ℕ UU ℕ)) : sProp (MT nD τ sig Unit (Elt F) ℕ UU ℕ) :=
  Transfers.Flight EC (c : Thread nD τ) (.dma (lsem i)) () N D

/-- The wait for a load. -/
theorem lw (i : Fin 7) {N : ℕ} {D : sProp (MT nD τ sig Unit (Elt F) ℕ UU ℕ)} (h : 3 ≤ n ∧ dst.view.dmaCredit = N ∧ sm = lsem i) :
    Inv A B K ⊢ iprop(Ow A B c n k -∗ Ldg c i N D
      -∗ (Ow A B c n k -∗ D -∗ semVal ((c : Thread nD τ), SemLoc.dma (lsem i)) 0 -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) := by
  obtain ⟨hn, hN, rfl⟩ := h
  exact wp_lw c hn (lvS_lsem i) hN

/-- The wait for a store into the result. -/
theorem putw (x : Job) (i : Fin 7) {k' : ℕ} (h : 3 ≤ n ∧ jord x = k' ∧ k' < j ∧ dst.view.dmaCredit = (jpiece c x).view.dmaCredit ∧ sm = lsem i) :
    Inv A B K ⊢ iprop(Ow A B c n k -∗ Out A B c j k' -∗ Fly A B c i x
      -∗ (Ow A B c n k -∗ Out A B c j (k' + 1) -∗ semVal ((c : Thread nD τ), SemLoc.dma (lsem i)) 0 -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 sm src dst hsrc hdst) kk) Q) :=
  wp_putw c x i h.1 h.2.1 h.2.2.1 h.2.2.2.1 h.2.2.2.2

/-- A load, issued. -/
theorem ldg (i : Fin 7) {dst : Memref sig .tc sp' sh e} {hdst : dst.view.WordExact} {hsem : DmaTarget.Typed (nD := nD) (τ := τ) (p := .tc) sp (.dma sm) (.here dst)}
    {q : PosShare TreeShare} {X : sh.Idx → Elt F e} (h : 0 < dst.view.dmaCredit ∧ sm = lsem i) :
    (owns (c : Thread nD τ) src q X : sProp (MT nD τ sig Unit (Elt F) ℕ UU ℕ))
      ⊢ iprop((∃ Y, owns (c : Thread nD τ) dst fullShare Y) -∗ semVal ((c : Thread nD τ), SemLoc.dma (lsem i)) 0
        -∗ (Ldg c i dst.view.dmaCredit iprop(owns (c : Thread nD τ) dst fullShare X ∗ owns (c : Thread nD τ) src q X) -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma sm) hsrc hdst hsem) kk) Q) := by
  obtain ⟨hN, rfl⟩ := h
  unfold Ldg
  iintro Hs Hd Hv Hk
  iapply (Cert.Wgrad.wp_copy c hN) $$ [Hs Hd Hv]
  · isplitl [Hs]; · iexact Hs
    isplitl [Hd] <;> iassumption
  iexact Hk

theorem credit_pos (x : Job) : 0 < (jpiece c x).view.dmaCredit := by
  have h256 : 0 < S1024x256.numel := by decide
  have h512 : 0 < S1024x512.numel := by decide
  rcases x with s | ⟨h, s, _ | _⟩ | t
  · exact View.dmaCredit_pos _ h256
  · exact View.dmaCredit_pos _ h256
  · exact View.dmaCredit_pos _ h256
  · exact View.dmaCredit_pos _ h512

/-- A store into the result, issued. -/
theorem put (x : Job) (i : Fin 7) {src : Memref sig .tc .vmem (jrect c x).shape .bf16} {q : PosShare TreeShare} {hsrc : src.view.WordExact}
    {hdst : (jpiece c x).view.WordExact} {hsem : DmaTarget.Typed (nD := nD) (τ := τ) (p := .tc) .vmem (.dma sm) (.here (jpiece c x))}
    (h : jord x = j ∧ k ≤ j ∧ lent A B c x = owns (c : Thread nD τ) src q (jval A B c x) ∧ sm = lsem i) :
    Out A B c j k ⊢ iprop(lent A B c x -∗ semVal ((c : Thread nD τ), SemLoc.dma (lsem i)) 0
      -∗ (Out A B c (j + 1) k -∗ Fly A B c i x -∗ wp frame (wpE (defs₀ (F := F)) 𝒱₀ (c : Thread nD τ) none) Set.univ (kk ⟨⟩) Q)
      -∗ wp frame (wpE (defs₀ (F := F)) 𝒱₀ (c : Thread nD τ) none) Set.univ (.op (.enqueueDma src (.here (jpiece c x)) (.dma sm) hsrc hdst hsem) kk) Q) :=
  wp_put c x i h.1 h.2.1 h.2.2.1 (credit_pos c x) h.2.2.2
end
end Cert.Wgrad
-- ==== Proof.Start.lean ====
/- The start of a device's run: its rules for the barrier, and for stores of part of a buffer. -/
module

public import proofs.«01_k».proof.Proof.Families

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → Vec F S2048x2048 .f32} {B : Dev nD → Vec F S2048x8192 .f32} {K : CK → ℕ} (c : Dev nD)

variable {α : Type} {Q : α → sProp (MT nD τ sig Unit (Elt F) ℕ UU ℕ)} {kk : PUnit → Prog (TpuEff nD τ sig (Elt F) Λ₀ .tc) α}

theorem big_mono {I : Type} [Fintype I] [DecidableEq I] {Φ Ψ : I → sProp (MT nD τ sig Unit (Elt F) ℕ UU ℕ)} (h : ∀ i, Φ i ⊢ Ψ i) :
    bigSep Finset.univ Φ ⊢ bigSep Finset.univ Ψ := bigSep_mono fun i _ => h i

/-- A memref's rectangle taken out, to be given back. -/
theorem owns_lend {sp : Space} {sh : Shape} {e : EltTy} (m : Memref sig .tc sp sh e) (q : PosShare TreeShare) (r : Rect sh) (hr : ∀ a, r.stride a = 1)
    (X : sh.Idx → Elt F e) :
    (owns (c : Thread nD τ) m q X : sProp 𝕄)
      ⊢ iprop(owns (c : Thread nD τ) (m.slice r hr) q (fun i => X (r.emb i))
        ∗ (owns (c : Thread nD τ) (m.slice r hr) q (fun i => X (r.emb i)) -∗ owns (c : Thread nD τ) m q X)) := by
  iintro H
  ihave ⟨Hs, %f, %hf, Hr⟩ := (owns_slice_split (c : Thread nD τ) m q r hr X) $$ H
  isplitl [Hs]; · iexact Hs
  iintro Hs
  ihave H := (owns_slice_join (c : Thread nD τ) m q r hr (fun i => X (r.emb i)) f) $$ [Hs Hr]
  · isplitl [Hs] <;> iassumption
  have h : r.overlay (m.view.read (Elt F) f) (fun i => X (r.emb i)) = X := by
    funext j
    by_cases hj : j ∈ r.set
    · obtain ⟨i, rfl⟩ := r.exists_idx_of_mem hj
      exact r.overlay_emb (m.view.read (Elt F) f) (fun i => X (r.emb i)) i
    · rw [r.overlay_of_not_mem _ _ hj, hf]
  iapply (ent_of_eq (congrArg (fun Y => owns (c : Thread nD τ) m q Y) h)) $$ H

/-- A store of a rectangle of a memref owned whole. -/
theorem wp_sto {sh : Shape} {e : EltTy} {m : Memref sig .tc .vmem sh e} {r : Rect sh} (hr : ∀ a, r.stride a = 1)
    {w : r.shape.Idx → Elt F e} {hx : (m.access r).Stores Finset.univ} {hm : Finset.univ = Finset.univ ∨ ∀ a, r.stride a = 1} {X : sh.Idx → Elt F e} :
    (owns (c : Thread nD τ) m fullShare X : sProp 𝕄)
      ⊢ iprop((owns (c : Thread nD τ) m fullShare (r.overlay X w) -∗ wp frame (wpE (defs₀ (F := F)) 𝒱₀ (c : Thread nD τ) none) Set.univ (kk ⟨⟩) Q)
        -∗ wp frame (wpE (defs₀ (F := F)) 𝒱₀ (c : Thread nD τ) none) Set.univ (.op (.store m r w Finset.univ hx hm) kk) Q) := by
  iintro H Hk
  ihave ⟨Hs, %f, %hf, Hr⟩ := (owns_slice_split (c : Thread nD τ) m fullShare r hr X) $$ H
  iapply (wp_st c (hr := hr)) $$ [Hs]
  · iexists _; iexact Hs
  iintro Hs
  ihave H := (owns_slice_join (c : Thread nD τ) m fullShare r hr w f) $$ [Hs Hr]
  · isplitl [Hs] <;> iassumption
  iapply Hk
  iapply (ent_of_eq (congrArg (fun Y => owns (c : Thread nD τ) m fullShare (r.overlay Y w)) hf)) $$ H

/-! ## The barrier -/

/-- What a device's signal hands over: its slots that the transfers of the signal's receiver fill. -/
def mine (c : Dev nD) (i : Fin 3) : sProp (MT nD τ sig Unit (Elt F) ℕ UU ℕ) :=
  bigSep Finset.univ fun d : Xf => if barOf d = i then slotOwn c d else iprop(emp)

theorem tgtX_tgt : ∀ (c : Dev nD) (d : Xf), tgtX (tgt c (.bar (barOf d))) d = c := by decide +kernel

theorem mine_pay (i : Fin 3) : mine (F := F) c i = pay A B (tgt c (.bar i)) (.bar i) := by
  unfold mine pay
  congr 1
  funext d
  by_cases h : barOf d = i
  · rw [if_pos h, if_pos h]
    subst h
    rw [tgtX_tgt]
  · rw [if_neg h, if_neg h]

theorem wp_sig (i : Fin 3) {c' : Dev nD} {k' : ℤ} {n n' : ℕ} (h : i.val = n ∧ n + 1 = n' ∧ c' = tgt c (.bar i) ∧ k' = (1 : ℕ)) :
    Inv A B K ⊢ iprop((∃ W, owes (c : Thread nD τ) (O c n) W) -∗ dutyTok ER (dcell c (.bar i)) 0 (.bar i) -∗ mine c i
      -∗ ((∃ W, owes (c : Thread nD τ) (O c n') W) -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (c' : Thread nD τ) barS k') kk) Q) := by
  obtain ⟨rfl, rfl, rfl, rfl⟩ := h
  have hd : Due.bar i ∈ (plan A B).duties (dcell c (.bar i)) 0 := by
    rw [show (dcell c (.bar i) : GSem nD τ sig) = ((tgt c (.bar i) : Thread nD τ), .reg barS) from rfl, duties_bar]
    revert i; decide
  have hmp : mine (F := F) c i ⊢ (plan A B).payload ((tgt c (.bar i) : Thread nD τ), SemLoc.reg barS) 0 (.bar i) := ent_of_eq (mine_pay (A := A) (B := B) c i)
  iintro #HI ⟨%W, HO⟩ Ht Hm Hk
  ihave #Hc := (Inv_cell A B K (tgt c (.bar i), none)) $$ HI
  icases Hc with ⟨#Hci, #Hrc⟩
  iapply (Rounds.wp_signal 𝒱₀ ER (plan A B) (c : Thread nD τ) none (dst := (tgt c (.bar i) : Thread nD τ)) (κ := K (tgt c (.bar i), none))
      (d := .bar i) hd rfl () (O c (i.val + 1)) (O_pay c (.bar i) i.val rfl)) $$ [HO Ht Hm]
  · isplitr; · iexact Hci
    isplitl [HO]; · iexact HO
    isplitl [Ht]; · iexact Ht
    isplitl [Hm]; · iapply (hmp) $$ Hm
    iexact Hrc
  iintro HO
  iapply Hk
  iexists W; iexact HO

/-- The three payloads of the barrier: a slot for every transfer. -/
theorem pays_slots : iprop(pay A B c (.bar 0) ∗ pay A B c (.bar 1) ∗ pay A B c (.bar 2)) ⊢ (bigSep Finset.univ fun d : Xf => slotOwn (F := F) (tgtX c d) d : sProp 𝕄) := by
  have hd : ∀ d : Xf, iprop((if barOf d = 0 then slotOwn (F := F) (tgtX c d) d else iprop(emp)) ∗ (if barOf d = 1 then slotOwn (F := F) (tgtX c d) d else iprop(emp))
      ∗ (if barOf d = 2 then slotOwn (F := F) (tgtX c d) d else iprop(emp))) ⊢ slotOwn (F := F) (tgtX c d) d := fun d => by
    rcases (show barOf d = 0 ∨ barOf d = 1 ∨ barOf d = 2 by revert d; decide) with h | h | h
    · rw [if_pos h]; iintro ⟨H, -⟩; iexact H
    · rw [if_pos h]; iintro ⟨-, H, -⟩; iexact H
    · rw [if_pos h]; iintro ⟨-, -, H⟩; iexact H
  unfold pay
  iintro ⟨H0, H1, H2⟩
  ihave H := (ent_of_eq (bigSep_sep' Finset.univ (fun d : Xf => if barOf d = 1 then slotOwn (F := F) (tgtX c d) d else iprop(emp)) (fun d : Xf => if barOf d = 2 then slotOwn (F := F) (tgtX c d) d else iprop(emp))).symm) $$ [H1 H2]
  · isplitl [H1] <;> iassumption
  ihave H := (ent_of_eq (bigSep_sep' Finset.univ (fun d : Xf => if barOf d = 0 then slotOwn (F := F) (tgtX c d) d else iprop(emp)) _).symm) $$ [H0 H]
  · isplitl [H0] <;> iassumption
  iapply (big_mono hd) $$ H

theorem wp_bar {k' : ℤ} (h : k' = (3 : ℕ)) :
    Inv A B K ⊢ iprop((∃ W, owes (c : Thread nD τ) (O c 3) W) -∗ atPos ER ((c : Thread nD τ), .reg barS) 0 ∅ 0
      -∗ cred (tallyAt ((c : Thread nD τ), .reg barS) () 3)
      -∗ bigSep Finset.univ (fun d : Xf => iprop(dutyTok ER (dcell c (.xf d)) 0 (.xf d) ∗ semVal ((c : Thread nD τ), .dma (ssem d)) 0))
      -∗ (Ow A B c 3 0 -∗ semVal ((c : Thread nD τ), .reg barS) 0 -∗ wp frame (wpE (defs₀ (F := F)) 𝒱₀ (c : Thread nD τ) none) Set.univ (kk ⟨⟩) Q)
      -∗ wp frame (wpE (defs₀ (F := F)) 𝒱₀ (c : Thread nD τ) none) Set.univ (.op (.semWait barS k') kk) Q) := by
  subst h
  have hp : bigSep ((plan A B).duties ((c : Thread nD τ), .reg barS) 0 \ ∅) (fun x => (plan A B).payload ((c : Thread nD τ), .reg barS) 0 x)
      = iprop(pay A B c (.bar 0) ∗ pay A B c (.bar 1) ∗ pay A B c (.bar 2)) := by
    rw [Finset.sdiff_empty, duties_bar, BI.bigSep_insert (by decide), BI.bigSep_insert (by decide), bigSep_singleton]; rfl
  have ho : ∀ d : Xf, iprop(slotOwn (F := F) (tgtX c d) d ∗ dutyTok ER (dcell c (.xf d)) 0 (.xf d) ∗ semVal ((c : Thread nD τ), .dma (ssem d)) 0) ⊢ outp A B c 3 0 d := fun d => by
    unfold outp
    rw [if_pos (show 3 ≤ ordX d by revert d; decide +kernel)]
    iintro ⟨H1, H2, H3⟩
    isplitl [H2]; · iexact H2
    isplitl [H1] <;> iassumption
  iintro #HI ⟨%W, HO⟩ Hat Hcr Hb Hk
  ihave #Hc := (Inv_cell A B K (c, none)) $$ HI
  icases Hc with ⟨#Hci, -⟩
  iapply (Rounds.wp_wait_rest_token 𝒱₀ ER (plan A B) (c : Thread nD τ) none (κ := K (c, none))
      (wpE_semWait_eq 𝒱₀ (c : Thread nD τ) none Set.univ) (Set.mem_univ _) () (O := O c 3) (W := W) (R := 0) (m := 0) (T := ∅)
      (by rw [expect_bar])) $$ [Hcr HO Hat]
  · isplitr; · iexact Hci
    isplitl [Hcr]; · iexact Hcr
    isplitl [HO]; · iexact HO
    isplitr
    · iapply (mayWait c 3 le_rfl (.reg barS) (by decide))
      iapply (Inv_lev A B K) $$ HI
    iexact Hat
  iintro ⟨HO, Hat, -, Hpay⟩
  ihave Hpay := (ent_of_eq hp) $$ Hpay
  ihave Hsl := (pays_slots c) $$ Hpay
  imod (Rounds.cell_close ER (plan A B) (Set.mem_univ (K (c, none))) (fun h => h) (R := 0 + 1) (duties_later A B ((c : Thread nD τ), .reg barS))) $$ [Hat] with Hz
  · isplitr; · iexact Hci
    iexact Hat
  iapply Hk $$ [HO Hsl Hb] Hz
  unfold Ow
  isplitl [HO]; · (iexists _; iexact HO)
  ihave H := (ent_of_eq (bigSep_sep' Finset.univ (fun d : Xf => slotOwn (F := F) (tgtX c d) d) _).symm) $$ [Hsl Hb]
  · isplitl [Hsl] <;> iassumption
  iapply (big_mono ho) $$ H

/-! ## The halves of `x` a device keeps and sends, stored in two pieces of rows -/

/-- Rows `1024 t ...` of a device's block of `x`. -/
abbrev AX (A : Dev nD → Vec F S2048x2048 .f32) (c : Dev nD) (t : Fin 2) : Vec F S1024x2048 .f32 := fun i =>
  A c ((Rect.unit (s := S2048x2048) ![1024 * t.val, 0] S1024x2048.size (inba t)).emb i)

theorem inbr (t : Fin 2) : ∀ a : Fin 2, (![1024 * t.val, 0] : Fin 2 → ℕ) a + S1024x1024.size a ≤ S2048x1024.size a := by
  revert t; decide
abbrev rr (t : Fin 2) : Rect S2048x1024 := Rect.unit (s := S2048x1024) ![1024 * t.val, 0] S1024x1024.size (inbr t)

theorem rows_full {X Y : Vec F S2048x1024 .bf16} {w0 w1 : Vec F S1024x1024 .bf16} (h0 : ∀ i, w0 i = Y ((rr 0).emb i)) (h1 : ∀ i, w1 i = Y ((rr 1).emb i)) :
    (rr 1).overlay ((rr 0).overlay X w0) w1 = Y := by
  funext j
  by_cases hj : j ∈ (rr 1).set
  · obtain ⟨i, rfl⟩ := (rr 1).exists_idx_of_mem hj
    exact ((rr 1).overlay_emb _ w1 i).trans (h1 i)
  · rw [Rect.overlay_of_not_mem _ _ _ hj]
    by_cases hj' : j ∈ (rr 0).set
    · obtain ⟨i, rfl⟩ := (rr 0).exists_idx_of_mem hj'
      exact ((rr 0).overlay_emb _ w0 i).trans (h0 i)
    · exfalso
      have hcov : ∀ t : Fin 2, j ∉ (rr t).set → ¬ ((j 0).val / 1024 = t.val) := fun t h hh => h (by
        have h0 : (j 0).val < 2048 := (j 0).isLt
        have h1 : (j 1).val < 1024 := (j 1).isLt
        refine (Rect.mem_set_unit (s := S2048x1024)).mpr fun a => ?_
        match a with
        | ⟨0, _⟩ => show 1024 * t.val ≤ (j 0).val ∧ (j 0).val < 1024 * t.val + 1024; omega
        | ⟨1, _⟩ => show 0 ≤ (j 1).val ∧ (j 1).val < 0 + 1024; omega)
      have h0 : (j 0).val < 2048 := (j 0).isLt
      have ha := hcov 0 hj'
      have hb := hcov 1 hj
      have : (0 : Fin 2).val = 0 := rfl
      have : (1 : Fin 2).val = 1 := rfl
      omega

theorem shapeCasts_S1024x2048_S1x1024x2048 : S1024x2048.ShapeCasts S1x1024x2048 := by decide

theorem pay1_at (t : Fin 2) (i : S1024x1024.Idx) (Y : Vec F S2048x1024 .bf16) (o : ℕ) (ho : o + 1024 ≤ 2048)
    (hY : ∀ j : S2048x1024.Idx, Y j = FloatOps.truncf .bf16 bitsLt_bf16_f32 (A c (fun a => match a with
      | ⟨0, _⟩ => (j 0 : Fin 2048)
      | ⟨1, _⟩ => ⟨(j 1).val + o, by have : (j 1).val < 1024 := (j 1).isLt; show _ < 2048; omega⟩)))
    (hs : S1024x2048.Slices ![0, o] S1024x1024) :
    truncf .bf16 (extractStridedSlice S1024x1024 ![0, o] (AX A c t) hs) bitsLt_bf16_f32 i = Y ((rr t).emb i) := by
  rw [hY]
  refine congrArg (FloatOps.truncf .bf16 bitsLt_bf16_f32) (congrArg (A c) (funext fun a => Fin.ext ?_))
  match a with
  | ⟨0, _⟩ => show 1024 * t.val + 1 * (0 + (i 0).val) = 1024 * t.val + 1 * (i 0).val; omega
  | ⟨1, _⟩ => show 0 + 1 * (o + (i 1).val) = 0 + 1 * (i 1).val + o; omega

theorem pay1_eq (v : Vec F S1024x2048 .f32) : k0_pay1 (shapeCast S1x1024x2048 v shapeCasts_S1024x2048_S1x1024x2048)
    = truncf .bf16 (extractStridedSlice S1024x1024 ![0, 1024] v slices_S1024x2048_o0_1024_S1024x1024) bitsLt_bf16_f32 := by
  unfold k0_pay1
  simp only [shapeCast_self, shapeCast_shapeCast]
theorem pay3_eq (v : Vec F S1024x2048 .f32) : k0_pay3 (shapeCast S1x1024x2048 v shapeCasts_S1024x2048_S1x1024x2048)
    = truncf .bf16 (extractStridedSlice S1024x1024 ![0, 0] v slices_S1024x2048_o0_0_S1024x1024) bitsLt_bf16_f32 := by
  unfold k0_pay3
  simp only [shapeCast_self, shapeCast_shapeCast]

theorem row_lt (c : Dev nD) : row c < 2 := Nat.mod_lt _ (by decide)

/-- The columns of the partner's half are the second ones at row 0 and the first ones at row 1; those of the own half the others. -/
theorem xp0 (h : row c = 0) (t : Fin 2) (i : S1024x1024.Idx) : k0_pay1 (shapeCast S1x1024x2048 (AX A c t) shapeCasts_S1024x2048_S1x1024x2048) i = XP A c ((rr t).emb i) := by
  rw [pay1_eq]
  refine pay1_at c t i _ 1024 (by decide) (fun j => ?_) _
  refine congrArg (FloatOps.truncf .bf16 bitsLt_bf16_f32) (congrArg (A c) (funext fun a => Fin.ext ?_))
  match a with
  | ⟨0, _⟩ => rfl
  | ⟨1, _⟩ => show (j 1).val + 1024 * (1 - row c) = (j 1).val + 1024; omega
theorem xp1 (h : row c ≠ 0) (t : Fin 2) (i : S1024x1024.Idx) : k0_pay3 (shapeCast S1x1024x2048 (AX A c t) shapeCasts_S1024x2048_S1x1024x2048) i = XP A c ((rr t).emb i) := by
  rw [pay3_eq]
  refine pay1_at c t i _ 0 (by decide) (fun j => ?_) _
  refine congrArg (FloatOps.truncf .bf16 bitsLt_bf16_f32) (congrArg (A c) (funext fun a => Fin.ext ?_))
  match a with
  | ⟨0, _⟩ => rfl
  | ⟨1, _⟩ => show (j 1).val + 1024 * (1 - row c) = (j 1).val + 0; omega
theorem xm0 (h : row c = 0) (t : Fin 2) (i : S1024x1024.Idx) : k0_pay3 (shapeCast S1x1024x2048 (AX A c t) shapeCasts_S1024x2048_S1x1024x2048) i = XM A c ((rr t).emb i) := by
  rw [pay3_eq]
  refine pay1_at c t i _ 0 (by decide) (fun j => ?_) _
  refine congrArg (FloatOps.truncf .bf16 bitsLt_bf16_f32) (congrArg (A c) (funext fun a => Fin.ext ?_))
  match a with
  | ⟨0, _⟩ => rfl
  | ⟨1, _⟩ => show (j 1).val + 1024 * (row c) = (j 1).val + 0; omega
theorem xm1 (h : row c ≠ 0) (t : Fin 2) (i : S1024x1024.Idx) : k0_pay1 (shapeCast S1x1024x2048 (AX A c t) shapeCasts_S1024x2048_S1x1024x2048) i = XM A c ((rr t).emb i) := by
  rw [pay1_eq]
  refine pay1_at c t i _ 1024 (by decide) (fun j => ?_) _
  refine congrArg (FloatOps.truncf .bf16 bitsLt_bf16_f32) (congrArg (A c) (funext fun a => Fin.ext ?_))
  have := row_lt c
  match a with
  | ⟨0, _⟩ => rfl
  | ⟨1, _⟩ => show (j 1).val + 1024 * (row c) = (j 1).val + 1024; omega

theorem cmp_row (c : Dev nD) : (row c = 0 → Scalar.cmpi .ne (Scalar.extui (Scalar.cmpi .eq (Scalar.remsi (Scalar.divsi (Dev.word c) 4#32) 2#32) 0#32) : BitVec 32) 0#32 = 1#1
      ∧ Scalar.cmpi .ne (Scalar.extui (Scalar.cmpi .eq (Scalar.remsi (Scalar.divsi (Dev.word c) 4#32) 2#32) 1#32) : BitVec 32) 0#32 ≠ 1#1)
    ∧ (row c ≠ 0 → Scalar.cmpi .ne (Scalar.extui (Scalar.cmpi .eq (Scalar.remsi (Scalar.divsi (Dev.word c) 4#32) 2#32) 0#32) : BitVec 32) 0#32 ≠ 1#1
      ∧ Scalar.cmpi .ne (Scalar.extui (Scalar.cmpi .eq (Scalar.remsi (Scalar.divsi (Dev.word c) 4#32) 2#32) 1#32) : BitVec 32) 0#32 = 1#1) := by
  revert c; decide +kernel

end
end Cert.Wgrad
-- ==== Proof.Front.lean ====
/- The kernel's first parts: the loads, the barrier, the products of the own chunk. -/
module

public import proofs.«01_k».proof.Proof.Start

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → Vec F S2048x2048 .f32} {B : Dev nD → Vec F S2048x8192 .f32} {K : CK → ℕ} (c : Dev nD)

/-- The pieces of the operands that are loaded, taken out and given back. -/
theorem lend_x (q : PosShare TreeShare) (t : Fin 2) : (owns (c : Thread nD τ) arg0M q (A c) : sProp 𝕄)
    ⊢ iprop(owns (c : Thread nD τ) (a0M t) q (AX A c t) ∗ (owns (c : Thread nD τ) (a0M t) q (AX A c t) -∗ owns (c : Thread nD τ) arg0M q (A c))) :=
  owns_lend c arg0M q (Rect.unit (s := S2048x2048) ![1024 * t.val, 0] S1024x2048.size (inba t)) (fun _ => rfl) (A c)
theorem lend_y : (owns (c : Thread nD τ) arg1M fullShare (B c) : sProp 𝕄)
    ⊢ iprop(owns (c : Thread nD τ) (a1M c) fullShare (DY B c) ∗ (owns (c : Thread nD τ) (a1M c) fullShare (DY B c) -∗ owns (c : Thread nD τ) arg1M fullShare (B c))) :=
  owns_lend c arg1M fullShare (Rect.unit (s := S2048x8192) (k0_off1 c) S2048x1024.size (k0_off1_inb c)) (fun _ => rfl) (B c)
theorem lend_f : (owns (c : Thread nD τ) arg1M fullShare (B c) : sProp 𝕄)
    ⊢ iprop(owns (c : Thread nD τ) (a1fM c) fullShare (DF B c) ∗ (owns (c : Thread nD τ) (a1fM c) fullShare (DF B c) -∗ owns (c : Thread nD τ) arg1M fullShare (B c))) :=
  owns_lend c arg1M fullShare (Rect.unit (s := S2048x8192) (k0_off2 c) S2048x1024.size (k0_off2_inb c)) (fun _ => rfl) (B c)

/-- A store of a rectangle, with what the whole then holds. -/
theorem wp_stov {α : Type} {Q : α → sProp (MT nD τ sig Unit (Elt F) ℕ UU ℕ)} {kk : PUnit → Prog (TpuEff nD τ sig (Elt F) Λ₀ .tc) α} {sh : Shape} {e : EltTy} {m : Memref sig .tc .vmem sh e} {r : Rect sh}
    {w : r.shape.Idx → Elt F e} {hx : (m.access r).Stores Finset.univ} {hm : Finset.univ = Finset.univ ∨ ∀ a, r.stride a = 1} {X : sh.Idx → Elt F e}
    (V : sh.Idx → Elt F e) (h : (∀ a, r.stride a = 1) ∧ r.overlay X w = V) :
    (owns (c : Thread nD τ) m fullShare X : sProp 𝕄)
      ⊢ iprop((owns (c : Thread nD τ) m fullShare V -∗ wp frame (wpE (defs₀ (F := F)) 𝒱₀ (c : Thread nD τ) none) Set.univ (kk ⟨⟩) Q)
        -∗ wp frame (wpE (defs₀ (F := F)) 𝒱₀ (c : Thread nD τ) none) Set.univ (.op (.store m r w Finset.univ hx hm) kk) Q) := by
  obtain ⟨hr, rfl⟩ := h
  exact wp_sto c hr

theorem cr_x : 0 < (slx xstM 0).view.dmaCredit := by decide
theorem cr_dy : 0 < (dyM).view.dmaCredit := by decide

/-- The loads of the operands started; the barrier; the first half of the rows of `x`. -/
theorem parts2_3 {Q : (Σ' (v38 : BitVec 32) (v51 : BitVec 32) (v54 : BitVec 32), BitVec 32) → PUnit → sProp (MT nD τ sig Unit (Elt F) ℕ UU ℕ)} (v5 v11 v33 v35 v2 v8 : BitVec 32) :
    Inv A B K ⊢ iprop((∃ W, owes (c : Thread nD τ) (O c 0) W)
      -∗ dutyTok ER (dcell c (.bar 0)) 0 (.bar 0)
      -∗ dutyTok ER (dcell c (.bar 1)) 0 (.bar 1)
      -∗ dutyTok ER (dcell c (.bar 2)) 0 (.bar 2)
      -∗ mine c 0
      -∗ mine c 1
      -∗ mine c 2
      -∗ atPos ER ((c : Thread nD τ), .reg barS) 0 ∅ 0
      -∗ cred (tallyAt ((c : Thread nD τ), .reg barS) () 3)
      -∗ bigSep Finset.univ (fun d : Xf => iprop(dutyTok ER (dcell c (.xf d)) 0 (.xf d) ∗ semVal ((c : Thread nD τ), .dma (ssem d)) 0))
      -∗ owns (c : Thread nD τ) (arg0M) fullShare (A c)
      -∗ owns (c : Thread nD τ) (arg1M) fullShare (B c)
      -∗ (∃ X, owns (c : Thread nD τ) (slx xstM 0) fullShare X)
      -∗ (∃ X, owns (c : Thread nD τ) (slx xstM 1) fullShare X)
      -∗ (∃ X, owns (c : Thread nD τ) dyM fullShare X)
      -∗ semVal ((c : Thread nD τ), SemLoc.dma (lsem 0)) 0
      -∗ semVal ((c : Thread nD τ), SemLoc.dma (lsem 1)) 0
      -∗ semVal ((c : Thread nD τ), SemLoc.dma (lsem 2)) 0
      -∗ (∀ w v, Ow A B c 3 0 -∗ semVal ((c : Thread nD τ), .reg barS) 0 -∗ owns (c : Thread nD τ) (slx xstM 0) fullShare (AX A c 0) -∗ owns (c : Thread nD τ) (arg0M) fullShare.left (A c) -∗ semVal ((c : Thread nD τ), SemLoc.dma (lsem 0)) 0 -∗ Ldg c 1 (slx xstM 1).view.dmaCredit iprop(owns (c : Thread nD τ) (slx xstM 1) fullShare (AX A c 1) ∗ owns (c : Thread nD τ) (a0M 1) fullShare.right (AX A c 1)) -∗ (owns (c : Thread nD τ) (a0M 1) fullShare.right (AX A c 1) -∗ owns (c : Thread nD τ) arg0M fullShare.right (A c)) -∗ Ldg c 2 (dyM).view.dmaCredit iprop(owns (c : Thread nD τ) dyM fullShare (DY B c) ∗ owns (c : Thread nD τ) (a1M c) fullShare (DY B c)) -∗ (owns (c : Thread nD τ) (a1M c) fullShare (DY B c) -∗ owns (c : Thread nD τ) arg1M fullShare (B c)) -∗ Q w v)
      -∗ wp frame (wpE (defs₀ (F := F)) 𝒱₀ (c : Thread nD τ) none) Set.univ (at₀ (k0_part2 (F := F)) v5 v11 v33 v35) fun r2 =>
        wp frame (wpE (defs₀ (F := F)) 𝒱₀ (c : Thread nD τ) none) Set.univ (at₀ (k0_part3 (F := F)) c v2 v5 v8 v35 r2.1 r2.2.1 r2.2.2.1 r2.2.2.2) (Q r2)) := by
  iintro #HI HO T0 T1 T2 M0 M1 M2 At Cr Bx A0 A1 X0 X1 Dy L0 L1 L2 HQ
  simp only [k0_part2_eq_skeleton]
  unfold k0_part2_skel
  simp only [Prog.lift, Prog.bind_op, Prog.bind_ret, Prog.pure_eq_ret, semSignalWord, semWaitWord]
  ihave ⟨A0l, A0r⟩ := (owns_halves (c : Thread nD τ) arg0M fullShare (A c)).1 $$ A0
  ihave ⟨A0a, K0⟩ := (lend_x c fullShare.left 0) $$ A0l
  ihave ⟨A0b, K1⟩ := (lend_x c fullShare.right 1) $$ A0r
  iapply (ldg c 0 ?_) $$ A0a X0 L0; exact ⟨cr_x, rfl⟩; iintro F0
  iapply (ldg c 1 ?_) $$ A0b X1 L1; exact ⟨cr_x, rfl⟩; iintro F1
  simp only [wp_ret]; imodintro
  simp only [k0_part3_eq_skeleton]
  unfold k0_part3_skel
  simp only [Prog.lift, Prog.bind_op, Prog.bind_ret, Prog.pure_eq_ret, semSignalWord, semWaitWord]
  ihave ⟨A1a, K2⟩ := (lend_y c) $$ A1
  iapply (ldg c 2 ?_) $$ A1a Dy L2; exact ⟨cr_dy, rfl⟩; iintro F2
  iapply (wp_sig c 0 (n := 0) (n' := 1) ?_) $$ HI HO T0 M0; exact ⟨rfl, rfl, dev1_eq c, rfl⟩; iintro HO
  iapply (wp_sig c 1 (n := 1) (n' := 2) ?_) $$ HI HO T1 M1; exact ⟨rfl, rfl, dev2_eq c, rfl⟩; iintro HO
  iapply (wp_sig c 2 (n := 2) (n' := 3) ?_) $$ HI HO T2 M2; exact ⟨rfl, rfl, dev3_eq c, rfl⟩; iintro HO
  iapply (wp_bar c ?_) $$ HI HO At Cr Bx; exact rfl; iintro Ow Bs
  iapply (lw c 0 ?_) $$ HI Ow F0; exact ⟨by decide, rfl, rfl⟩; iintro Ow ⟨X0, A0a⟩ L0
  ispecialize K0 $$ A0a; irename K0 => A0l
  simp only [wp_ret]; imodintro
  iapply HQ $$ %_ %_ Ow Bs X0 A0l L0 F1 K1 F2 K2

/-- The part of `x` the device sends, in the row 0 of the mesh, and the first product. -/
theorem part4_0 {Q : PUnit → sProp (MT nD τ sig Unit (Elt F) ℕ UU ℕ)} (v2 v5 v8 v55 : BitVec 32) (hv : v5 = Scalar.remsi (Scalar.divsi (Dev.word c) 4#32) 2#32) (hr : row c = 0) :
    Inv A B K ⊢ iprop(Ow A B c 3 0
      -∗ owns (c : Thread nD τ) (slx xstM 0) fullShare (AX A c 0)
      -∗ Ldg c 1 (slx xstM 1).view.dmaCredit iprop(owns (c : Thread nD τ) (slx xstM 1) fullShare (AX A c 1) ∗ owns (c : Thread nD τ) (a0M 1) fullShare.right (AX A c 1))
      -∗ (owns (c : Thread nD τ) (a0M 1) fullShare.right (AX A c 1) -∗ owns (c : Thread nD τ) arg0M fullShare.right (A c))
      -∗ Ldg c 2 (dyM).view.dmaCredit iprop(owns (c : Thread nD τ) dyM fullShare (DY B c) ∗ owns (c : Thread nD τ) (a1M c) fullShare (DY B c))
      -∗ (owns (c : Thread nD τ) (a1M c) fullShare (DY B c) -∗ owns (c : Thread nD τ) arg1M fullShare (B c))
      -∗ (∃ X, owns (c : Thread nD τ) xpM fullShare X)
      -∗ (∃ X, owns (c : Thread nD τ) (sl4 ysM 0) fullShare X)
      -∗ (∀ v, Ow A B c 3 0 -∗ owns (c : Thread nD τ) (slx xstM 0) fullShare (AX A c 0) -∗ owns (c : Thread nD τ) (slx xstM 1) fullShare (AX A c 1) -∗ owns (c : Thread nD τ) (arg0M) fullShare.right (A c) -∗ semVal ((c : Thread nD τ), SemLoc.dma (lsem 1)) 0 -∗ semVal ((c : Thread nD τ), SemLoc.dma (lsem 2)) 0 -∗ owns (c : Thread nD τ) (dyM) fullShare (DY B c) -∗ owns (c : Thread nD τ) (arg1M) fullShare (B c) -∗ owns (c : Thread nD τ) (xpM) fullShare (XP A c) -∗ owns (c : Thread nD τ) (sl4 ysM 0) fullShare (YS A B c 0) -∗ Q v)
      -∗ wp frame (wpE (defs₀ (F := F)) 𝒱₀ (c : Thread nD τ) none) Set.univ (at₀ (k0_part4 (F := F)) c v2 v5 v8 v55) Q) := by
  iintro #HI Ow X0 F1 K1 F2 K2 XP Y0 HQ
  obtain ⟨h0, h1⟩ := (cmp_row c).1 hr
  subst hv
  simp only [k0_part4_eq_skeleton]
  unfold k0_part4_skel
  simp only [Prog.lift, Prog.bind_op, Prog.bind_ret, Prog.pure_eq_ret, semSignalWord, semWaitWord]
  iapply (lw c 1 ?_) $$ HI Ow F1; exact ⟨by decide, rfl, rfl⟩; iintro Ow ⟨X1, A0b⟩ L1
  ispecialize K1 $$ A0b; irename K1 => A0r
  icases XP with ⟨%X, XP⟩
  simp only [h0, h1, ↓reduceDIte, Prog.bind_op, Prog.bind_ret, Prog.pure_eq_ret]
  iapply (wp_lds c shapeCasts_S1024x2048_S1x1024x2048) $$ X0; iintro X0
  iapply (wp_ld c) $$ XP; iintro XP
  iapply (wp_sto c (fun _ => rfl)) $$ XP; iintro XP
  iapply (wp_lds c shapeCasts_S1024x2048_S1x1024x2048) $$ X1; iintro X1
  iapply (wp_ld c) $$ XP; iintro XP
  iapply (wp_stov c (XP A c) ?_) $$ XP; exact ⟨fun _ => rfl, rows_full (xp0 c hr 0) (xp0 c hr 1)⟩; iintro XP
  iapply (lw c 2 ?_) $$ HI Ow F2; exact ⟨by decide, rfl, rfl⟩; iintro Ow ⟨Dy, A1a⟩ L2
  ispecialize K2 $$ A1a; irename K2 => A1
  iapply (wp_ld c) $$ XP; iintro XP
  iapply (wp_ld c) $$ Dy; iintro Dy
  icases Y0 with ⟨%Y, Y0⟩
  iapply (wp_lds c shapeCasts_S1024x256_S1x1024x256) $$ Y0; iintro Y0
  iapply (sts4 c ysM 0 (YS A B c 0) ?_) $$ Y0; rfl; iintro Y0
  simp only [wp_ret]; imodintro
  iapply HQ $$ %_ Ow X0 X1 A0r L1 L2 Dy A1 XP Y0

/-- The part of `x` the device sends, in the row 1 of the mesh, and the first product. -/
theorem part4_1 {Q : PUnit → sProp (MT nD τ sig Unit (Elt F) ℕ UU ℕ)} (v2 v5 v8 v55 : BitVec 32) (hv : v5 = Scalar.remsi (Scalar.divsi (Dev.word c) 4#32) 2#32) (hr : row c ≠ 0) :
    Inv A B K ⊢ iprop(Ow A B c 3 0
      -∗ owns (c : Thread nD τ) (slx xstM 0) fullShare (AX A c 0)
      -∗ Ldg c 1 (slx xstM 1).view.dmaCredit iprop(owns (c : Thread nD τ) (slx xstM 1) fullShare (AX A c 1) ∗ owns (c : Thread nD τ) (a0M 1) fullShare.right (AX A c 1))
      -∗ (owns (c : Thread nD τ) (a0M 1) fullShare.right (AX A c 1) -∗ owns (c : Thread nD τ) arg0M fullShare.right (A c))
      -∗ Ldg c 2 (dyM).view.dmaCredit iprop(owns (c : Thread nD τ) dyM fullShare (DY B c) ∗ owns (c : Thread nD τ) (a1M c) fullShare (DY B c))
      -∗ (owns (c : Thread nD τ) (a1M c) fullShare (DY B c) -∗ owns (c : Thread nD τ) arg1M fullShare (B c))
      -∗ (∃ X, owns (c : Thread nD τ) xpM fullShare X)
      -∗ (∃ X, owns (c : Thread nD τ) (sl4 ysM 0) fullShare X)
      -∗ (∀ v, Ow A B c 3 0 -∗ owns (c : Thread nD τ) (slx xstM 0) fullShare (AX A c 0) -∗ owns (c : Thread nD τ) (slx xstM 1) fullShare (AX A c 1) -∗ owns (c : Thread nD τ) (arg0M) fullShare.right (A c) -∗ semVal ((c : Thread nD τ), SemLoc.dma (lsem 1)) 0 -∗ semVal ((c : Thread nD τ), SemLoc.dma (lsem 2)) 0 -∗ owns (c : Thread nD τ) (dyM) fullShare (DY B c) -∗ owns (c : Thread nD τ) (arg1M) fullShare (B c) -∗ owns (c : Thread nD τ) (xpM) fullShare (XP A c) -∗ owns (c : Thread nD τ) (sl4 ysM 0) fullShare (YS A B c 0) -∗ Q v)
      -∗ wp frame (wpE (defs₀ (F := F)) 𝒱₀ (c : Thread nD τ) none) Set.univ (at₀ (k0_part4 (F := F)) c v2 v5 v8 v55) Q) := by
  iintro #HI Ow X0 F1 K1 F2 K2 XP Y0 HQ
  obtain ⟨h0, h1⟩ := (cmp_row c).2 hr
  subst hv
  simp only [k0_part4_eq_skeleton]
  unfold k0_part4_skel
  simp only [Prog.lift, Prog.bind_op, Prog.bind_ret, Prog.pure_eq_ret, semSignalWord, semWaitWord]
  iapply (lw c 1 ?_) $$ HI Ow F1; exact ⟨by decide, rfl, rfl⟩; iintro Ow ⟨X1, A0b⟩ L1
  ispecialize K1 $$ A0b; irename K1 => A0r
  icases XP with ⟨%X, XP⟩
  simp only [h0, h1, ↓reduceDIte, Prog.bind_op, Prog.bind_ret, Prog.pure_eq_ret]
  iapply (wp_lds c shapeCasts_S1024x2048_S1x1024x2048) $$ X0; iintro X0
  iapply (wp_ld c) $$ XP; iintro XP
  iapply (wp_sto c (fun _ => rfl)) $$ XP; iintro XP
  iapply (wp_lds c shapeCasts_S1024x2048_S1x1024x2048) $$ X1; iintro X1
  iapply (wp_ld c) $$ XP; iintro XP
  iapply (wp_stov c (XP A c) ?_) $$ XP; exact ⟨fun _ => rfl, rows_full (xp1 c hr 0) (xp1 c hr 1)⟩; iintro XP
  iapply (lw c 2 ?_) $$ HI Ow F2; exact ⟨by decide, rfl, rfl⟩; iintro Ow ⟨Dy, A1a⟩ L2
  ispecialize K2 $$ A1a; irename K2 => A1
  iapply (wp_ld c) $$ XP; iintro XP
  iapply (wp_ld c) $$ Dy; iintro Dy
  icases Y0 with ⟨%Y, Y0⟩
  iapply (wp_lds c shapeCasts_S1024x256_S1x1024x256) $$ Y0; iintro Y0
  iapply (sts4 c ysM 0 (YS A B c 0) ?_) $$ Y0; rfl; iintro Y0
  simp only [wp_ret]; imodintro
  iapply HQ $$ %_ Ow X0 X1 A0r L1 L2 Dy A1 XP Y0

/-- The part of `x` the device keeps, in the row 0 of the mesh, and two products. -/
theorem part5_0 {Q : PUnit → sProp (MT nD τ sig Unit (Elt F) ℕ UU ℕ)} (v5 : BitVec 32) (hv : v5 = Scalar.remsi (Scalar.divsi (Dev.word c) 4#32) 2#32) (hr : row c = 0) :
    Inv A B K ⊢ iprop(Ow A B c 3 0
      -∗ owns (c : Thread nD τ) (slx xstM 0) fullShare (AX A c 0)
      -∗ owns (c : Thread nD τ) (slx xstM 1) fullShare (AX A c 1)
      -∗ owns (c : Thread nD τ) (dyM) fullShare (DY B c)
      -∗ owns (c : Thread nD τ) (xpM) fullShare (XP A c)
      -∗ owns (c : Thread nD τ) (sl4 ysM 0) fullShare (YS A B c 0)
      -∗ (∃ X, owns (c : Thread nD τ) xmM fullShare X)
      -∗ (∃ X, owns (c : Thread nD τ) (sl4 ysM 1) fullShare X)
      -∗ (∃ X, owns (c : Thread nD τ) (sl4 redM 0) fullShare X)
      -∗ (∀ v, Ow A B c 4 0 -∗ owns (c : Thread nD τ) (slx xstM 0) fullShare (AX A c 0) -∗ owns (c : Thread nD τ) (slx xstM 1) fullShare (AX A c 1) -∗ owns (c : Thread nD τ) (dyM) fullShare (DY B c) -∗ owns (c : Thread nD τ) (xpM) fullShare (XP A c) -∗ owns (c : Thread nD τ) (xmM) fullShare (XM A c) -∗ owns (c : Thread nD τ) (sl4 ysM 1) fullShare (YS A B c 1) -∗ owns (c : Thread nD τ) (sl4 redM 0) fullShare (OWN A B c 0) -∗ Q v)
      -∗ wp frame (wpE (defs₀ (F := F)) 𝒱₀ (c : Thread nD τ) none) Set.univ (at₀ (k0_part5 (F := F)) c v5) Q) := by
  iintro #HI Ow X0 X1 Dy XP Y0 XM Y1 R0 HQ
  obtain ⟨h0, h1⟩ := (cmp_row c).1 hr
  subst hv
  simp only [k0_part5_eq_skeleton]
  unfold k0_part5_skel
  simp only [Prog.lift, Prog.bind_op, Prog.bind_ret, Prog.pure_eq_ret, semSignalWord, semWaitWord]
  iapply (wp_ys c 0 ?_) $$ HI Ow Y0; exact ⟨rfl, by decide, dev4_eq c, rfl, rfl⟩; iintro Ow
  icases XM with ⟨%X, XM⟩
  simp only [h0, h1, ↓reduceDIte, Prog.bind_op, Prog.bind_ret, Prog.pure_eq_ret]
  iapply (wp_lds c shapeCasts_S1024x2048_S1x1024x2048) $$ X0; iintro X0
  iapply (wp_ld c) $$ XM; iintro XM
  iapply (wp_sto c (fun _ => rfl)) $$ XM; iintro XM
  iapply (wp_lds c shapeCasts_S1024x2048_S1x1024x2048) $$ X1; iintro X1
  iapply (wp_ld c) $$ XM; iintro XM
  iapply (wp_stov c (XM A c) ?_) $$ XM; exact ⟨fun _ => rfl, rows_full (xm0 c hr 0) (xm0 c hr 1)⟩; iintro XM
  iapply (wp_ld c) $$ XM; iintro XM
  iapply (wp_ld c) $$ Dy; iintro Dy
  icases R0 with ⟨%Y, R0⟩
  iapply (wp_lds c shapeCasts_S1024x256_S1x1024x256) $$ R0; iintro R0
  iapply (sts4 c redM 0 (OWN A B c 0) ?_) $$ R0; rfl; iintro R0
  iapply (wp_ld c) $$ XP; iintro XP
  iapply (wp_ld c) $$ Dy; iintro Dy
  icases Y1 with ⟨%Y', Y1⟩
  iapply (wp_lds c shapeCasts_S1024x256_S1x1024x256) $$ Y1; iintro Y1
  iapply (sts4 c ysM 1 (YS A B c 1) ?_) $$ Y1; rfl; iintro Y1
  simp only [wp_ret]; imodintro
  iapply HQ $$ %_ Ow X0 X1 Dy XP XM Y1 R0

/-- The part of `x` the device keeps, in the row 1 of the mesh, and two products. -/
theorem part5_1 {Q : PUnit → sProp (MT nD τ sig Unit (Elt F) ℕ UU ℕ)} (v5 : BitVec 32) (hv : v5 = Scalar.remsi (Scalar.divsi (Dev.word c) 4#32) 2#32) (hr : row c ≠ 0) :
    Inv A B K ⊢ iprop(Ow A B c 3 0
      -∗ owns (c : Thread nD τ) (slx xstM 0) fullShare (AX A c 0)
      -∗ owns (c : Thread nD τ) (slx xstM 1) fullShare (AX A c 1)
      -∗ owns (c : Thread nD τ) (dyM) fullShare (DY B c)
      -∗ owns (c : Thread nD τ) (xpM) fullShare (XP A c)
      -∗ owns (c : Thread nD τ) (sl4 ysM 0) fullShare (YS A B c 0)
      -∗ (∃ X, owns (c : Thread nD τ) xmM fullShare X)
      -∗ (∃ X, owns (c : Thread nD τ) (sl4 ysM 1) fullShare X)
      -∗ (∃ X, owns (c : Thread nD τ) (sl4 redM 0) fullShare X)
      -∗ (∀ v, Ow A B c 4 0 -∗ owns (c : Thread nD τ) (slx xstM 0) fullShare (AX A c 0) -∗ owns (c : Thread nD τ) (slx xstM 1) fullShare (AX A c 1) -∗ owns (c : Thread nD τ) (dyM) fullShare (DY B c) -∗ owns (c : Thread nD τ) (xpM) fullShare (XP A c) -∗ owns (c : Thread nD τ) (xmM) fullShare (XM A c) -∗ owns (c : Thread nD τ) (sl4 ysM 1) fullShare (YS A B c 1) -∗ owns (c : Thread nD τ) (sl4 redM 0) fullShare (OWN A B c 0) -∗ Q v)
      -∗ wp frame (wpE (defs₀ (F := F)) 𝒱₀ (c : Thread nD τ) none) Set.univ (at₀ (k0_part5 (F := F)) c v5) Q) := by
  iintro #HI Ow X0 X1 Dy XP Y0 XM Y1 R0 HQ
  obtain ⟨h0, h1⟩ := (cmp_row c).2 hr
  subst hv
  simp only [k0_part5_eq_skeleton]
  unfold k0_part5_skel
  simp only [Prog.lift, Prog.bind_op, Prog.bind_ret, Prog.pure_eq_ret, semSignalWord, semWaitWord]
  iapply (wp_ys c 0 ?_) $$ HI Ow Y0; exact ⟨rfl, by decide, dev4_eq c, rfl, rfl⟩; iintro Ow
  icases XM with ⟨%X, XM⟩
  simp only [h0, h1, ↓reduceDIte, Prog.bind_op, Prog.bind_ret, Prog.pure_eq_ret]
  iapply (wp_lds c shapeCasts_S1024x2048_S1x1024x2048) $$ X0; iintro X0
  iapply (wp_ld c) $$ XM; iintro XM
  iapply (wp_sto c (fun _ => rfl)) $$ XM; iintro XM
  iapply (wp_lds c shapeCasts_S1024x2048_S1x1024x2048) $$ X1; iintro X1
  iapply (wp_ld c) $$ XM; iintro XM
  iapply (wp_stov c (XM A c) ?_) $$ XM; exact ⟨fun _ => rfl, rows_full (xm1 c hr 0) (xm1 c hr 1)⟩; iintro XM
  iapply (wp_ld c) $$ XM; iintro XM
  iapply (wp_ld c) $$ Dy; iintro Dy
  icases R0 with ⟨%Y, R0⟩
  iapply (wp_lds c shapeCasts_S1024x256_S1x1024x256) $$ R0; iintro R0
  iapply (sts4 c redM 0 (OWN A B c 0) ?_) $$ R0; rfl; iintro R0
  iapply (wp_ld c) $$ XP; iintro XP
  iapply (wp_ld c) $$ Dy; iintro Dy
  icases Y1 with ⟨%Y', Y1⟩
  iapply (wp_lds c shapeCasts_S1024x256_S1x1024x256) $$ Y1; iintro Y1
  iapply (sts4 c ysM 1 (YS A B c 1) ?_) $$ Y1; rfl; iintro Y1
  simp only [wp_ret]; imodintro
  iapply HQ $$ %_ Ow X0 X1 Dy XP XM Y1 R0

/-- The other products of the own chunk. -/
theorem parts6_8 {Q : PUnit → sProp (MT nD τ sig Unit (Elt F) ℕ UU ℕ)} (v2 v8 v55 v22 : BitVec 32) :
    Inv A B K ⊢ iprop(Ow A B c 4 0
      -∗ owns (c : Thread nD τ) (dyM) fullShare (DY B c)
      -∗ owns (c : Thread nD τ) (xpM) fullShare (XP A c)
      -∗ owns (c : Thread nD τ) (xmM) fullShare (XM A c)
      -∗ owns (c : Thread nD τ) (sl4 ysM 1) fullShare (YS A B c 1)
      -∗ owns (c : Thread nD τ) (arg1M) fullShare (B c)
      -∗ semVal ((c : Thread nD τ), SemLoc.dma (lsem 2)) 0
      -∗ (∃ X, owns (c : Thread nD τ) (sl4 redM 1) fullShare X)
      -∗ (∃ X, owns (c : Thread nD τ) (sl4 redM 2) fullShare X)
      -∗ (∃ X, owns (c : Thread nD τ) (sl4 redM 3) fullShare X)
      -∗ (∃ X, owns (c : Thread nD τ) (sl4 ysM 2) fullShare X)
      -∗ (∃ X, owns (c : Thread nD τ) (sl4 ysM 3) fullShare X)
      -∗ (∀ v, Ow A B c 7 0 -∗ owns (c : Thread nD τ) (xpM) fullShare (XP A c) -∗ owns (c : Thread nD τ) (xmM) fullShare (XM A c) -∗ Ldg c 2 (dyM).view.dmaCredit iprop(owns (c : Thread nD τ) dyM fullShare (DF B c) ∗ owns (c : Thread nD τ) (a1fM c) fullShare (DF B c)) -∗ (owns (c : Thread nD τ) (a1fM c) fullShare (DF B c) -∗ owns (c : Thread nD τ) arg1M fullShare (B c)) -∗ owns (c : Thread nD τ) (sl4 redM 1) fullShare (OWN A B c 1) -∗ owns (c : Thread nD τ) (sl4 redM 2) fullShare (OWN A B c 2) -∗ owns (c : Thread nD τ) (sl4 redM 3) fullShare (OWN A B c 3) -∗ Q v)
      -∗ wp frame (wpE (defs₀ (F := F)) 𝒱₀ (c : Thread nD τ) none) Set.univ (at₀ (k0_part6 (F := F)) c v2 v8 v55) fun _ =>
        wp frame (wpE (defs₀ (F := F)) 𝒱₀ (c : Thread nD τ) none) Set.univ (at₀ (k0_part7 (F := F)) c v2 v8 v55) fun _ =>
        wp frame (wpE (defs₀ (F := F)) 𝒱₀ (c : Thread nD τ) none) Set.univ (at₀ (k0_part8 (F := F)) c v2 v8 v22 v55) Q) := by
  iintro #HI Ow Dy XP XM Y1 A1 L2 R1 R2 R3 Y2 Y3 HQ
  simp only [k0_part6_eq_skeleton]
  unfold k0_part6_skel
  simp only [Prog.lift, Prog.bind_op, Prog.bind_ret, Prog.pure_eq_ret]
  iapply (wp_ys c 1 ?_) $$ HI Ow Y1; exact ⟨rfl, by decide, dev5_eq c, rfl, rfl⟩; iintro Ow
  iapply (wp_ld c) $$ XM; iintro XM
  iapply (wp_ld c) $$ Dy; iintro Dy
  icases R1 with ⟨%Z1, R1⟩
  iapply (wp_lds c shapeCasts_S1024x256_S1x1024x256) $$ R1; iintro R1
  iapply (sts4 c redM 1 (OWN A B c 1) ?_) $$ R1; rfl; iintro R1
  iapply (wp_ld c) $$ XP; iintro XP
  iapply (wp_ld c) $$ Dy; iintro Dy
  icases Y2 with ⟨%U1, Y2⟩
  iapply (wp_lds c shapeCasts_S1024x256_S1x1024x256) $$ Y2; iintro Y2
  iapply (sts4 c ysM 2 (YS A B c 2) ?_) $$ Y2; rfl; iintro Y2
  simp only [wp_ret]; imodintro
  simp only [k0_part7_eq_skeleton]
  unfold k0_part7_skel
  simp only [Prog.lift, Prog.bind_op, Prog.bind_ret, Prog.pure_eq_ret]
  iapply (wp_ys c 2 ?_) $$ HI Ow Y2; exact ⟨rfl, by decide, dev6_eq c, rfl, rfl⟩; iintro Ow
  iapply (wp_ld c) $$ XM; iintro XM
  iapply (wp_ld c) $$ Dy; iintro Dy
  icases R2 with ⟨%Z2, R2⟩
  iapply (wp_lds c shapeCasts_S1024x256_S1x1024x256) $$ R2; iintro R2
  iapply (sts4 c redM 2 (OWN A B c 2) ?_) $$ R2; rfl; iintro R2
  iapply (wp_ld c) $$ XP; iintro XP
  iapply (wp_ld c) $$ Dy; iintro Dy
  icases Y3 with ⟨%U2, Y3⟩
  iapply (wp_lds c shapeCasts_S1024x256_S1x1024x256) $$ Y3; iintro Y3
  iapply (sts4 c ysM 3 (YS A B c 3) ?_) $$ Y3; rfl; iintro Y3
  simp only [wp_ret]; imodintro
  simp only [k0_part8_eq_skeleton]
  unfold k0_part8_skel
  simp only [Prog.lift, Prog.bind_op, Prog.bind_ret, Prog.pure_eq_ret]
  iapply (wp_ys c 3 ?_) $$ HI Ow Y3; exact ⟨rfl, by decide, dev7_eq c, rfl, rfl⟩; iintro Ow
  iapply (wp_ld c) $$ XM; iintro XM
  iapply (wp_ld c) $$ Dy; iintro Dy
  icases R3 with ⟨%Z3, R3⟩
  iapply (wp_lds c shapeCasts_S1024x256_S1x1024x256) $$ R3; iintro R3
  iapply (sts4 c redM 3 (OWN A B c 3) ?_) $$ R3; rfl; iintro R3
  ihave ⟨A1a, K2⟩ := (lend_f c) $$ A1
  iapply (ldg c 2 ?_) $$ A1a [Dy] L2; exact ⟨cr_dy, rfl⟩
  · iexists _; iexact Dy
  iintro F2
  simp only [wp_ret]; imodintro
  iapply HQ $$ %_ Ow XP XM F2 K2 R1 R2 R3

end
end Cert.Wgrad
-- ==== Proof.Ring1.lean ====
/- The kernel's sums and the first two hops of the ring. -/
module

public import proofs.«01_k».proof.Proof.Families

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → Vec F S2048x2048 .f32} {B : Dev nD → Vec F S2048x8192 .f32} {K : CK → ℕ} (c : Dev nD)

/-- The products from the partner, added; the sums on their way round the ring and into the result. -/
theorem parts9_17 {Q : PUnit → sProp (MT nD τ sig Unit (Elt F) ℕ UU ℕ)} (v2 v8 v35 v55 v5 v11 v38 v51 v54 : BitVec 32) :
    Inv A B K ⊢ iprop(Ow A B c 7 0
      -∗ Rx (F := F) c 0
      -∗ Out A B c 0 0
      -∗ owns (c : Thread nD τ) (sl4 redM 0) fullShare (OWN A B c 0)
      -∗ owns (c : Thread nD τ) (sl4 redM 1) fullShare (OWN A B c 1)
      -∗ owns (c : Thread nD τ) (sl4 redM 2) fullShare (OWN A B c 2)
      -∗ owns (c : Thread nD τ) (sl4 redM 3) fullShare (OWN A B c 3)
      -∗ semVal ((c : Thread nD τ), SemLoc.dma (lsem 3)) 0
      -∗ semVal ((c : Thread nD τ), SemLoc.dma (lsem 4)) 0
      -∗ semVal ((c : Thread nD τ), SemLoc.dma (lsem 5)) 0
      -∗ semVal ((c : Thread nD τ), SemLoc.dma (lsem 6)) 0
      -∗ (∀ v, Ow A B c 15 4 -∗ Rx (F := F) c 4 -∗ Out A B c 4 0 -∗ owns (c : Thread nD τ) (sl4 yrM 0) fullShare (YS A B (partner c) 0) -∗ owns (c : Thread nD τ) (sl4 yrM 1) fullShare (YS A B (partner c) 1) -∗ owns (c : Thread nD τ) (sl4 yrM 2) fullShare (YS A B (partner c) 2) -∗ owns (c : Thread nD τ) (sl4 yrM 3) fullShare (YS A B (partner c) 3) -∗ Fly A B c 3 (.own 0) -∗ Fly A B c 4 (.own 1) -∗ Fly A B c 5 (.own 2) -∗ Fly A B c 6 (.own 3) -∗ Q v)
      -∗ wp frame (wpE (defs₀ (F := F)) 𝒱₀ (c : Thread nD τ) none) Set.univ (at₀ (k0_part9 (F := F)) v2 v8 v35 v55) fun r9 =>
        wp frame (wpE (defs₀ (F := F)) 𝒱₀ (c : Thread nD τ) none) Set.univ (at₀ (k0_part10 (F := F)) c v5 v11 v38 v51 v54 r9) fun _ =>
        wp frame (wpE (defs₀ (F := F)) 𝒱₀ (c : Thread nD τ) none) Set.univ (at₀ (k0_part11 (F := F)) c v2 v8 v55) fun r11 =>
        wp frame (wpE (defs₀ (F := F)) 𝒱₀ (c : Thread nD τ) none) Set.univ (at₀ (k0_part12 (F := F)) c v5 v35 v38 v51 v54 r11) fun _ =>
        wp frame (wpE (defs₀ (F := F)) 𝒱₀ (c : Thread nD τ) none) Set.univ (at₀ (k0_part13 (F := F)) c v2 v8 v11 v55) fun _ =>
        wp frame (wpE (defs₀ (F := F)) 𝒱₀ (c : Thread nD τ) none) Set.univ (at₀ (k0_part14 (F := F)) c v5 v35 v38 v51) fun r14 =>
        wp frame (wpE (defs₀ (F := F)) 𝒱₀ (c : Thread nD τ) none) Set.univ (at₀ (k0_part15 (F := F)) c v2 v8 v11 v54 v55 r14.1 r14.2) fun _ =>
        wp frame (wpE (defs₀ (F := F)) 𝒱₀ (c : Thread nD τ) none) Set.univ (at₀ (k0_part16 (F := F)) c v5 v35 v38) fun _ =>
        wp frame (wpE (defs₀ (F := F)) 𝒱₀ (c : Thread nD τ) none) Set.univ (at₀ (k0_part17 (F := F)) c v5 v11 v35 v38 v51 v54) Q) := by
  iintro #HI Ow Rx Out R0 R1 R2 R3 S3 S4 S5 S6 HQ
  simp only [k0_part9_eq_skeleton]
  unfold k0_part9_skel
  simp only [Prog.lift, Prog.bind_op, Prog.bind_ret, Prog.pure_eq_ret]
  iapply (snt c (.ys 0) ?_) $$ HI Ow; exact ⟨rfl, by decide, by decide, rfl, rfl⟩; iintro Ow
  iapply (rcv c (.ys 0) ?_) $$ HI Ow Rx; exact ⟨rfl, by decide, by decide, rfl, rfl⟩; iintro Ow Rx Gy0
  ihave Gy0 := (got_ys c 0) $$ Gy0
  iapply (wp_lds c shapeCasts_S1024x256_S1x1024x256) $$ R0; iintro R0
  iapply (wp_lds c shapeCasts_S1024x256_S1x1024x256) $$ Gy0; iintro Gy0
  iapply (wp_lds c shapeCasts_S1024x256_S1x1024x256) $$ R0; iintro R0
  iapply (sts4 c redM 0 (RED A B c 0) ?_) $$ R0; rfl; iintro R0
  ihave ⟨R0a, R0b, R0c⟩ := (red_split c 0) $$ R0
  simp only [wp_ret]; imodintro
  simp only [k0_part10_eq_skeleton]
  unfold k0_part10_skel
  simp only [Prog.lift, Prog.bind_op, Prog.bind_ret, Prog.pure_eq_ret]
  iapply (wp_cw0 c 0 ?_) $$ HI Ow R0a; exact ⟨rfl, by decide, dev8_eq c, rfl, rfl⟩; iintro Ow
  iapply (wp_ccw0 c 0 ?_) $$ HI Ow R0b; exact ⟨rfl, by decide, dev9_eq c, rfl, rfl⟩; iintro Ow
  simp only [wp_ret]; imodintro
  simp only [k0_part11_eq_skeleton]
  unfold k0_part11_skel
  simp only [Prog.lift, Prog.bind_op, Prog.bind_ret, Prog.pure_eq_ret]
  iapply (put c (.own 0) 3 ?_) $$ Out R0c S3; exact ⟨rfl, by decide, rfl, rfl⟩; iintro Out F3
  iapply (snt c (.ys 1) ?_) $$ HI Ow; exact ⟨rfl, by decide, by decide, rfl, rfl⟩; iintro Ow
  iapply (rcv c (.ys 1) ?_) $$ HI Ow Rx; exact ⟨rfl, by decide, by decide, rfl, rfl⟩; iintro Ow Rx Gy1
  ihave Gy1 := (got_ys c 1) $$ Gy1
  iapply (wp_lds c shapeCasts_S1024x256_S1x1024x256) $$ R1; iintro R1
  iapply (wp_lds c shapeCasts_S1024x256_S1x1024x256) $$ Gy1; iintro Gy1
  simp only [wp_ret]; imodintro
  simp only [k0_part12_eq_skeleton]
  unfold k0_part12_skel
  simp only [Prog.lift, Prog.bind_op, Prog.bind_ret, Prog.pure_eq_ret]
  iapply (wp_lds c shapeCasts_S1024x256_S1x1024x256) $$ R1; iintro R1
  iapply (sts4 c redM 1 (RED A B c 1) ?_) $$ R1; rfl; iintro R1
  ihave ⟨R1a, R1b, R1c⟩ := (red_split c 1) $$ R1
  iapply (wp_cw0 c 1 ?_) $$ HI Ow R1a; exact ⟨rfl, by decide, dev10_eq c, rfl, rfl⟩; iintro Ow
  simp only [wp_ret]; imodintro
  simp only [k0_part13_eq_skeleton]
  unfold k0_part13_skel
  simp only [Prog.lift, Prog.bind_op, Prog.bind_ret, Prog.pure_eq_ret]
  iapply (wp_ccw0 c 1 ?_) $$ HI Ow R1b; exact ⟨rfl, by decide, dev11_eq c, rfl, rfl⟩; iintro Ow
  iapply (put c (.own 1) 4 ?_) $$ Out R1c S4; exact ⟨rfl, by decide, rfl, rfl⟩; iintro Out F4
  iapply (snt c (.ys 2) ?_) $$ HI Ow; exact ⟨rfl, by decide, by decide, rfl, rfl⟩; iintro Ow
  iapply (rcv c (.ys 2) ?_) $$ HI Ow Rx; exact ⟨rfl, by decide, by decide, rfl, rfl⟩; iintro Ow Rx Gy2
  ihave Gy2 := (got_ys c 2) $$ Gy2
  simp only [wp_ret]; imodintro
  simp only [k0_part14_eq_skeleton]
  unfold k0_part14_skel
  simp only [Prog.lift, Prog.bind_op, Prog.bind_ret, Prog.pure_eq_ret]
  iapply (wp_lds c shapeCasts_S1024x256_S1x1024x256) $$ R2; iintro R2
  iapply (wp_lds c shapeCasts_S1024x256_S1x1024x256) $$ Gy2; iintro Gy2
  iapply (wp_lds c shapeCasts_S1024x256_S1x1024x256) $$ R2; iintro R2
  iapply (sts4 c redM 2 (RED A B c 2) ?_) $$ R2; rfl; iintro R2
  ihave ⟨R2a, R2b, R2c⟩ := (red_split c 2) $$ R2
  iapply (wp_cw0 c 2 ?_) $$ HI Ow R2a; exact ⟨rfl, by decide, dev12_eq c, rfl, rfl⟩; iintro Ow
  simp only [wp_ret]; imodintro
  simp only [k0_part15_eq_skeleton]
  unfold k0_part15_skel
  simp only [Prog.lift, Prog.bind_op, Prog.bind_ret, Prog.pure_eq_ret]
  iapply (wp_ccw0 c 2 ?_) $$ HI Ow R2b; exact ⟨rfl, by decide, dev13_eq c, rfl, rfl⟩; iintro Ow
  iapply (put c (.own 2) 5 ?_) $$ Out R2c S5; exact ⟨rfl, by decide, rfl, rfl⟩; iintro Out F5
  iapply (snt c (.ys 3) ?_) $$ HI Ow; exact ⟨rfl, by decide, by decide, rfl, rfl⟩; iintro Ow
  simp only [wp_ret]; imodintro
  simp only [k0_part16_eq_skeleton]
  unfold k0_part16_skel
  simp only [Prog.lift, Prog.bind_op, Prog.bind_ret, Prog.pure_eq_ret]
  iapply (rcv c (.ys 3) ?_) $$ HI Ow Rx; exact ⟨rfl, by decide, by decide, rfl, rfl⟩; iintro Ow Rx Gy3
  ihave Gy3 := (got_ys c 3) $$ Gy3
  iapply (wp_lds c shapeCasts_S1024x256_S1x1024x256) $$ R3; iintro R3
  iapply (wp_lds c shapeCasts_S1024x256_S1x1024x256) $$ Gy3; iintro Gy3
  iapply (wp_lds c shapeCasts_S1024x256_S1x1024x256) $$ R3; iintro R3
  iapply (sts4 c redM 3 (RED A B c 3) ?_) $$ R3; rfl; iintro R3
  ihave ⟨R3a, R3b, R3c⟩ := (red_split c 3) $$ R3
  iapply (wp_cw0 c 3 ?_) $$ HI Ow R3a; exact ⟨rfl, by decide, dev14_eq c, rfl, rfl⟩; iintro Ow
  simp only [wp_ret]; imodintro
  simp only [k0_part17_eq_skeleton]
  unfold k0_part17_skel
  simp only [Prog.lift, Prog.bind_op, Prog.bind_ret, Prog.pure_eq_ret]
  iapply (wp_ccw0 c 3 ?_) $$ HI Ow R3b; exact ⟨rfl, by decide, dev15_eq c, rfl, rfl⟩; iintro Ow
  iapply (put c (.own 3) 6 ?_) $$ Out R3c S6; exact ⟨rfl, by decide, rfl, rfl⟩; iintro Out F6
  simp only [wp_ret]; imodintro
  iapply HQ $$ %_ Ow Rx Out Gy0 Gy1 Gy2 Gy3 F3 F4 F5 F6

/-- The first hop received, and sent on. -/
theorem parts18_24 {Q : PUnit → sProp (MT nD τ sig Unit (Elt F) ℕ UU ℕ)} (v5 v35 v38 v51 v54 : BitVec 32) :
    Inv A B K ⊢ iprop(Ow A B c 15 4
      -∗ Rx (F := F) c 4
      -∗ (∀ v, Ow A B c 22 4 -∗ Rx (F := F) c 12 -∗ lent A B c (.ring 0 0 false) -∗ lent A B c (.ring 0 0 true) -∗ lent A B c (.ring 0 1 false) -∗ lent A B c (.ring 0 1 true) -∗ lent A B c (.ring 0 2 false) -∗ lent A B c (.ring 0 2 true) -∗ lent A B c (.ring 0 3 false) -∗ lent A B c (.ring 0 3 true) -∗ sent A B c (.ring 1 3 true) -∗ Q v)
      -∗ wp frame (wpE (defs₀ (F := F)) 𝒱₀ (c : Thread nD τ) none) Set.univ (at₀ (k0_part18 (F := F)) c v5 v35 v38 v51 v54) fun _ =>
        wp frame (wpE (defs₀ (F := F)) 𝒱₀ (c : Thread nD τ) none) Set.univ (at₀ (k0_part19 (F := F)) c v5 v35 v38 v51 v54) fun _ =>
        wp frame (wpE (defs₀ (F := F)) 𝒱₀ (c : Thread nD τ) none) Set.univ (at₀ (k0_part20 (F := F)) c v5 v35 v38 v51 v54) fun _ =>
        wp frame (wpE (defs₀ (F := F)) 𝒱₀ (c : Thread nD τ) none) Set.univ (at₀ (k0_part21 (F := F)) c v5 v35 v38 v51 v54) fun r21 =>
        wp frame (wpE (defs₀ (F := F)) 𝒱₀ (c : Thread nD τ) none) Set.univ (at₀ (k0_part22 (F := F)) c v5 v38 v51 v54 r21.1 r21.2) fun _ =>
        wp frame (wpE (defs₀ (F := F)) 𝒱₀ (c : Thread nD τ) none) Set.univ (at₀ (k0_part23 (F := F)) c v5 v35 v38) fun _ =>
        wp frame (wpE (defs₀ (F := F)) 𝒱₀ (c : Thread nD τ) none) Set.univ (at₀ (k0_part24 (F := F)) c v5 v51 v54) Q) := by
  iintro #HI Ow Rx HQ
  simp only [k0_part18_eq_skeleton]
  unfold k0_part18_skel
  simp only [Prog.lift, Prog.bind_op, Prog.bind_ret, Prog.pure_eq_ret]
  iapply (rcv c (.ring 0 0 false) ?_) $$ HI Ow Rx; exact ⟨rfl, by decide, by decide, rfl, rfl⟩; iintro Ow Rx Ga00
  ihave ⟨Ga00s, Ga00⟩ := (got_split0 c 0 false) $$ Ga00
  iapply (wp_cw1 c 0 ?_) $$ HI Ow Ga00s; exact ⟨rfl, by decide, dev16_eq c, rfl, rfl⟩; iintro Ow
  simp only [wp_ret]; imodintro
  simp only [k0_part19_eq_skeleton]
  unfold k0_part19_skel
  simp only [Prog.lift, Prog.bind_op, Prog.bind_ret, Prog.pure_eq_ret]
  iapply (rcv c (.ring 0 0 true) ?_) $$ HI Ow Rx; exact ⟨rfl, by decide, by decide, rfl, rfl⟩; iintro Ow Rx Gb00
  ihave ⟨Gb00s, Gb00⟩ := (got_split0 c 0 true) $$ Gb00
  iapply (wp_ccw1 c 0 ?_) $$ HI Ow Gb00s; exact ⟨rfl, by decide, dev17_eq c, rfl, rfl⟩; iintro Ow
  iapply (rcv c (.ring 0 1 false) ?_) $$ HI Ow Rx; exact ⟨rfl, by decide, by decide, rfl, rfl⟩; iintro Ow Rx Ga01
  ihave ⟨Ga01s, Ga01⟩ := (got_split0 c 1 false) $$ Ga01
  simp only [wp_ret]; imodintro
  simp only [k0_part20_eq_skeleton]
  unfold k0_part20_skel
  simp only [Prog.lift, Prog.bind_op, Prog.bind_ret, Prog.pure_eq_ret]
  iapply (wp_cw1 c 1 ?_) $$ HI Ow Ga01s; exact ⟨rfl, by decide, dev18_eq c, rfl, rfl⟩; iintro Ow
  iapply (rcv c (.ring 0 1 true) ?_) $$ HI Ow Rx; exact ⟨rfl, by decide, by decide, rfl, rfl⟩; iintro Ow Rx Gb01
  ihave ⟨Gb01s, Gb01⟩ := (got_split0 c 1 true) $$ Gb01
  simp only [wp_ret]; imodintro
  simp only [k0_part21_eq_skeleton]
  unfold k0_part21_skel
  simp only [Prog.lift, Prog.bind_op, Prog.bind_ret, Prog.pure_eq_ret]
  iapply (wp_ccw1 c 1 ?_) $$ HI Ow Gb01s; exact ⟨rfl, by decide, dev19_eq c, rfl, rfl⟩; iintro Ow
  iapply (rcv c (.ring 0 2 false) ?_) $$ HI Ow Rx; exact ⟨rfl, by decide, by decide, rfl, rfl⟩; iintro Ow Rx Ga02
  ihave ⟨Ga02s, Ga02⟩ := (got_split0 c 2 false) $$ Ga02
  simp only [wp_ret]; imodintro
  simp only [k0_part22_eq_skeleton]
  unfold k0_part22_skel
  simp only [Prog.lift, Prog.bind_op, Prog.bind_ret, Prog.pure_eq_ret]
  iapply (wp_cw1 c 2 ?_) $$ HI Ow Ga02s; exact ⟨rfl, by decide, dev20_eq c, rfl, rfl⟩; iintro Ow
  iapply (rcv c (.ring 0 2 true) ?_) $$ HI Ow Rx; exact ⟨rfl, by decide, by decide, rfl, rfl⟩; iintro Ow Rx Gb02
  ihave ⟨Gb02s, Gb02⟩ := (got_split0 c 2 true) $$ Gb02
  simp only [wp_ret]; imodintro
  simp only [k0_part23_eq_skeleton]
  unfold k0_part23_skel
  simp only [Prog.lift, Prog.bind_op, Prog.bind_ret, Prog.pure_eq_ret]
  iapply (wp_ccw1 c 2 ?_) $$ HI Ow Gb02s; exact ⟨rfl, by decide, dev21_eq c, rfl, rfl⟩; iintro Ow
  iapply (rcv c (.ring 0 3 false) ?_) $$ HI Ow Rx; exact ⟨rfl, by decide, by decide, rfl, rfl⟩; iintro Ow Rx Ga03
  ihave ⟨Ga03s, Ga03⟩ := (got_split0 c 3 false) $$ Ga03
  simp only [wp_ret]; imodintro
  simp only [k0_part24_eq_skeleton]
  unfold k0_part24_skel
  simp only [Prog.lift, Prog.bind_op, Prog.bind_ret, Prog.pure_eq_ret]
  iapply (wp_cw1 c 3 ?_) $$ HI Ow Ga03s; exact ⟨rfl, by decide, dev22_eq c, rfl, rfl⟩; iintro Ow
  iapply (rcv c (.ring 0 3 true) ?_) $$ HI Ow Rx; exact ⟨rfl, by decide, by decide, rfl, rfl⟩; iintro Ow Rx Gb03
  ihave ⟨Gb03s, Gb03⟩ := (got_split0 c 3 true) $$ Gb03
  simp only [wp_ret]; imodintro
  iapply HQ $$ %_ Ow Rx Ga00 Gb00 Ga01 Gb01 Ga02 Gb02 Ga03 Gb03 Gb03s

end
end Cert.Wgrad
-- ==== Proof.Ring2.lean ====
/- The far chunk's products, and the second hop of the ring. -/
module

public import proofs.«01_k».proof.Proof.Families

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → Vec F S2048x2048 .f32} {B : Dev nD → Vec F S2048x8192 .f32} {K : CK → ℕ} (c : Dev nD)

/-- The products of the far chunk; the first hop into the result. -/
theorem parts25_33 {Q : PUnit → sProp (MT nD τ sig Unit (Elt F) ℕ UU ℕ)} (v2 v8 v55 v11 v5 v35 v38 : BitVec 32) :
    Inv A B K ⊢ iprop(Ow A B c 22 4
      -∗ Rx (F := F) c 12
      -∗ Out A B c 4 0
      -∗ sent A B c (.ring 1 3 true)
      -∗ Ldg c 2 (dyM).view.dmaCredit iprop(owns (c : Thread nD τ) dyM fullShare (DF B c) ∗ owns (c : Thread nD τ) (a1fM c) fullShare (DF B c))
      -∗ owns (c : Thread nD τ) (xpM) fullShare (XP A c)
      -∗ owns (c : Thread nD τ) (xmM) fullShare (XM A c)
      -∗ (∃ X, owns (c : Thread nD τ) (sl2 y4sM 0) fullShare X)
      -∗ (∃ X, owns (c : Thread nD τ) (sl2 y4sM 1) fullShare X)
      -∗ (∃ X, owns (c : Thread nD τ) (sl2 red4M 0) fullShare X)
      -∗ (∃ X, owns (c : Thread nD τ) (sl2 red4M 1) fullShare X)
      -∗ Fly A B c 3 (.own 0)
      -∗ Fly A B c 4 (.own 1)
      -∗ Fly A B c 5 (.own 2)
      -∗ Fly A B c 6 (.own 3)
      -∗ lent A B c (.ring 0 0 false)
      -∗ lent A B c (.ring 0 0 true)
      -∗ lent A B c (.ring 0 1 false)
      -∗ lent A B c (.ring 0 1 true)
      -∗ lent A B c (.ring 0 2 false)
      -∗ lent A B c (.ring 0 2 true)
      -∗ lent A B c (.ring 0 3 false)
      -∗ lent A B c (.ring 0 3 true)
      -∗ (∀ v, Ow A B c 25 4 -∗ Rx (F := F) c 13 -∗ Out A B c 12 8 -∗ sent A B c (.ring 2 0 false) -∗ lent A B c (.ring 1 0 false) -∗ semVal ((c : Thread nD τ), SemLoc.dma (lsem 2)) 0 -∗ owns (c : Thread nD τ) (dyM) fullShare (DF B c) -∗ owns (c : Thread nD τ) ((a1fM c)) fullShare (DF B c) -∗ owns (c : Thread nD τ) (xpM) fullShare (XP A c) -∗ owns (c : Thread nD τ) (xmM) fullShare (XM A c) -∗ owns (c : Thread nD τ) (sl2 red4M 0) fullShare (OWN4 A B c 0) -∗ owns (c : Thread nD τ) (sl2 red4M 1) fullShare (OWN4 A B c 1) -∗ Fly A B c 3 (.ring 0 2 false) -∗ Fly A B c 4 (.ring 0 2 true) -∗ Fly A B c 5 (.ring 0 3 false) -∗ Fly A B c 6 (.ring 0 3 true) -∗ Q v)
      -∗ wp frame (wpE (defs₀ (F := F)) 𝒱₀ (c : Thread nD τ) none) Set.univ (at₀ (k0_part25 (F := F)) c v2 v8 v55) fun r25 =>
        wp frame (wpE (defs₀ (F := F)) 𝒱₀ (c : Thread nD τ) none) Set.univ (at₀ (k0_part26 (F := F)) c v2 v8 v55 r25.1 r25.2) fun r26 =>
        wp frame (wpE (defs₀ (F := F)) 𝒱₀ (c : Thread nD τ) none) Set.univ (at₀ (k0_part27 (F := F)) c v11 r26.1 r26.2) fun r27 =>
        wp frame (wpE (defs₀ (F := F)) 𝒱₀ (c : Thread nD τ) none) Set.univ (at₀ (k0_part28 (F := F)) c v11 r27) fun r28 =>
        wp frame (wpE (defs₀ (F := F)) 𝒱₀ (c : Thread nD τ) none) Set.univ (at₀ (k0_part29 (F := F)) c v11 r28.1 r28.2.1 r28.2.2.1 r28.2.2.2.1 r28.2.2.2.2) fun _ =>
        wp frame (wpE (defs₀ (F := F)) 𝒱₀ (c : Thread nD τ) none) Set.univ (at₀ (k0_part30 (F := F)) c v11) fun _ =>
        wp frame (wpE (defs₀ (F := F)) 𝒱₀ (c : Thread nD τ) none) Set.univ (at₀ (k0_part31 (F := F)) c v11) fun r31 =>
        wp frame (wpE (defs₀ (F := F)) 𝒱₀ (c : Thread nD τ) none) Set.univ (at₀ (k0_part32 (F := F)) c v11 r31.1 r31.2) fun r32 =>
        wp frame (wpE (defs₀ (F := F)) 𝒱₀ (c : Thread nD τ) none) Set.univ (at₀ (k0_part33 (F := F)) c v5 v35 v38 r32.1 r32.2.1 r32.2.2.1 r32.2.2.2) Q) := by
  iintro #HI Ow Rx Out Gb03s Ld XP XM Z0 Z1 D0 D1 F3 F4 F5 F6 Ga00 Gb00 Ga01 Gb01 Ga02 Gb02 Ga03 Gb03 HQ
  icases Z0 with ⟨%z0, Z0⟩
  icases Z1 with ⟨%z1, Z1⟩
  icases D0 with ⟨%d0, D0⟩
  icases D1 with ⟨%d1, D1⟩
  simp only [k0_part25_eq_skeleton]
  unfold k0_part25_skel
  simp only [Prog.lift, Prog.bind_op, Prog.bind_ret, Prog.pure_eq_ret]
  iapply (wp_ccw1 c 3 ?_) $$ HI Ow Gb03s; exact ⟨rfl, by decide, dev23_eq c, rfl, rfl⟩; iintro Ow
  iapply (lw c 2 ?_) $$ HI Ow Ld; exact ⟨by decide, rfl, rfl⟩; iintro Ow ⟨DY, A1⟩ S2
  iapply (wp_ld c) $$ XP; iintro XP
  iapply (wp_ld c) $$ DY; iintro DY
  iapply (wp_lds c shapeCasts_S1024x512_S1x1024x512) $$ Z0; iintro Z0
  iapply (sts2 c y4sM 0 (Y4 A B c 0) ?_) $$ Z0; rfl; iintro Z0
  iapply (wp_y4 c 0 ?_) $$ HI Ow Z0; exact ⟨rfl, by decide, dev24_eq c, rfl, rfl⟩; iintro Ow
  iapply (wp_ld c) $$ XM; iintro XM
  iapply (wp_ld c) $$ DY; iintro DY
  simp only [wp_ret]; imodintro
  simp only [k0_part26_eq_skeleton]
  unfold k0_part26_skel
  simp only [Prog.lift, Prog.bind_op, Prog.bind_ret, Prog.pure_eq_ret]
  iapply (wp_lds c shapeCasts_S1024x512_S1x1024x512) $$ D0; iintro D0
  iapply (sts2 c red4M 0 (OWN4 A B c 0) ?_) $$ D0; rfl; iintro D0
  iapply (wp_ld c) $$ XP; iintro XP
  iapply (wp_ld c) $$ DY; iintro DY
  iapply (wp_lds c shapeCasts_S1024x512_S1x1024x512) $$ Z1; iintro Z1
  iapply (sts2 c y4sM 1 (Y4 A B c 1) ?_) $$ Z1; rfl; iintro Z1
  iapply (wp_y4 c 1 ?_) $$ HI Ow Z1; exact ⟨rfl, by decide, dev25_eq c, rfl, rfl⟩; iintro Ow
  iapply (wp_ld c) $$ XM; iintro XM
  iapply (wp_ld c) $$ DY; iintro DY
  simp only [wp_ret]; imodintro
  simp only [k0_part27_eq_skeleton]
  unfold k0_part27_skel
  simp only [Prog.lift, Prog.bind_op, Prog.bind_ret, Prog.pure_eq_ret]
  iapply (wp_lds c shapeCasts_S1024x512_S1x1024x512) $$ D1; iintro D1
  iapply (sts2 c red4M 1 (OWN4 A B c 1) ?_) $$ D1; rfl; iintro D1
  iapply (putw c (.own 0) 3 ?_) $$ HI Ow Out F3; exact ⟨by decide, rfl, by decide, rfl, rfl⟩; iintro Ow Out S3
  iapply (put c (.ring 0 0 false) 3 ?_) $$ Out Ga00 S3; exact ⟨rfl, by decide, rfl, rfl⟩; iintro Out F3
  simp only [wp_ret]; imodintro
  simp only [k0_part28_eq_skeleton]
  unfold k0_part28_skel
  simp only [Prog.lift, Prog.bind_op, Prog.bind_ret, Prog.pure_eq_ret]
  iapply (putw c (.own 1) 4 ?_) $$ HI Ow Out F4; exact ⟨by decide, rfl, by decide, rfl, rfl⟩; iintro Ow Out S4
  iapply (put c (.ring 0 0 true) 4 ?_) $$ Out Gb00 S4; exact ⟨rfl, by decide, rfl, rfl⟩; iintro Out F4
  simp only [wp_ret]; imodintro
  simp only [k0_part29_eq_skeleton]
  unfold k0_part29_skel
  simp only [Prog.lift, Prog.bind_op, Prog.bind_ret, Prog.pure_eq_ret]
  iapply (putw c (.own 2) 5 ?_) $$ HI Ow Out F5; exact ⟨by decide, rfl, by decide, rfl, rfl⟩; iintro Ow Out S5
  iapply (put c (.ring 0 1 false) 5 ?_) $$ Out Ga01 S5; exact ⟨rfl, by decide, rfl, rfl⟩; iintro Out F5
  simp only [wp_ret]; imodintro
  simp only [k0_part30_eq_skeleton]
  unfold k0_part30_skel
  simp only [Prog.lift, Prog.bind_op, Prog.bind_ret, Prog.pure_eq_ret]
  iapply (putw c (.own 3) 6 ?_) $$ HI Ow Out F6; exact ⟨by decide, rfl, by decide, rfl, rfl⟩; iintro Ow Out S6
  iapply (put c (.ring 0 1 true) 6 ?_) $$ Out Gb01 S6; exact ⟨rfl, by decide, rfl, rfl⟩; iintro Out F6
  iapply (putw c (.ring 0 0 false) 3 ?_) $$ HI Ow Out F3; exact ⟨by decide, rfl, by decide, rfl, rfl⟩; iintro Ow Out S3
  simp only [wp_ret]; imodintro
  simp only [k0_part31_eq_skeleton]
  unfold k0_part31_skel
  simp only [Prog.lift, Prog.bind_op, Prog.bind_ret, Prog.pure_eq_ret]
  iapply (put c (.ring 0 2 false) 3 ?_) $$ Out Ga02 S3; exact ⟨rfl, by decide, rfl, rfl⟩; iintro Out F3
  iapply (putw c (.ring 0 0 true) 4 ?_) $$ HI Ow Out F4; exact ⟨by decide, rfl, by decide, rfl, rfl⟩; iintro Ow Out S4
  iapply (put c (.ring 0 2 true) 4 ?_) $$ Out Gb02 S4; exact ⟨rfl, by decide, rfl, rfl⟩; iintro Out F4
  simp only [wp_ret]; imodintro
  simp only [k0_part32_eq_skeleton]
  unfold k0_part32_skel
  simp only [Prog.lift, Prog.bind_op, Prog.bind_ret, Prog.pure_eq_ret]
  iapply (putw c (.ring 0 1 false) 5 ?_) $$ HI Ow Out F5; exact ⟨by decide, rfl, by decide, rfl, rfl⟩; iintro Ow Out S5
  iapply (put c (.ring 0 3 false) 5 ?_) $$ Out Ga03 S5; exact ⟨rfl, by decide, rfl, rfl⟩; iintro Out F5
  simp only [wp_ret]; imodintro
  simp only [k0_part33_eq_skeleton]
  unfold k0_part33_skel
  simp only [Prog.lift, Prog.bind_op, Prog.bind_ret, Prog.pure_eq_ret]
  iapply (putw c (.ring 0 1 true) 6 ?_) $$ HI Ow Out F6; exact ⟨by decide, rfl, by decide, rfl, rfl⟩; iintro Ow Out S6
  iapply (put c (.ring 0 3 true) 6 ?_) $$ Out Gb03 S6; exact ⟨rfl, by decide, rfl, rfl⟩; iintro Out F6
  iapply (rcv c (.ring 1 0 false) ?_) $$ HI Ow Rx; exact ⟨rfl, by decide, by decide, rfl, rfl⟩; iintro Ow Rx Ga10
  ihave ⟨Ga10s, Ga10⟩ := (got_split1 c 0 false) $$ Ga10
  simp only [wp_ret]; imodintro
  iapply HQ $$ %_ Ow Rx Out Ga10s Ga10 S2 DY A1 XP XM D0 D1 F3 F4 F5 F6

/-- The second hop received, and sent on. -/
theorem parts34_40 {Q : BitVec 32 → sProp (MT nD τ sig Unit (Elt F) ℕ UU ℕ)} (v5 v35 v38 v51 v54 : BitVec 32) :
    Inv A B K ⊢ iprop(Ow A B c 25 4
      -∗ Rx (F := F) c 13
      -∗ sent A B c (.ring 2 0 false)
      -∗ (∀ v, Ow A B c 33 4 -∗ Rx (F := F) c 20 -∗ lent A B c (.ring 1 0 true) -∗ lent A B c (.ring 1 1 false) -∗ lent A B c (.ring 1 1 true) -∗ lent A B c (.ring 1 2 false) -∗ lent A B c (.ring 1 2 true) -∗ lent A B c (.ring 1 3 false) -∗ lent A B c (.ring 1 3 true) -∗ Q v)
      -∗ wp frame (wpE (defs₀ (F := F)) 𝒱₀ (c : Thread nD τ) none) Set.univ (at₀ (k0_part34 (F := F)) c v5 v35 v38 v51 v54) fun _ =>
        wp frame (wpE (defs₀ (F := F)) 𝒱₀ (c : Thread nD τ) none) Set.univ (at₀ (k0_part35 (F := F)) c v5 v35 v38 v51 v54) fun r35 =>
        wp frame (wpE (defs₀ (F := F)) 𝒱₀ (c : Thread nD τ) none) Set.univ (at₀ (k0_part36 (F := F)) c v5 v38 v51 v54 r35) fun r36 =>
        wp frame (wpE (defs₀ (F := F)) 𝒱₀ (c : Thread nD τ) none) Set.univ (at₀ (k0_part37 (F := F)) c v5 v35 v38 v54 r36.1 r36.2) fun _ =>
        wp frame (wpE (defs₀ (F := F)) 𝒱₀ (c : Thread nD τ) none) Set.univ (at₀ (k0_part38 (F := F)) c v5 v51 v54) fun _ =>
        wp frame (wpE (defs₀ (F := F)) 𝒱₀ (c : Thread nD τ) none) Set.univ (at₀ (k0_part39 (F := F)) c v5 v35 v38) fun _ =>
        wp frame (wpE (defs₀ (F := F)) 𝒱₀ (c : Thread nD τ) none) Set.univ (at₀ (k0_part40 (F := F)) c v5 v51 v54) Q) := by
  iintro #HI Ow Rx Ga10s HQ
  simp only [k0_part34_eq_skeleton]
  unfold k0_part34_skel
  simp only [Prog.lift, Prog.bind_op, Prog.bind_ret, Prog.pure_eq_ret]
  iapply (wp_cw2 c 0 ?_) $$ HI Ow Ga10s; exact ⟨rfl, by decide, dev26_eq c, rfl, rfl⟩; iintro Ow
  iapply (rcv c (.ring 1 0 true) ?_) $$ HI Ow Rx; exact ⟨rfl, by decide, by decide, rfl, rfl⟩; iintro Ow Rx Gb10
  ihave ⟨Gb10s, Gb10⟩ := (got_split1 c 0 true) $$ Gb10
  simp only [wp_ret]; imodintro
  simp only [k0_part35_eq_skeleton]
  unfold k0_part35_skel
  simp only [Prog.lift, Prog.bind_op, Prog.bind_ret, Prog.pure_eq_ret]
  iapply (wp_ccw2 c 0 ?_) $$ HI Ow Gb10s; exact ⟨rfl, by decide, dev27_eq c, rfl, rfl⟩; iintro Ow
  iapply (rcv c (.ring 1 1 false) ?_) $$ HI Ow Rx; exact ⟨rfl, by decide, by decide, rfl, rfl⟩; iintro Ow Rx Ga11
  ihave ⟨Ga11s, Ga11⟩ := (got_split1 c 1 false) $$ Ga11
  simp only [wp_ret]; imodintro
  simp only [k0_part36_eq_skeleton]
  unfold k0_part36_skel
  simp only [Prog.lift, Prog.bind_op, Prog.bind_ret, Prog.pure_eq_ret]
  iapply (wp_cw2 c 1 ?_) $$ HI Ow Ga11s; exact ⟨rfl, by decide, dev28_eq c, rfl, rfl⟩; iintro Ow
  iapply (rcv c (.ring 1 1 true) ?_) $$ HI Ow Rx; exact ⟨rfl, by decide, by decide, rfl, rfl⟩; iintro Ow Rx Gb11
  ihave ⟨Gb11s, Gb11⟩ := (got_split1 c 1 true) $$ Gb11
  simp only [wp_ret]; imodintro
  simp only [k0_part37_eq_skeleton]
  unfold k0_part37_skel
  simp only [Prog.lift, Prog.bind_op, Prog.bind_ret, Prog.pure_eq_ret]
  iapply (wp_ccw2 c 1 ?_) $$ HI Ow Gb11s; exact ⟨rfl, by decide, dev29_eq c, rfl, rfl⟩; iintro Ow
  iapply (rcv c (.ring 1 2 false) ?_) $$ HI Ow Rx; exact ⟨rfl, by decide, by decide, rfl, rfl⟩; iintro Ow Rx Ga12
  ihave ⟨Ga12s, Ga12⟩ := (got_split1 c 2 false) $$ Ga12
  simp only [wp_ret]; imodintro
  simp only [k0_part38_eq_skeleton]
  unfold k0_part38_skel
  simp only [Prog.lift, Prog.bind_op, Prog.bind_ret, Prog.pure_eq_ret]
  iapply (wp_cw2 c 2 ?_) $$ HI Ow Ga12s; exact ⟨rfl, by decide, dev30_eq c, rfl, rfl⟩; iintro Ow
  iapply (rcv c (.ring 1 2 true) ?_) $$ HI Ow Rx; exact ⟨rfl, by decide, by decide, rfl, rfl⟩; iintro Ow Rx Gb12
  ihave ⟨Gb12s, Gb12⟩ := (got_split1 c 2 true) $$ Gb12
  simp only [wp_ret]; imodintro
  simp only [k0_part39_eq_skeleton]
  unfold k0_part39_skel
  simp only [Prog.lift, Prog.bind_op, Prog.bind_ret, Prog.pure_eq_ret]
  iapply (wp_ccw2 c 2 ?_) $$ HI Ow Gb12s; exact ⟨rfl, by decide, dev31_eq c, rfl, rfl⟩; iintro Ow
  iapply (rcv c (.ring 1 3 false) ?_) $$ HI Ow Rx; exact ⟨rfl, by decide, by decide, rfl, rfl⟩; iintro Ow Rx Ga13
  ihave ⟨Ga13s, Ga13⟩ := (got_split1 c 3 false) $$ Ga13
  simp only [wp_ret]; imodintro
  simp only [k0_part40_eq_skeleton]
  unfold k0_part40_skel
  simp only [Prog.lift, Prog.bind_op, Prog.bind_ret, Prog.pure_eq_ret]
  iapply (wp_cw2 c 3 ?_) $$ HI Ow Ga13s; exact ⟨rfl, by decide, dev32_eq c, rfl, rfl⟩; iintro Ow
  iapply (rcv c (.ring 1 3 true) ?_) $$ HI Ow Rx; exact ⟨rfl, by decide, by decide, rfl, rfl⟩; iintro Ow Rx Gb13
  ihave ⟨Gb13s, Gb13⟩ := (got_split1 c 3 true) $$ Gb13
  iapply (wp_ccw2 c 3 ?_) $$ HI Ow Gb13s; exact ⟨rfl, by decide, dev33_eq c, rfl, rfl⟩; iintro Ow
  simp only [wp_ret]; imodintro
  iapply HQ $$ %_ Ow Rx Gb10 Ga11 Gb11 Ga12 Gb12 Ga13 Gb13

end
end Cert.Wgrad
-- ==== Proof.Ring3.lean ====
/- The stores of the hops into the result, and the waits at the end. -/
module

public import proofs.«01_k».proof.Proof.Families

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → Vec F S2048x2048 .f32} {B : Dev nD → Vec F S2048x8192 .f32} {K : CK → ℕ} (c : Dev nD)

/-- The second hop into the result; the third received. -/
theorem parts41_50 {Q : BitVec 32 → sProp (MT nD τ sig Unit (Elt F) ℕ UU ℕ)} (v11 c1_i32_1102 v5 v35 v38 v51 v54 : BitVec 32) :
    Inv A B K ⊢ iprop(Ow A B c 33 4
      -∗ Rx (F := F) c 20
      -∗ Out A B c 12 8
      -∗ lent A B c (.ring 1 0 false)
      -∗ lent A B c (.ring 1 0 true)
      -∗ lent A B c (.ring 1 1 false)
      -∗ lent A B c (.ring 1 1 true)
      -∗ lent A B c (.ring 1 2 false)
      -∗ lent A B c (.ring 1 2 true)
      -∗ lent A B c (.ring 1 3 false)
      -∗ lent A B c (.ring 1 3 true)
      -∗ Fly A B c 3 (.ring 0 2 false)
      -∗ Fly A B c 4 (.ring 0 2 true)
      -∗ Fly A B c 5 (.ring 0 3 false)
      -∗ Fly A B c 6 (.ring 0 3 true)
      -∗ (∀ v, Ow A B c 33 4 -∗ Rx (F := F) c 28 -∗ Out A B c 20 16 -∗ lent A B c (.ring 2 0 false) -∗ lent A B c (.ring 2 0 true) -∗ lent A B c (.ring 2 1 false) -∗ lent A B c (.ring 2 1 true) -∗ lent A B c (.ring 2 2 false) -∗ lent A B c (.ring 2 2 true) -∗ lent A B c (.ring 2 3 false) -∗ lent A B c (.ring 2 3 true) -∗ Fly A B c 3 (.ring 1 2 false) -∗ Fly A B c 4 (.ring 1 2 true) -∗ Fly A B c 5 (.ring 1 3 false) -∗ Fly A B c 6 (.ring 1 3 true) -∗ Q v)
      -∗ wp frame (wpE (defs₀ (F := F)) 𝒱₀ (c : Thread nD τ) none) Set.univ (at₀ (k0_part41 (F := F)) c v11 c1_i32_1102) fun r41 =>
        wp frame (wpE (defs₀ (F := F)) 𝒱₀ (c : Thread nD τ) none) Set.univ (at₀ (k0_part42 (F := F)) c v11 r41.1 r41.2.1 r41.2.2.1 r41.2.2.2) fun _ =>
        wp frame (wpE (defs₀ (F := F)) 𝒱₀ (c : Thread nD τ) none) Set.univ (at₀ (k0_part43 (F := F)) c v11) fun _ =>
        wp frame (wpE (defs₀ (F := F)) 𝒱₀ (c : Thread nD τ) none) Set.univ (at₀ (k0_part44 (F := F)) c v11) fun r44 =>
        wp frame (wpE (defs₀ (F := F)) 𝒱₀ (c : Thread nD τ) none) Set.univ (at₀ (k0_part45 (F := F)) c v11 r44) fun r45 =>
        wp frame (wpE (defs₀ (F := F)) 𝒱₀ (c : Thread nD τ) none) Set.univ (at₀ (k0_part46 (F := F)) c v11 r45.1 r45.2.1 r45.2.2.1 r45.2.2.2) fun _ =>
        wp frame (wpE (defs₀ (F := F)) 𝒱₀ (c : Thread nD τ) none) Set.univ (at₀ (k0_part47 (F := F)) c v5 v35 v38 v51) fun r47 =>
        wp frame (wpE (defs₀ (F := F)) 𝒱₀ (c : Thread nD τ) none) Set.univ (at₀ (k0_part48 (F := F)) v5 v35 v38 v51 v54 r47) fun _ =>
        wp frame (wpE (defs₀ (F := F)) 𝒱₀ (c : Thread nD τ) none) Set.univ (at₀ (k0_part49 (F := F)) v5 v35 v38 v51 v54) fun _ =>
        wp frame (wpE (defs₀ (F := F)) 𝒱₀ (c : Thread nD τ) none) Set.univ (at₀ (k0_part50 (F := F)) v5 v35 v38 v51 v54) Q) := by
  iintro #HI Ow Rx Out Ga10 Gb10 Ga11 Gb11 Ga12 Gb12 Ga13 Gb13 F3 F4 F5 F6 HQ
  simp only [k0_part41_eq_skeleton]
  unfold k0_part41_skel
  simp only [Prog.lift, Prog.bind_op, Prog.bind_ret, Prog.pure_eq_ret]
  iapply (putw c (.ring 0 2 false) 3 ?_) $$ HI Ow Out F3; exact ⟨by decide, rfl, by decide, rfl, rfl⟩; iintro Ow Out S3
  iapply (put c (.ring 1 0 false) 3 ?_) $$ Out Ga10 S3; exact ⟨rfl, by decide, rfl, rfl⟩; iintro Out F3
  simp only [wp_ret]; imodintro
  simp only [k0_part42_eq_skeleton]
  unfold k0_part42_skel
  simp only [Prog.lift, Prog.bind_op, Prog.bind_ret, Prog.pure_eq_ret]
  iapply (putw c (.ring 0 2 true) 4 ?_) $$ HI Ow Out F4; exact ⟨by decide, rfl, by decide, rfl, rfl⟩; iintro Ow Out S4
  iapply (put c (.ring 1 0 true) 4 ?_) $$ Out Gb10 S4; exact ⟨rfl, by decide, rfl, rfl⟩; iintro Out F4
  simp only [wp_ret]; imodintro
  simp only [k0_part43_eq_skeleton]
  unfold k0_part43_skel
  simp only [Prog.lift, Prog.bind_op, Prog.bind_ret, Prog.pure_eq_ret]
  iapply (putw c (.ring 0 3 false) 5 ?_) $$ HI Ow Out F5; exact ⟨by decide, rfl, by decide, rfl, rfl⟩; iintro Ow Out S5
  iapply (put c (.ring 1 1 false) 5 ?_) $$ Out Ga11 S5; exact ⟨rfl, by decide, rfl, rfl⟩; iintro Out F5
  iapply (putw c (.ring 0 3 true) 6 ?_) $$ HI Ow Out F6; exact ⟨by decide, rfl, by decide, rfl, rfl⟩; iintro Ow Out S6
  simp only [wp_ret]; imodintro
  simp only [k0_part44_eq_skeleton]
  unfold k0_part44_skel
  simp only [Prog.lift, Prog.bind_op, Prog.bind_ret, Prog.pure_eq_ret]
  iapply (put c (.ring 1 1 true) 6 ?_) $$ Out Gb11 S6; exact ⟨rfl, by decide, rfl, rfl⟩; iintro Out F6
  iapply (putw c (.ring 1 0 false) 3 ?_) $$ HI Ow Out F3; exact ⟨by decide, rfl, by decide, rfl, rfl⟩; iintro Ow Out S3
  iapply (put c (.ring 1 2 false) 3 ?_) $$ Out Ga12 S3; exact ⟨rfl, by decide, rfl, rfl⟩; iintro Out F3
  simp only [wp_ret]; imodintro
  simp only [k0_part45_eq_skeleton]
  unfold k0_part45_skel
  simp only [Prog.lift, Prog.bind_op, Prog.bind_ret, Prog.pure_eq_ret]
  iapply (putw c (.ring 1 0 true) 4 ?_) $$ HI Ow Out F4; exact ⟨by decide, rfl, by decide, rfl, rfl⟩; iintro Ow Out S4
  iapply (put c (.ring 1 2 true) 4 ?_) $$ Out Gb12 S4; exact ⟨rfl, by decide, rfl, rfl⟩; iintro Out F4
  simp only [wp_ret]; imodintro
  simp only [k0_part46_eq_skeleton]
  unfold k0_part46_skel
  simp only [Prog.lift, Prog.bind_op, Prog.bind_ret, Prog.pure_eq_ret]
  iapply (putw c (.ring 1 1 false) 5 ?_) $$ HI Ow Out F5; exact ⟨by decide, rfl, by decide, rfl, rfl⟩; iintro Ow Out S5
  iapply (put c (.ring 1 3 false) 5 ?_) $$ Out Ga13 S5; exact ⟨rfl, by decide, rfl, rfl⟩; iintro Out F5
  simp only [wp_ret]; imodintro
  simp only [k0_part47_eq_skeleton]
  unfold k0_part47_skel
  simp only [Prog.lift, Prog.bind_op, Prog.bind_ret, Prog.pure_eq_ret]
  iapply (putw c (.ring 1 1 true) 6 ?_) $$ HI Ow Out F6; exact ⟨by decide, rfl, by decide, rfl, rfl⟩; iintro Ow Out S6
  iapply (put c (.ring 1 3 true) 6 ?_) $$ Out Gb13 S6; exact ⟨rfl, by decide, rfl, rfl⟩; iintro Out F6
  iapply (rcv c (.ring 2 0 false) ?_) $$ HI Ow Rx; exact ⟨rfl, by decide, by decide, rfl, rfl⟩; iintro Ow Rx Ga20
  ihave Ga20 := (got_last c 0 false) $$ Ga20
  simp only [wp_ret]; imodintro
  simp only [k0_part48_eq_skeleton]
  unfold k0_part48_skel
  simp only [Prog.lift, Prog.bind_op, Prog.bind_ret, Prog.pure_eq_ret]
  iapply (rcv c (.ring 2 0 true) ?_) $$ HI Ow Rx; exact ⟨rfl, by decide, by decide, rfl, rfl⟩; iintro Ow Rx Gb20
  ihave Gb20 := (got_last c 0 true) $$ Gb20
  iapply (rcv c (.ring 2 1 false) ?_) $$ HI Ow Rx; exact ⟨rfl, by decide, by decide, rfl, rfl⟩; iintro Ow Rx Ga21
  ihave Ga21 := (got_last c 1 false) $$ Ga21
  simp only [wp_ret]; imodintro
  simp only [k0_part49_eq_skeleton]
  unfold k0_part49_skel
  simp only [Prog.lift, Prog.bind_op, Prog.bind_ret, Prog.pure_eq_ret]
  iapply (rcv c (.ring 2 1 true) ?_) $$ HI Ow Rx; exact ⟨rfl, by decide, by decide, rfl, rfl⟩; iintro Ow Rx Gb21
  ihave Gb21 := (got_last c 1 true) $$ Gb21
  iapply (rcv c (.ring 2 2 false) ?_) $$ HI Ow Rx; exact ⟨rfl, by decide, by decide, rfl, rfl⟩; iintro Ow Rx Ga22
  ihave Ga22 := (got_last c 2 false) $$ Ga22
  simp only [wp_ret]; imodintro
  simp only [k0_part50_eq_skeleton]
  unfold k0_part50_skel
  simp only [Prog.lift, Prog.bind_op, Prog.bind_ret, Prog.pure_eq_ret]
  iapply (rcv c (.ring 2 2 true) ?_) $$ HI Ow Rx; exact ⟨rfl, by decide, by decide, rfl, rfl⟩; iintro Ow Rx Gb22
  ihave Gb22 := (got_last c 2 true) $$ Gb22
  iapply (rcv c (.ring 2 3 false) ?_) $$ HI Ow Rx; exact ⟨rfl, by decide, by decide, rfl, rfl⟩; iintro Ow Rx Ga23
  ihave Ga23 := (got_last c 3 false) $$ Ga23
  iapply (rcv c (.ring 2 3 true) ?_) $$ HI Ow Rx; exact ⟨rfl, by decide, by decide, rfl, rfl⟩; iintro Ow Rx Gb23
  ihave Gb23 := (got_last c 3 true) $$ Gb23
  simp only [wp_ret]; imodintro
  iapply HQ $$ %_ Ow Rx Out Ga20 Gb20 Ga21 Gb21 Ga22 Gb22 Ga23 Gb23 F3 F4 F5 F6

/-- The third hop into the result. -/
theorem parts51_57 {Q : PUnit → sProp (MT nD τ sig Unit (Elt F) ℕ UU ℕ)} (v11 c2_i32_1390 v2 v8 v55 : BitVec 32) :
    Inv A B K ⊢ iprop(Ow A B c 33 4
      -∗ Out A B c 20 16
      -∗ lent A B c (.ring 2 0 false)
      -∗ lent A B c (.ring 2 0 true)
      -∗ lent A B c (.ring 2 1 false)
      -∗ lent A B c (.ring 2 1 true)
      -∗ lent A B c (.ring 2 2 false)
      -∗ lent A B c (.ring 2 2 true)
      -∗ lent A B c (.ring 2 3 false)
      -∗ lent A B c (.ring 2 3 true)
      -∗ Fly A B c 3 (.ring 1 2 false)
      -∗ Fly A B c 4 (.ring 1 2 true)
      -∗ Fly A B c 5 (.ring 1 3 false)
      -∗ Fly A B c 6 (.ring 1 3 true)
      -∗ (∀ v, Ow A B c 33 5 -∗ Out A B c 28 24 -∗ Fly A B c 3 (.ring 2 2 false) -∗ Fly A B c 4 (.ring 2 2 true) -∗ Fly A B c 5 (.ring 2 3 false) -∗ Fly A B c 6 (.ring 2 3 true) -∗ Q v)
      -∗ wp frame (wpE (defs₀ (F := F)) 𝒱₀ (c : Thread nD τ) none) Set.univ (at₀ (k0_part51 (F := F)) c v11 c2_i32_1390) fun r51 =>
        wp frame (wpE (defs₀ (F := F)) 𝒱₀ (c : Thread nD τ) none) Set.univ (at₀ (k0_part52 (F := F)) c v11 r51.1 r51.2.1 r51.2.2.1 r51.2.2.2) fun _ =>
        wp frame (wpE (defs₀ (F := F)) 𝒱₀ (c : Thread nD τ) none) Set.univ (at₀ (k0_part53 (F := F)) c v11) fun _ =>
        wp frame (wpE (defs₀ (F := F)) 𝒱₀ (c : Thread nD τ) none) Set.univ (at₀ (k0_part54 (F := F)) c v11) fun r54 =>
        wp frame (wpE (defs₀ (F := F)) 𝒱₀ (c : Thread nD τ) none) Set.univ (at₀ (k0_part55 (F := F)) c v11 r54) fun r55 =>
        wp frame (wpE (defs₀ (F := F)) 𝒱₀ (c : Thread nD τ) none) Set.univ (at₀ (k0_part56 (F := F)) c v11 r55.1 r55.2.1 r55.2.2.1 r55.2.2.2) fun _ =>
        wp frame (wpE (defs₀ (F := F)) 𝒱₀ (c : Thread nD τ) none) Set.univ (at₀ (k0_part57 (F := F)) c v2 v8 v55) Q) := by
  iintro #HI Ow Out Ga20 Gb20 Ga21 Gb21 Ga22 Gb22 Ga23 Gb23 F3 F4 F5 F6 HQ
  simp only [k0_part51_eq_skeleton]
  unfold k0_part51_skel
  simp only [Prog.lift, Prog.bind_op, Prog.bind_ret, Prog.pure_eq_ret]
  iapply (putw c (.ring 1 2 false) 3 ?_) $$ HI Ow Out F3; exact ⟨by decide, rfl, by decide, rfl, rfl⟩; iintro Ow Out S3
  iapply (put c (.ring 2 0 false) 3 ?_) $$ Out Ga20 S3; exact ⟨rfl, by decide, rfl, rfl⟩; iintro Out F3
  simp only [wp_ret]; imodintro
  simp only [k0_part52_eq_skeleton]
  unfold k0_part52_skel
  simp only [Prog.lift, Prog.bind_op, Prog.bind_ret, Prog.pure_eq_ret]
  iapply (putw c (.ring 1 2 true) 4 ?_) $$ HI Ow Out F4; exact ⟨by decide, rfl, by decide, rfl, rfl⟩; iintro Ow Out S4
  iapply (put c (.ring 2 0 true) 4 ?_) $$ Out Gb20 S4; exact ⟨rfl, by decide, rfl, rfl⟩; iintro Out F4
  simp only [wp_ret]; imodintro
  simp only [k0_part53_eq_skeleton]
  unfold k0_part53_skel
  simp only [Prog.lift, Prog.bind_op, Prog.bind_ret, Prog.pure_eq_ret]
  iapply (putw c (.ring 1 3 false) 5 ?_) $$ HI Ow Out F5; exact ⟨by decide, rfl, by decide, rfl, rfl⟩; iintro Ow Out S5
  iapply (put c (.ring 2 1 false) 5 ?_) $$ Out Ga21 S5; exact ⟨rfl, by decide, rfl, rfl⟩; iintro Out F5
  iapply (putw c (.ring 1 3 true) 6 ?_) $$ HI Ow Out F6; exact ⟨by decide, rfl, by decide, rfl, rfl⟩; iintro Ow Out S6
  simp only [wp_ret]; imodintro
  simp only [k0_part54_eq_skeleton]
  unfold k0_part54_skel
  simp only [Prog.lift, Prog.bind_op, Prog.bind_ret, Prog.pure_eq_ret]
  iapply (put c (.ring 2 1 true) 6 ?_) $$ Out Gb21 S6; exact ⟨rfl, by decide, rfl, rfl⟩; iintro Out F6
  iapply (putw c (.ring 2 0 false) 3 ?_) $$ HI Ow Out F3; exact ⟨by decide, rfl, by decide, rfl, rfl⟩; iintro Ow Out S3
  iapply (put c (.ring 2 2 false) 3 ?_) $$ Out Ga22 S3; exact ⟨rfl, by decide, rfl, rfl⟩; iintro Out F3
  simp only [wp_ret]; imodintro
  simp only [k0_part55_eq_skeleton]
  unfold k0_part55_skel
  simp only [Prog.lift, Prog.bind_op, Prog.bind_ret, Prog.pure_eq_ret]
  iapply (putw c (.ring 2 0 true) 4 ?_) $$ HI Ow Out F4; exact ⟨by decide, rfl, by decide, rfl, rfl⟩; iintro Ow Out S4
  iapply (put c (.ring 2 2 true) 4 ?_) $$ Out Gb22 S4; exact ⟨rfl, by decide, rfl, rfl⟩; iintro Out F4
  simp only [wp_ret]; imodintro
  simp only [k0_part56_eq_skeleton]
  unfold k0_part56_skel
  simp only [Prog.lift, Prog.bind_op, Prog.bind_ret, Prog.pure_eq_ret]
  iapply (putw c (.ring 2 1 false) 5 ?_) $$ HI Ow Out F5; exact ⟨by decide, rfl, by decide, rfl, rfl⟩; iintro Ow Out S5
  iapply (put c (.ring 2 3 false) 5 ?_) $$ Out Ga23 S5; exact ⟨rfl, by decide, rfl, rfl⟩; iintro Out F5
  simp only [wp_ret]; imodintro
  simp only [k0_part57_eq_skeleton]
  unfold k0_part57_skel
  simp only [Prog.lift, Prog.bind_op, Prog.bind_ret, Prog.pure_eq_ret]
  iapply (putw c (.ring 2 1 true) 6 ?_) $$ HI Ow Out F6; exact ⟨by decide, rfl, by decide, rfl, rfl⟩; iintro Ow Out S6
  iapply (put c (.ring 2 3 true) 6 ?_) $$ Out Gb23 S6; exact ⟨rfl, by decide, rfl, rfl⟩; iintro Out F6
  iapply (snt c (.y4 0) ?_) $$ HI Ow; exact ⟨rfl, by decide, by decide, rfl, rfl⟩; iintro Ow
  simp only [wp_ret]; imodintro
  iapply HQ $$ %_ Ow Out F3 F4 F5 F6

/-- The sums of the far chunk, into the result. -/
theorem parts58_60 {Q : PUnit → sProp (MT nD τ sig Unit (Elt F) ℕ UU ℕ)} (v22 v2 v8 v55 : BitVec 32) :
    Inv A B K ⊢ iprop(Ow A B c 33 5
      -∗ Rx (F := F) c 28
      -∗ Out A B c 28 24
      -∗ owns (c : Thread nD τ) (sl2 red4M 0) fullShare (OWN4 A B c 0)
      -∗ owns (c : Thread nD τ) (sl2 red4M 1) fullShare (OWN4 A B c 1)
      -∗ Fly A B c 3 (.ring 2 2 false)
      -∗ Fly A B c 4 (.ring 2 2 true)
      -∗ Fly A B c 5 (.ring 2 3 false)
      -∗ Fly A B c 6 (.ring 2 3 true)
      -∗ (∀ v, Ow A B c 33 8 -∗ Rx (F := F) c 30 -∗ Out A B c 30 26 -∗ owns (c : Thread nD τ) (sl2 y4rM 0) fullShare (Y4 A B (partner c) 0) -∗ owns (c : Thread nD τ) (sl2 y4rM 1) fullShare (Y4 A B (partner c) 1) -∗ Fly A B c 5 (.ring 2 3 false) -∗ Fly A B c 6 (.ring 2 3 true) -∗ Fly A B c 3 (.far 0) -∗ Fly A B c 4 (.far 1) -∗ Q v)
      -∗ wp frame (wpE (defs₀ (F := F)) 𝒱₀ (c : Thread nD τ) none) Set.univ (at₀ (k0_part58 (F := F)) c v22) fun _ =>
        wp frame (wpE (defs₀ (F := F)) 𝒱₀ (c : Thread nD τ) none) Set.univ (at₀ (k0_part59 (F := F)) v2 v8 v22 v55) fun _ =>
        wp frame (wpE (defs₀ (F := F)) 𝒱₀ (c : Thread nD τ) none) Set.univ (at₀ (k0_part60 (F := F)) c) Q) := by
  iintro #HI Ow Rx Out D0 D1 F3 F4 F5 F6 HQ
  simp only [k0_part58_eq_skeleton]
  unfold k0_part58_skel
  simp only [Prog.lift, Prog.bind_op, Prog.bind_ret, Prog.pure_eq_ret]
  iapply (rcv c (.y4 0) ?_) $$ HI Ow Rx; exact ⟨rfl, by decide, by decide, rfl, rfl⟩; iintro Ow Rx Gz0
  ihave Gz0 := (got_y4 c 0) $$ Gz0
  iapply (wp_lds c shapeCasts_S1024x512_S1x1024x512) $$ D0; iintro D0
  iapply (wp_lds c shapeCasts_S1024x512_S1x1024x512) $$ Gz0; iintro Gz0
  iapply (wp_lds c shapeCasts_S1024x512_S1x1024x512) $$ D0; iintro D0
  iapply (sts2 c red4M 0 (RED4 A B c 0) ?_) $$ D0; rfl; iintro D0
  ihave D0 := (lent_far c 0) $$ D0
  iapply (putw c (.ring 2 2 false) 3 ?_) $$ HI Ow Out F3; exact ⟨by decide, rfl, by decide, rfl, rfl⟩; iintro Ow Out S3
  iapply (put c (.far 0) 3 ?_) $$ Out D0 S3; exact ⟨rfl, by decide, rfl, rfl⟩; iintro Out F3
  simp only [wp_ret]; imodintro
  simp only [k0_part59_eq_skeleton]
  unfold k0_part59_skel
  simp only [Prog.lift, Prog.bind_op, Prog.bind_ret, Prog.pure_eq_ret]
  iapply (snt c (.y4 1) ?_) $$ HI Ow; exact ⟨rfl, by decide, by decide, rfl, rfl⟩; iintro Ow
  iapply (rcv c (.y4 1) ?_) $$ HI Ow Rx; exact ⟨rfl, by decide, by decide, rfl, rfl⟩; iintro Ow Rx Gz1
  ihave Gz1 := (got_y4 c 1) $$ Gz1
  iapply (wp_lds c shapeCasts_S1024x512_S1x1024x512) $$ D1; iintro D1
  iapply (wp_lds c shapeCasts_S1024x512_S1x1024x512) $$ Gz1; iintro Gz1
  iapply (wp_lds c shapeCasts_S1024x512_S1x1024x512) $$ D1; iintro D1
  iapply (sts2 c red4M 1 (RED4 A B c 1) ?_) $$ D1; rfl; iintro D1
  ihave D1 := (lent_far c 1) $$ D1
  simp only [wp_ret]; imodintro
  simp only [k0_part60_eq_skeleton]
  unfold k0_part60_skel
  simp only [Prog.lift, Prog.bind_op, Prog.bind_ret, Prog.pure_eq_ret]
  iapply (putw c (.ring 2 2 true) 4 ?_) $$ HI Ow Out F4; exact ⟨by decide, rfl, by decide, rfl, rfl⟩; iintro Ow Out S4
  iapply (put c (.far 1) 4 ?_) $$ Out D1 S4; exact ⟨rfl, by decide, rfl, rfl⟩; iintro Out F4
  iapply (snt c (.ring 0 0 false) ?_) $$ HI Ow; exact ⟨rfl, by decide, by decide, rfl, rfl⟩; iintro Ow
  iapply (snt c (.ring 0 0 true) ?_) $$ HI Ow; exact ⟨rfl, by decide, by decide, rfl, rfl⟩; iintro Ow
  simp only [wp_ret]; imodintro
  iapply HQ $$ %_ Ow Rx Out Gz0 Gz1 F5 F6 F3 F4

/-- The waits for everything sent and stored. -/
theorem parts61_67 {Q : PUnit → sProp (MT nD τ sig Unit (Elt F) ℕ UU ℕ)} :
    Inv A B K ⊢ iprop(Ow A B c 33 8
      -∗ Out A B c 30 26
      -∗ Fly A B c 5 (.ring 2 3 false)
      -∗ Fly A B c 6 (.ring 2 3 true)
      -∗ Fly A B c 3 (.far 0)
      -∗ Fly A B c 4 (.far 1)
      -∗ (∀ v, Ow A B c 33 30 -∗ Out A B c 30 29 -∗ Fly A B c 4 (.far 1) -∗ semVal ((c : Thread nD τ), SemLoc.dma (lsem 5)) 0 -∗ semVal ((c : Thread nD τ), SemLoc.dma (lsem 6)) 0 -∗ semVal ((c : Thread nD τ), SemLoc.dma (lsem 3)) 0 -∗ Q v)
      -∗ wp frame (wpE (defs₀ (F := F)) 𝒱₀ (c : Thread nD τ) none) Set.univ (at₀ (k0_part61 (F := F))) fun _ =>
        wp frame (wpE (defs₀ (F := F)) 𝒱₀ (c : Thread nD τ) none) Set.univ (at₀ (k0_part62 (F := F))) fun _ =>
        wp frame (wpE (defs₀ (F := F)) 𝒱₀ (c : Thread nD τ) none) Set.univ (at₀ (k0_part63 (F := F))) fun _ =>
        wp frame (wpE (defs₀ (F := F)) 𝒱₀ (c : Thread nD τ) none) Set.univ (at₀ (k0_part64 (F := F))) fun _ =>
        wp frame (wpE (defs₀ (F := F)) 𝒱₀ (c : Thread nD τ) none) Set.univ (at₀ (k0_part65 (F := F))) fun _ =>
        wp frame (wpE (defs₀ (F := F)) 𝒱₀ (c : Thread nD τ) none) Set.univ (at₀ (k0_part66 (F := F))) fun _ =>
        wp frame (wpE (defs₀ (F := F)) 𝒱₀ (c : Thread nD τ) none) Set.univ (at₀ (k0_part67 (F := F)) c) Q) := by
  iintro #HI Ow Out F5 F6 F3 F4 HQ
  simp only [k0_part61_eq_skeleton]
  unfold k0_part61_skel
  simp only [Prog.lift, Prog.bind_op, Prog.bind_ret, Prog.pure_eq_ret]
  iapply (snt c (.ring 0 1 false) ?_) $$ HI Ow; exact ⟨rfl, by decide, by decide, rfl, rfl⟩; iintro Ow
  iapply (snt c (.ring 0 1 true) ?_) $$ HI Ow; exact ⟨rfl, by decide, by decide, rfl, rfl⟩; iintro Ow
  iapply (snt c (.ring 0 2 false) ?_) $$ HI Ow; exact ⟨rfl, by decide, by decide, rfl, rfl⟩; iintro Ow
  simp only [wp_ret]; imodintro
  simp only [k0_part62_eq_skeleton]
  unfold k0_part62_skel
  simp only [Prog.lift, Prog.bind_op, Prog.bind_ret, Prog.pure_eq_ret]
  iapply (snt c (.ring 0 2 true) ?_) $$ HI Ow; exact ⟨rfl, by decide, by decide, rfl, rfl⟩; iintro Ow
  iapply (snt c (.ring 0 3 false) ?_) $$ HI Ow; exact ⟨rfl, by decide, by decide, rfl, rfl⟩; iintro Ow
  iapply (snt c (.ring 0 3 true) ?_) $$ HI Ow; exact ⟨rfl, by decide, by decide, rfl, rfl⟩; iintro Ow
  iapply (snt c (.ring 1 0 false) ?_) $$ HI Ow; exact ⟨rfl, by decide, by decide, rfl, rfl⟩; iintro Ow
  simp only [wp_ret]; imodintro
  simp only [k0_part63_eq_skeleton]
  unfold k0_part63_skel
  simp only [Prog.lift, Prog.bind_op, Prog.bind_ret, Prog.pure_eq_ret]
  iapply (snt c (.ring 1 0 true) ?_) $$ HI Ow; exact ⟨rfl, by decide, by decide, rfl, rfl⟩; iintro Ow
  iapply (snt c (.ring 1 1 false) ?_) $$ HI Ow; exact ⟨rfl, by decide, by decide, rfl, rfl⟩; iintro Ow
  iapply (snt c (.ring 1 1 true) ?_) $$ HI Ow; exact ⟨rfl, by decide, by decide, rfl, rfl⟩; iintro Ow
  simp only [wp_ret]; imodintro
  simp only [k0_part64_eq_skeleton]
  unfold k0_part64_skel
  simp only [Prog.lift, Prog.bind_op, Prog.bind_ret, Prog.pure_eq_ret]
  iapply (snt c (.ring 1 2 false) ?_) $$ HI Ow; exact ⟨rfl, by decide, by decide, rfl, rfl⟩; iintro Ow
  iapply (snt c (.ring 1 2 true) ?_) $$ HI Ow; exact ⟨rfl, by decide, by decide, rfl, rfl⟩; iintro Ow
  iapply (snt c (.ring 1 3 false) ?_) $$ HI Ow; exact ⟨rfl, by decide, by decide, rfl, rfl⟩; iintro Ow
  simp only [wp_ret]; imodintro
  simp only [k0_part65_eq_skeleton]
  unfold k0_part65_skel
  simp only [Prog.lift, Prog.bind_op, Prog.bind_ret, Prog.pure_eq_ret]
  iapply (snt c (.ring 1 3 true) ?_) $$ HI Ow; exact ⟨rfl, by decide, by decide, rfl, rfl⟩; iintro Ow
  iapply (snt c (.ring 2 0 false) ?_) $$ HI Ow; exact ⟨rfl, by decide, by decide, rfl, rfl⟩; iintro Ow
  iapply (snt c (.ring 2 0 true) ?_) $$ HI Ow; exact ⟨rfl, by decide, by decide, rfl, rfl⟩; iintro Ow
  iapply (snt c (.ring 2 1 false) ?_) $$ HI Ow; exact ⟨rfl, by decide, by decide, rfl, rfl⟩; iintro Ow
  simp only [wp_ret]; imodintro
  simp only [k0_part66_eq_skeleton]
  unfold k0_part66_skel
  simp only [Prog.lift, Prog.bind_op, Prog.bind_ret, Prog.pure_eq_ret]
  iapply (snt c (.ring 2 1 true) ?_) $$ HI Ow; exact ⟨rfl, by decide, by decide, rfl, rfl⟩; iintro Ow
  iapply (snt c (.ring 2 2 false) ?_) $$ HI Ow; exact ⟨rfl, by decide, by decide, rfl, rfl⟩; iintro Ow
  iapply (snt c (.ring 2 2 true) ?_) $$ HI Ow; exact ⟨rfl, by decide, by decide, rfl, rfl⟩; iintro Ow
  simp only [wp_ret]; imodintro
  simp only [k0_part67_eq_skeleton]
  unfold k0_part67_skel
  simp only [Prog.lift, Prog.bind_op, Prog.bind_ret, Prog.pure_eq_ret]
  iapply (snt c (.ring 2 3 false) ?_) $$ HI Ow; exact ⟨rfl, by decide, by decide, rfl, rfl⟩; iintro Ow
  iapply (snt c (.ring 2 3 true) ?_) $$ HI Ow; exact ⟨rfl, by decide, by decide, rfl, rfl⟩; iintro Ow
  iapply (putw c (.ring 2 3 false) 5 ?_) $$ HI Ow Out F5; exact ⟨by decide, rfl, by decide, rfl, rfl⟩; iintro Ow Out S5
  iapply (putw c (.ring 2 3 true) 6 ?_) $$ HI Ow Out F6; exact ⟨by decide, rfl, by decide, rfl, rfl⟩; iintro Ow Out S6
  iapply (putw c (.far 0) 3 ?_) $$ HI Ow Out F3; exact ⟨by decide, rfl, by decide, rfl, rfl⟩; iintro Ow Out S3
  simp only [wp_ret]; imodintro
  iapply HQ $$ %_ Ow Out F4 S5 S6 S3

end
end Cert.Wgrad
-- ==== Proof.Body.lean ====
/- The kernel's body run from its start to its end. -/
module

public import proofs.«01_k».proof.Proof.Front
public import proofs.«01_k».proof.Proof.Ring1
public import proofs.«01_k».proof.Proof.Ring2
public import proofs.«01_k».proof.Proof.Ring3

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {A : Dev nD → Vec F S2048x2048 .f32} {B : Dev nD → Vec F S2048x8192 .f32} {K : CK → ℕ} (c : Dev nD)

/-- The last wait. -/
def lastOp (d0 : Dev nD) : Prog (TpuEff nD τ sig (Elt F) Λ₀ .tc) PUnit := do
  let v1886 : DmaSems sig S1 := cc0_scratch13.slice (Rect.unit (s := S4) ![1] S1.size inb_S4_S1_1)
  let v1887 : DmaSems sig S_ := v1886.squeeze S_ squeezes_S1_S_
  let v1888 : Memref sig .tc .hbm S1024x512 .bf16 := (Memref.whole main_v1).slice (Rect.unit (s := S1024x8192) (k0_off6 d0 512#32) S1024x512.size (k0_off6_inb d0 1)) (fun _ => rfl)
  let v1889 : Memref sig .tc .vmem S1x1024x512 .bf16 := (Memref.whole cc0_scratch11).slice (Rect.unit (s := S2x1024x512) ![1, 0, 0] S1x1024x512.size inb_S2x1024x512_S1x1024x512_1_0_0) (fun _ => rfl)
  let v1890 : Memref sig .tc .vmem S1024x512 .bf16 := v1889.squeeze S1024x512 squeezes_S1x1024x512_S1024x512
  Prog.lift (.waitDma2 v1887.sem v1890 v1888 (((Memref.isWhole_whole cc0_scratch11).wordExact_slice rfl _ wordsbf16_S2x1024x512_S1x1024x512_1_0_0).reshape _ _) ((Memref.isWhole_whole main_v1).wordExact_slice rfl _ (k0_off6_wordsbf16 d0 1)))
  pure ⟨⟩

/-- The body as one chain of its parts. -/
def bodyChain : Prog (TpuEff nD τ sig (Elt F) Λ₀ .tc) PUnit :=
  (at₀ (k0_part1 (F := F)) >>= fun r1 =>
   at₀ (k0_part2 (F := F)) r1.2.2.1 r1.2.2.2.2.1 r1.2.2.2.2.2.2.1 r1.2.2.2.2.2.2.2 >>= fun r2 =>
   at₀ (k0_part3 (F := F)) r1.1 r1.2.1 r1.2.2.1 r1.2.2.2.1 r1.2.2.2.2.2.2.2 r2.1 r2.2.1 r2.2.2.1 r2.2.2.2 >>= fun _ =>
   at₀ (k0_part4 (F := F)) r1.1 r1.2.1 r1.2.2.1 r1.2.2.2.1 r2.2.2.2 >>= fun _ =>
   at₀ (k0_part5 (F := F)) r1.1 r1.2.2.1 >>= fun _ =>
   at₀ (k0_part6 (F := F)) r1.1 r1.2.1 r1.2.2.2.1 r2.2.2.2 >>= fun _ =>
   at₀ (k0_part7 (F := F)) r1.1 r1.2.1 r1.2.2.2.1 r2.2.2.2 >>= fun _ =>
   at₀ (k0_part8 (F := F)) r1.1 r1.2.1 r1.2.2.2.1 r1.2.2.2.2.2.1 r2.2.2.2 >>= fun _ =>
   at₀ (k0_part9 (F := F)) r1.2.1 r1.2.2.2.1 r1.2.2.2.2.2.2.2 r2.2.2.2 >>= fun r9 =>
   at₀ (k0_part10 (F := F)) r1.1 r1.2.2.1 r1.2.2.2.2.1 r2.1 r2.2.1 r2.2.2.1 r9 >>= fun _ =>
   at₀ (k0_part11 (F := F)) r1.1 r1.2.1 r1.2.2.2.1 r2.2.2.2 >>= fun r11 =>
   at₀ (k0_part12 (F := F)) r1.1 r1.2.2.1 r1.2.2.2.2.2.2.2 r2.1 r2.2.1 r2.2.2.1 r11 >>= fun _ =>
   at₀ (k0_part13 (F := F)) r1.1 r1.2.1 r1.2.2.2.1 r1.2.2.2.2.1 r2.2.2.2 >>= fun _ =>
   at₀ (k0_part14 (F := F)) r1.1 r1.2.2.1 r1.2.2.2.2.2.2.2 r2.1 r2.2.1 >>= fun r14 =>
   at₀ (k0_part15 (F := F)) r1.1 r1.2.1 r1.2.2.2.1 r1.2.2.2.2.1 r2.2.2.1 r2.2.2.2 r14.1 r14.2 >>= fun _ =>
   at₀ (k0_part16 (F := F)) r1.1 r1.2.2.1 r1.2.2.2.2.2.2.2 r2.1 >>= fun _ =>
   at₀ (k0_part17 (F := F)) r1.1 r1.2.2.1 r1.2.2.2.2.1 r1.2.2.2.2.2.2.2 r2.1 r2.2.1 r2.2.2.1 >>= fun _ =>
   at₀ (k0_part18 (F := F)) r1.1 r1.2.2.1 r1.2.2.2.2.2.2.2 r2.1 r2.2.1 r2.2.2.1 >>= fun _ =>
   at₀ (k0_part19 (F := F)) r1.1 r1.2.2.1 r1.2.2.2.2.2.2.2 r2.1 r2.2.1 r2.2.2.1 >>= fun _ =>
   at₀ (k0_part20 (F := F)) r1.1 r1.2.2.1 r1.2.2.2.2.2.2.2 r2.1 r2.2.1 r2.2.2.1 >>= fun _ =>
   at₀ (k0_part21 (F := F)) r1.1 r1.2.2.1 r1.2.2.2.2.2.2.2 r2.1 r2.2.1 r2.2.2.1 >>= fun r21 =>
   at₀ (k0_part22 (F := F)) r1.1 r1.2.2.1 r2.1 r2.2.1 r2.2.2.1 r21.1 r21.2 >>= fun _ =>
   at₀ (k0_part23 (F := F)) r1.1 r1.2.2.1 r1.2.2.2.2.2.2.2 r2.1 >>= fun _ =>
   at₀ (k0_part24 (F := F)) r1.1 r1.2.2.1 r2.2.1 r2.2.2.1 >>= fun _ =>
   at₀ (k0_part25 (F := F)) r1.1 r1.2.1 r1.2.2.2.1 r2.2.2.2 >>= fun r25 =>
   at₀ (k0_part26 (F := F)) r1.1 r1.2.1 r1.2.2.2.1 r2.2.2.2 r25.1 r25.2 >>= fun r26 =>
   at₀ (k0_part27 (F := F)) r1.1 r1.2.2.2.2.1 r26.1 r26.2 >>= fun r27 =>
   at₀ (k0_part28 (F := F)) r1.1 r1.2.2.2.2.1 r27 >>= fun r28 =>
   at₀ (k0_part29 (F := F)) r1.1 r1.2.2.2.2.1 r28.1 r28.2.1 r28.2.2.1 r28.2.2.2.1 r28.2.2.2.2 >>= fun _ =>
   at₀ (k0_part30 (F := F)) r1.1 r1.2.2.2.2.1 >>= fun _ =>
   at₀ (k0_part31 (F := F)) r1.1 r1.2.2.2.2.1 >>= fun r31 =>
   at₀ (k0_part32 (F := F)) r1.1 r1.2.2.2.2.1 r31.1 r31.2 >>= fun r32 =>
   at₀ (k0_part33 (F := F)) r1.1 r1.2.2.1 r1.2.2.2.2.2.2.2 r2.1 r32.1 r32.2.1 r32.2.2.1 r32.2.2.2 >>= fun _ =>
   at₀ (k0_part34 (F := F)) r1.1 r1.2.2.1 r1.2.2.2.2.2.2.2 r2.1 r2.2.1 r2.2.2.1 >>= fun _ =>
   at₀ (k0_part35 (F := F)) r1.1 r1.2.2.1 r1.2.2.2.2.2.2.2 r2.1 r2.2.1 r2.2.2.1 >>= fun r35 =>
   at₀ (k0_part36 (F := F)) r1.1 r1.2.2.1 r2.1 r2.2.1 r2.2.2.1 r35 >>= fun r36 =>
   at₀ (k0_part37 (F := F)) r1.1 r1.2.2.1 r1.2.2.2.2.2.2.2 r2.1 r2.2.2.1 r36.1 r36.2 >>= fun _ =>
   at₀ (k0_part38 (F := F)) r1.1 r1.2.2.1 r2.2.1 r2.2.2.1 >>= fun _ =>
   at₀ (k0_part39 (F := F)) r1.1 r1.2.2.1 r1.2.2.2.2.2.2.2 r2.1 >>= fun _ =>
   at₀ (k0_part40 (F := F)) r1.1 r1.2.2.1 r2.2.1 r2.2.2.1 >>= fun r40 =>
   at₀ (k0_part41 (F := F)) r1.1 r1.2.2.2.2.1 r40 >>= fun r41 =>
   at₀ (k0_part42 (F := F)) r1.1 r1.2.2.2.2.1 r41.1 r41.2.1 r41.2.2.1 r41.2.2.2 >>= fun _ =>
   at₀ (k0_part43 (F := F)) r1.1 r1.2.2.2.2.1 >>= fun _ =>
   at₀ (k0_part44 (F := F)) r1.1 r1.2.2.2.2.1 >>= fun r44 =>
   at₀ (k0_part45 (F := F)) r1.1 r1.2.2.2.2.1 r44 >>= fun r45 =>
   at₀ (k0_part46 (F := F)) r1.1 r1.2.2.2.2.1 r45.1 r45.2.1 r45.2.2.1 r45.2.2.2 >>= fun _ =>
   at₀ (k0_part47 (F := F)) r1.1 r1.2.2.1 r1.2.2.2.2.2.2.2 r2.1 r2.2.1 >>= fun r47 =>
   at₀ (k0_part48 (F := F)) r1.2.2.1 r1.2.2.2.2.2.2.2 r2.1 r2.2.1 r2.2.2.1 r47 >>= fun _ =>
   at₀ (k0_part49 (F := F)) r1.2.2.1 r1.2.2.2.2.2.2.2 r2.1 r2.2.1 r2.2.2.1 >>= fun _ =>
   at₀ (k0_part50 (F := F)) r1.2.2.1 r1.2.2.2.2.2.2.2 r2.1 r2.2.1 r2.2.2.1 >>= fun r50 =>
   at₀ (k0_part51 (F := F)) r1.1 r1.2.2.2.2.1 r50 >>= fun r51 =>
   at₀ (k0_part52 (F := F)) r1.1 r1.2.2.2.2.1 r51.1 r51.2.1 r51.2.2.1 r51.2.2.2 >>= fun _ =>
   at₀ (k0_part53 (F := F)) r1.1 r1.2.2.2.2.1 >>= fun _ =>
   at₀ (k0_part54 (F := F)) r1.1 r1.2.2.2.2.1 >>= fun r54 =>
   at₀ (k0_part55 (F := F)) r1.1 r1.2.2.2.2.1 r54 >>= fun r55 =>
   at₀ (k0_part56 (F := F)) r1.1 r1.2.2.2.2.1 r55.1 r55.2.1 r55.2.2.1 r55.2.2.2 >>= fun _ =>
   at₀ (k0_part57 (F := F)) r1.1 r1.2.1 r1.2.2.2.1 r2.2.2.2 >>= fun _ =>
   at₀ (k0_part58 (F := F)) r1.1 r1.2.2.2.2.2.1 >>= fun _ =>
   at₀ (k0_part59 (F := F)) r1.2.1 r1.2.2.2.1 r1.2.2.2.2.2.1 r2.2.2.2 >>= fun _ =>
   at₀ (k0_part60 (F := F)) r1.1 >>= fun _ =>
    pure r1.1) >>= fun d0 =>
  at₀ (k0_part61 (F := F)) >>= fun _ =>
  at₀ (k0_part62 (F := F)) >>= fun _ =>
  at₀ (k0_part63 (F := F)) >>= fun _ =>
  at₀ (k0_part64 (F := F)) >>= fun _ =>
  at₀ (k0_part65 (F := F)) >>= fun _ =>
  at₀ (k0_part66 (F := F)) >>= fun _ =>
  at₀ (k0_part67 (F := F)) d0 >>= fun _ =>
  lastOp d0

theorem body_chain : at₀ (cc0__body (F := F)) = bodyChain := rfl

/-- Part 4 of the body, in either row of the mesh. -/
theorem part4 {Q : PUnit → sProp (MT nD τ sig Unit (Elt F) ℕ UU ℕ)} (v2 v5 v8 v55 : BitVec 32) (hv : v5 = Scalar.remsi (Scalar.divsi (Dev.word c) 4#32) 2#32) :
    Inv A B K ⊢ iprop(Ow A B c 3 0
      -∗ owns (c : Thread nD τ) (slx xstM 0) fullShare (AX A c 0)
      -∗ Ldg c 1 (slx xstM 1).view.dmaCredit iprop(owns (c : Thread nD τ) (slx xstM 1) fullShare (AX A c 1) ∗ owns (c : Thread nD τ) (a0M 1) fullShare.right (AX A c 1))
      -∗ (owns (c : Thread nD τ) (a0M 1) fullShare.right (AX A c 1) -∗ owns (c : Thread nD τ) arg0M fullShare.right (A c))
      -∗ Ldg c 2 (dyM).view.dmaCredit iprop(owns (c : Thread nD τ) dyM fullShare (DY B c) ∗ owns (c : Thread nD τ) (a1M c) fullShare (DY B c))
      -∗ (owns (c : Thread nD τ) (a1M c) fullShare (DY B c) -∗ owns (c : Thread nD τ) arg1M fullShare (B c))
      -∗ (∃ X, owns (c : Thread nD τ) xpM fullShare X)
      -∗ (∃ X, owns (c : Thread nD τ) (sl4 ysM 0) fullShare X)
      -∗ (∀ v, Ow A B c 3 0 -∗ owns (c : Thread nD τ) (slx xstM 0) fullShare (AX A c 0) -∗ owns (c : Thread nD τ) (slx xstM 1) fullShare (AX A c 1) -∗ owns (c : Thread nD τ) (arg0M) fullShare.right (A c) -∗ semVal ((c : Thread nD τ), SemLoc.dma (lsem 1)) 0 -∗ semVal ((c : Thread nD τ), SemLoc.dma (lsem 2)) 0 -∗ owns (c : Thread nD τ) (dyM) fullShare (DY B c) -∗ owns (c : Thread nD τ) (arg1M) fullShare (B c) -∗ owns (c : Thread nD τ) (xpM) fullShare (XP A c) -∗ owns (c : Thread nD τ) (sl4 ysM 0) fullShare (YS A B c 0) -∗ Q v)
      -∗ wp frame (wpE (defs₀ (F := F)) 𝒱₀ (c : Thread nD τ) none) Set.univ (at₀ (k0_part4 (F := F)) c v2 v5 v8 v55) Q) := by
  by_cases hr : row c = 0
  · exact part4_0 c v2 v5 v8 v55 hv hr
  · exact part4_1 c v2 v5 v8 v55 hv hr

/-- Part 5 of the body, in either row of the mesh. -/
theorem part5 {Q : PUnit → sProp (MT nD τ sig Unit (Elt F) ℕ UU ℕ)} (v5 : BitVec 32) (hv : v5 = Scalar.remsi (Scalar.divsi (Dev.word c) 4#32) 2#32) :
    Inv A B K ⊢ iprop(Ow A B c 3 0
      -∗ owns (c : Thread nD τ) (slx xstM 0) fullShare (AX A c 0)
      -∗ owns (c : Thread nD τ) (slx xstM 1) fullShare (AX A c 1)
      -∗ owns (c : Thread nD τ) (dyM) fullShare (DY B c)
      -∗ owns (c : Thread nD τ) (xpM) fullShare (XP A c)
      -∗ owns (c : Thread nD τ) (sl4 ysM 0) fullShare (YS A B c 0)
      -∗ (∃ X, owns (c : Thread nD τ) xmM fullShare X)
      -∗ (∃ X, owns (c : Thread nD τ) (sl4 ysM 1) fullShare X)
      -∗ (∃ X, owns (c : Thread nD τ) (sl4 redM 0) fullShare X)
      -∗ (∀ v, Ow A B c 4 0 -∗ owns (c : Thread nD τ) (slx xstM 0) fullShare (AX A c 0) -∗ owns (c : Thread nD τ) (slx xstM 1) fullShare (AX A c 1) -∗ owns (c : Thread nD τ) (dyM) fullShare (DY B c) -∗ owns (c : Thread nD τ) (xpM) fullShare (XP A c) -∗ owns (c : Thread nD τ) (xmM) fullShare (XM A c) -∗ owns (c : Thread nD τ) (sl4 ysM 1) fullShare (YS A B c 1) -∗ owns (c : Thread nD τ) (sl4 redM 0) fullShare (OWN A B c 0) -∗ Q v)
      -∗ wp frame (wpE (defs₀ (F := F)) 𝒱₀ (c : Thread nD τ) none) Set.univ (at₀ (k0_part5 (F := F)) c v5) Q) := by
  by_cases hr : row c = 0
  · exact part5_0 c v5 hv hr
  · exact part5_1 c v5 hv hr

set_option maxHeartbeats 1000000 in
/-- The body: from its buffers and its tokens to the result stored and the buffers back. -/
theorem body_run {Q : PUnit → sProp (MT nD τ sig Unit (Elt F) ℕ UU ℕ)} :
    Inv A B K ⊢ iprop((∃ W, owes (c : Thread nD τ) (O c 0) W) -∗ dutyTok ER (dcell c (.bar 0)) 0 (.bar 0) -∗ dutyTok ER (dcell c (.bar 1)) 0 (.bar 1) -∗ dutyTok ER (dcell c (.bar 2)) 0 (.bar 2) -∗ mine c 0 -∗ mine c 1 -∗ mine c 2 -∗ atPos ER ((c : Thread nD τ), .reg barS) 0 ∅ 0 -∗ cred (tallyAt ((c : Thread nD τ), .reg barS) () 3) -∗ bigSep Finset.univ (fun d : Xf => iprop(dutyTok ER (dcell c (.xf d)) 0 (.xf d) ∗ semVal ((c : Thread nD τ), .dma (ssem d)) 0)) -∗ Rx (F := F) c 0 -∗ Out A B c 0 0 -∗ owns (c : Thread nD τ) (arg0M) fullShare (A c) -∗ owns (c : Thread nD τ) (arg1M) fullShare (B c) -∗ (∃ X, owns (c : Thread nD τ) (slx xstM 0) fullShare X) -∗ (∃ X, owns (c : Thread nD τ) (slx xstM 1) fullShare X) -∗ (∃ X, owns (c : Thread nD τ) (dyM) fullShare X) -∗ (∃ X, owns (c : Thread nD τ) (xpM) fullShare X) -∗ (∃ X, owns (c : Thread nD τ) (xmM) fullShare X) -∗ (∃ X, owns (c : Thread nD τ) (sl4 ysM 0) fullShare X) -∗ (∃ X, owns (c : Thread nD τ) (sl4 ysM 1) fullShare X) -∗ (∃ X, owns (c : Thread nD τ) (sl4 ysM 2) fullShare X) -∗ (∃ X, owns (c : Thread nD τ) (sl4 ysM 3) fullShare X) -∗ (∃ X, owns (c : Thread nD τ) (sl4 redM 0) fullShare X) -∗ (∃ X, owns (c : Thread nD τ) (sl4 redM 1) fullShare X) -∗ (∃ X, owns (c : Thread nD τ) (sl4 redM 2) fullShare X) -∗ (∃ X, owns (c : Thread nD τ) (sl4 redM 3) fullShare X) -∗ (∃ X, owns (c : Thread nD τ) (sl2 y4sM 0) fullShare X) -∗ (∃ X, owns (c : Thread nD τ) (sl2 y4sM 1) fullShare X) -∗ (∃ X, owns (c : Thread nD τ) (sl2 red4M 0) fullShare X) -∗ (∃ X, owns (c : Thread nD τ) (sl2 red4M 1) fullShare X) -∗ semVal ((c : Thread nD τ), SemLoc.dma (lsem 0)) 0 -∗ semVal ((c : Thread nD τ), SemLoc.dma (lsem 1)) 0 -∗ semVal ((c : Thread nD τ), SemLoc.dma (lsem 2)) 0 -∗ semVal ((c : Thread nD τ), SemLoc.dma (lsem 3)) 0 -∗ semVal ((c : Thread nD τ), SemLoc.dma (lsem 4)) 0 -∗ semVal ((c : Thread nD τ), SemLoc.dma (lsem 5)) 0 -∗ semVal ((c : Thread nD τ), SemLoc.dma (lsem 6)) 0
      -∗ (Ow A B c 33 30 -∗ semVal ((c : Thread nD τ), .reg barS) 0 -∗ Rx (F := F) c 30 -∗ Out A B c 30 30 -∗ owns (c : Thread nD τ) (arg0M) fullShare.left (A c) -∗ owns (c : Thread nD τ) (arg0M) fullShare.right (A c) -∗ owns (c : Thread nD τ) (arg1M) fullShare (B c) -∗ owns (c : Thread nD τ) (slx xstM 0) fullShare (AX A c 0) -∗ owns (c : Thread nD τ) (slx xstM 1) fullShare (AX A c 1) -∗ owns (c : Thread nD τ) (dyM) fullShare (DF B c) -∗ owns (c : Thread nD τ) (xpM) fullShare (XP A c) -∗ owns (c : Thread nD τ) (xmM) fullShare (XM A c) -∗ owns (c : Thread nD τ) (sl4 yrM 0) fullShare (YS A B (partner c) 0) -∗ owns (c : Thread nD τ) (sl4 yrM 1) fullShare (YS A B (partner c) 1) -∗ owns (c : Thread nD τ) (sl4 yrM 2) fullShare (YS A B (partner c) 2) -∗ owns (c : Thread nD τ) (sl4 yrM 3) fullShare (YS A B (partner c) 3) -∗ owns (c : Thread nD τ) (sl2 y4rM 0) fullShare (Y4 A B (partner c) 0) -∗ owns (c : Thread nD τ) (sl2 y4rM 1) fullShare (Y4 A B (partner c) 1) -∗ semVal ((c : Thread nD τ), SemLoc.dma (lsem 0)) 0 -∗ semVal ((c : Thread nD τ), SemLoc.dma (lsem 1)) 0 -∗ semVal ((c : Thread nD τ), SemLoc.dma (lsem 2)) 0 -∗ semVal ((c : Thread nD τ), SemLoc.dma (lsem 3)) 0 -∗ semVal ((c : Thread nD τ), SemLoc.dma (lsem 4)) 0 -∗ semVal ((c : Thread nD τ), SemLoc.dma (lsem 5)) 0 -∗ semVal ((c : Thread nD τ), SemLoc.dma (lsem 6)) 0 -∗ Q ⟨⟩)
      -∗ wp frame (wpE (defs₀ (F := F)) 𝒱₀ (c : Thread nD τ) none) Set.univ (at₀ (cc0__body (F := F))) Q) := by
  rw [body_chain]
  unfold bodyChain
  simp only [wp_bind]
  iintro #HI HO T0 T1 T2 M0 M1 M2 At Cr Bx Rx Out A0 A1 X0 X1 Dy XP XM Y0 Y1 Y2 Y3 R0 R1 R2 R3 Z0 Z1 D0 D1 S0 S1 S2 S3 S4 S5 S6 HQ
  simp only [k0_part1_eq_skeleton]
  unfold k0_part1_skel
  simp only [Prog.lift, Prog.bind_op, Prog.bind_ret, Prog.pure_eq_ret, wp_deviceId]
  simp only [wp_ret]; imodintro
  iapply (parts2_3 c _ _ _ _ _ _) $$ HI HO T0 T1 T2 M0 M1 M2 At Cr Bx A0 A1 X0 X1 Dy S0 S1 S2
  iintro %w %_ Ow Bs X0 A0l S0 F1 K1 F2 K2
  iapply (part4 c _ _ _ _ ?_) $$ HI Ow X0 F1 K1 F2 K2 XP Y0; rfl
  iintro %_ Ow X0 X1 A0r S1 S2 Dy A1 XP Y0
  iapply (part5 c _ ?_) $$ HI Ow X0 X1 Dy XP Y0 XM Y1 R0; rfl
  iintro %_ Ow X0 X1 Dy XP XM Y1 R0
  iapply (parts6_8 c _ _ _ _) $$ HI Ow Dy XP XM Y1 A1 S2 R1 R2 R3 Y2 Y3
  iintro %_ Ow XP XM F2 K2 R1 R2 R3
  iapply (parts9_17 c _ _ _ _ _ _ _ _ _) $$ HI Ow Rx Out R0 R1 R2 R3 S3 S4 S5 S6
  iintro %_ Ow Rx Out Gy0 Gy1 Gy2 Gy3 F3 F4 F5 F6
  iapply (parts18_24 c _ _ _ _ _) $$ HI Ow Rx
  iintro %_ Ow Rx Ga00 Gb00 Ga01 Gb01 Ga02 Gb02 Ga03 Gb03 Gb03s
  iapply (parts25_33 c _ _ _ _ _ _ _) $$ HI Ow Rx Out Gb03s F2 XP XM Z0 Z1 D0 D1 F3 F4 F5 F6 Ga00 Gb00 Ga01 Gb01 Ga02 Gb02 Ga03 Gb03
  iintro %_ Ow Rx Out Ga10s Ga10 S2 Dy A1f XP XM D0 D1 F3 F4 F5 F6
  ispecialize K2 $$ A1f; irename K2 => A1
  iapply (parts34_40 c _ _ _ _ _) $$ HI Ow Rx Ga10s
  iintro %_ Ow Rx Gb10 Ga11 Gb11 Ga12 Gb12 Ga13 Gb13
  iapply (parts41_50 c _ _ _ _ _ _ _) $$ HI Ow Rx Out Ga10 Gb10 Ga11 Gb11 Ga12 Gb12 Ga13 Gb13 F3 F4 F5 F6
  iintro %_ Ow Rx Out Ga20 Gb20 Ga21 Gb21 Ga22 Gb22 Ga23 Gb23 F3 F4 F5 F6
  iapply (parts51_57 c _ _ _ _ _) $$ HI Ow Out Ga20 Gb20 Ga21 Gb21 Ga22 Gb22 Ga23 Gb23 F3 F4 F5 F6
  iintro %_ Ow Out F3 F4 F5 F6
  iapply (parts58_60 c _ _ _ _) $$ HI Ow Rx Out D0 D1 F3 F4 F5 F6
  iintro %_ Ow Rx Out Gz0 Gz1 F5 F6 F3 F4
  imodintro
  iapply (parts61_67 c) $$ HI Ow Out F5 F6 F3 F4
  iintro %_ Ow Out F4 S5 S6 S3
  unfold lastOp
  simp only [Prog.lift, Prog.bind_op, Prog.bind_ret, Prog.pure_eq_ret]
  iapply (putw c (.far 1) 4 ?_) $$ HI Ow Out F4; exact ⟨by decide, rfl, by decide, rfl, rfl⟩; iintro Ow Out S4
  simp only [wp_ret]; imodintro
  iapply HQ $$ Ow Bs Rx Out A0l A0r A1 X0 X1 Dy XP XM Gy0 Gy1 Gy2 Gy3 Gz0 Gz1 S0 S1 S2 S3 S4 S5 S6

end
end Cert.Wgrad
-- ==== Proof.Slots.lean ====
/- The buffers and their slots: a buffer whole at some contents is each of its slots at some contents; the families of transfers and of stores, part by part. -/
module

public import proofs.«01_k».proof.Proof.Body
public import Idealize.ShloMosaic.Lib.Ring

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

/-! ## A family of rectangles that part a shape -/

theorem part_disj {T : Type} {s : Shape} {r : T → Rect s} {key : s.Idx → T} (h : ∀ t i, i ∈ (r t).set ↔ key i = t) (t t' : T) (ht : t ≠ t') :
    Disjoint (r t).set (r t').set :=
  Finset.disjoint_left.mpr fun i hi hi' => ht (((h t i).mp hi).symm.trans ((h t' i).mp hi'))
theorem part_cover {T : Type} [Fintype T] {s : Shape} {r : T → Rect s} {key : s.Idx → T} (h : ∀ t i, i ∈ (r t).set ↔ key i = t) :
    Finset.univ.biUnion (fun t => (r t).set) = Finset.univ := by
  ext i
  rw [Finset.mem_biUnion]
  exact ⟨fun _ => Finset.mem_univ _, fun _ => ⟨key i, Finset.mem_univ _, (h _ i).mpr rfl⟩⟩

theorem eq_of {P R : sProp (MT nD τ sig Unit (Elt F) ℕ UU ℕ)} (h : P ⊢ R) (h' : R ⊢ P) : P = R := BI.equiv_iff.mp ⟨h, h'⟩

/-- A slot at some contents is its elements at some contents. -/
theorem slot_some (c : Dev nD) (b : Ref sig .tc) (r : Rect b.ty.shape) (hr : ∀ a, r.stride a = 1) {s' : Shape} (hq : r.shape.Squeezes s') :
    (iprop(∃ X, owns (c : Thread nD τ) (((Memref.whole b).slice r hr).squeeze s' hq) fullShare X) : sProp 𝕄)
      = iprop(∃ f : Buf (Elt F) ((c : Thread nD τ).loc b), ((c : Thread nD τ).loc b) ↦[r.set]{fullShare} f) := by
  have hs : @Eq (Finset b.ty.Idx) (((Memref.whole b).slice r hr).squeeze s' hq).view.set r.set :=
    (View.set_reshape ((Memref.whole b).view.slice r) _).trans (View.set_slice_whole b r)
  have e (f : Buf (Elt F) ((c : Thread nD τ).loc b)) :
      ((((Memref.whole b).slice r hr).squeeze s' hq).view.loc (c : Thread nD τ) ↦[(((Memref.whole b).slice r hr).squeeze s' hq).view.set]{fullShare} f : sProp (MT nD τ sig Unit (Elt F) ℕ UU ℕ))
        = (((c : Thread nD τ).loc b) ↦[r.set]{fullShare} f) :=
    congrArg (fun S : Finset b.ty.Idx => (((c : Thread nD τ).loc b) ↦[S]{fullShare} f : sProp (MT nD τ sig Unit (Elt F) ℕ UU ℕ))) hs
  refine eq_of ?_ ?_
  · unfold owns
    iintro ⟨%X, %f, -, H⟩
    iexists f
    iapply (ent_of_eq (e f)) $$ H
  · unfold owns
    iintro ⟨%f, H⟩
    iexists _
    iexists f
    isplitr; · ipureintro; rfl
    iapply (ent_of_eq (e f).symm) $$ H

/-- A buffer whole at some contents is each of its slots at some contents. -/
theorem slots_eq (c : Dev nD) {T : Type} [Fintype T] [DecidableEq T] (b : Ref sig .tc) (r : T → Rect b.ty.shape) (hr : ∀ t a, (r t).stride a = 1) {s' : Shape}
    (hq : ∀ t, (r t).shape.Squeezes s') (key : b.ty.shape.Idx → T) (h : ∀ t i, i ∈ (r t).set ↔ key i = t) :
    (iprop(∃ f : Buf (Elt F) ((c : Thread nD τ).loc b), ((c : Thread nD τ).loc b) ↦{fullShare} f) : sProp 𝕄)
      = bigSep Finset.univ fun t => iprop(∃ X, owns (c : Thread nD τ) (((Memref.whole b).slice (r t) (hr t)).squeeze s' (hq t)) fullShare X) := by
  rw [bigSep_congr (fun t _ => slot_some c b (r t) (hr t) (hq t))]
  refine eq_of ?_ ?_
  · iintro ⟨%f, H⟩
    ihave H := (ent_of_eq (Ring.pointsTo_blocks (fun t => (r t).set) (part_disj h) (part_cover h) (q := fullShare) f)) $$ H
    iapply (big_mono fun t => (show (((c : Thread nD τ).loc b) ↦[(r t).set]{fullShare} f : sProp (MT nD τ sig Unit (Elt F) ℕ UU ℕ))
      ⊢ iprop(∃ f : Buf (Elt F) ((c : Thread nD τ).loc b), ((c : Thread nD τ).loc b) ↦[(r t).set]{fullShare} f) from by
        iintro H; iexists f; iexact H)) $$ H
  · exact Ring.pointsTo_blocks_join_exists (ℓ := (c : Thread nD τ).loc b) (fun t => (r t).set) (part_disj h) (part_cover h) (fun _ => Classical.arbitrary _)

/-! ## The slots of each kind of buffer -/

theorem mem_r4 (s : Fin 4) (i : S4x1024x256.Idx) : i ∈ (r4 s).set ↔ (i 0 : Fin 4) = s := by
  refine (Rect.mem_set_unit (s := S4x1024x256)).trans ⟨fun h => Fin.ext ?_, fun h a => ?_⟩
  · have := h 0; simp [S1x1024x256] at this; omega
  · subst h; have := (i a).isLt; fin_cases a <;> simp [S1x1024x256, S4x1024x256] at this ⊢ <;> omega
theorem mem_r43 (x : Fin 3 × Fin 4) (i : S4x3x1024x256.Idx) : i ∈ (r43 x.2 x.1).set ↔ ((i 1 : Fin 3), (i 0 : Fin 4)) = x := by
  obtain ⟨k, s⟩ := x
  refine (Rect.mem_set_unit (s := S4x3x1024x256)).trans ⟨fun h => Prod.ext (Fin.ext ?_) (Fin.ext ?_), fun h a => ?_⟩
  · have := h 1; simp [S1x1x1024x256] at this; show (i 1).val = k.val; omega
  · have := h 0; simp [S1x1x1024x256] at this; show (i 0).val = s.val; omega
  · obtain ⟨rfl, rfl⟩ := Prod.mk.inj h; have := (i a).isLt; fin_cases a <;> simp [S1x1x1024x256, S4x3x1024x256] at this ⊢ <;> omega
theorem mem_r2 (t : Fin 2) (i : S2x1024x512.Idx) : i ∈ (r2 t).set ↔ (i 0 : Fin 2) = t := by
  refine (Rect.mem_set_unit (s := S2x1024x512)).trans ⟨fun h => Fin.ext ?_, fun h a => ?_⟩
  · have := h 0; simp [S1x1024x512] at this; omega
  · subst h; have := (i a).isLt; fin_cases a <;> simp [S1x1024x512, S2x1024x512] at this ⊢ <;> omega
theorem mem_rx (t : Fin 2) (i : S2x1024x2048.Idx) : i ∈ (rx t).set ↔ (i 0 : Fin 2) = t := by
  refine (Rect.mem_set_unit (s := S2x1024x2048)).trans ⟨fun h => Fin.ext ?_, fun h a => ?_⟩
  · have := h 0; simp [S1x1024x2048] at this; omega
  · subst h; have := (i a).isLt; fin_cases a <;> simp [S1x1024x2048, S2x1024x2048] at this ⊢ <;> omega

variable (c : Dev nD)

/-- A buffer of the program, whole at some contents. -/
abbrev buf (b : Ref sig .tc) : sProp (MT nD τ sig Unit (Elt F) ℕ UU ℕ) :=
  iprop(∃ f : Buf (Elt F) ((c : Thread nD τ).loc b), ((c : Thread nD τ).loc b) ↦{fullShare} f)

theorem slots4 : buf (F := F) c cc0_scratch4 = bigSep Finset.univ fun s => iprop(∃ X, owns (c : Thread nD τ) (sl4 ysM s) fullShare X) :=
  slots_eq c cc0_scratch4 r4 (fun _ _ => rfl) (fun _ => squeezes_S1x1024x256_S1024x256) (fun i => i 0) mem_r4
theorem slots5 : buf (F := F) c cc0_scratch5 = bigSep Finset.univ fun s => iprop(∃ X, owns (c : Thread nD τ) (sl4 yrM s) fullShare X) :=
  slots_eq c cc0_scratch5 r4 (fun _ _ => rfl) (fun _ => squeezes_S1x1024x256_S1024x256) (fun i => i 0) mem_r4
theorem slots6 : buf (F := F) c cc0_scratch6 = bigSep Finset.univ fun s => iprop(∃ X, owns (c : Thread nD τ) (sl4 redM s) fullShare X) :=
  slots_eq c cc0_scratch6 r4 (fun _ _ => rfl) (fun _ => squeezes_S1x1024x256_S1024x256) (fun i => i 0) mem_r4
theorem slots7 : buf (F := F) c cc0_scratch7 = bigSep Finset.univ fun x : Fin 3 × Fin 4 => iprop(∃ X, owns (c : Thread nD τ) (sl43 (bufR false) x.2 x.1) fullShare X) :=
  slots_eq c cc0_scratch7 (fun x : Fin 3 × Fin 4 => r43 x.2 x.1) (fun _ _ => rfl) (fun _ => squeezes_S1x1x1024x256_S1024x256) (fun i => (i 1, i 0)) mem_r43
theorem slots8 : buf (F := F) c cc0_scratch8 = bigSep Finset.univ fun x : Fin 3 × Fin 4 => iprop(∃ X, owns (c : Thread nD τ) (sl43 (bufR true) x.2 x.1) fullShare X) :=
  slots_eq c cc0_scratch8 (fun x : Fin 3 × Fin 4 => r43 x.2 x.1) (fun _ _ => rfl) (fun _ => squeezes_S1x1x1024x256_S1024x256) (fun i => (i 1, i 0)) mem_r43
theorem slots9 : buf (F := F) c cc0_scratch9 = bigSep Finset.univ fun t => iprop(∃ X, owns (c : Thread nD τ) (sl2 y4sM t) fullShare X) :=
  slots_eq c cc0_scratch9 r2 (fun _ _ => rfl) (fun _ => squeezes_S1x1024x512_S1024x512) (fun i => i 0) mem_r2
theorem slots10 : buf (F := F) c cc0_scratch10 = bigSep Finset.univ fun t => iprop(∃ X, owns (c : Thread nD τ) (sl2 y4rM t) fullShare X) :=
  slots_eq c cc0_scratch10 r2 (fun _ _ => rfl) (fun _ => squeezes_S1x1024x512_S1024x512) (fun i => i 0) mem_r2
theorem slots11 : buf (F := F) c cc0_scratch11 = bigSep Finset.univ fun t => iprop(∃ X, owns (c : Thread nD τ) (sl2 red4M t) fullShare X) :=
  slots_eq c cc0_scratch11 r2 (fun _ _ => rfl) (fun _ => squeezes_S1x1024x512_S1024x512) (fun i => i 0) mem_r2
theorem slots2 : buf (F := F) c cc0_scratch2 = bigSep Finset.univ fun t => iprop(∃ X, owns (c : Thread nD τ) (slx xstM t) fullShare X) :=
  slots_eq c cc0_scratch2 rx (fun _ _ => rfl) (fun _ => squeezes_S1x1024x2048_S1024x2048) (fun i => i 0) mem_rx
/-- A buffer that is one slot. -/
theorem one_eq (b : Ref sig .tc) : buf (F := F) c b = iprop(∃ X, owns (c : Thread nD τ) (Memref.whole b) fullShare X) := by
  simp only [owns_whole]

/-! ## The families, part by part -/

theorem big2 (Φ : Fin 2 → sProp 𝕄) : bigSep Finset.univ Φ = iprop(Φ 0 ∗ Φ 1) := bigSep_univ_eq_bigSepL [0, 1] (by decide) (by decide) Φ
theorem big3 (Φ : Fin 3 → sProp 𝕄) : bigSep Finset.univ Φ = iprop(Φ 0 ∗ Φ 1 ∗ Φ 2) := bigSep_univ_eq_bigSepL [0, 1, 2] (by decide) (by decide) Φ
theorem big4 (Φ : Fin 4 → sProp 𝕄) : bigSep Finset.univ Φ = iprop(Φ 0 ∗ Φ 1 ∗ Φ 2 ∗ Φ 3) := bigSep_univ_eq_bigSepL [0, 1, 2, 3] (by decide) (by decide) Φ
theorem big7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The four parts of a family of transfers or of stores: slices, hops one way, hops the other way, halves. -/
abbrev Four : Type := (Fin 4 ⊕ (Fin 3 × Fin 4)) ⊕ ((Fin 3 × Fin 4) ⊕ Fin 2)
theorem big_four (Φ : Four → sProp 𝕄) : bigSep Finset.univ Φ
    = iprop(((bigSep Finset.univ fun s => Φ (.inl (.inl s))) ∗ bigSep Finset.univ fun x => Φ (.inl (.inr x)))
      ∗ (bigSep Finset.univ fun x => Φ (.inr (.inl x))) ∗ bigSep Finset.univ fun t => Φ (.inr (.inr t))) := by
  rw [bigSep_univ_sum, bigSep_univ_sum, bigSep_univ_sum]; rfl
/-- Hops by their number. -/
theorem big_hops (Φ : Fin 3 × Fin 4 → sProp 𝕄) : bigSep Finset.univ Φ
    = iprop((bigSep Finset.univ fun s => Φ (0, s)) ∗ (bigSep Finset.univ fun s => Φ (1, s)) ∗ bigSep Finset.univ fun s => Φ (2, s)) := by
  rw [bigSep_univ_prod, big3]

def xfOf : Four → Xf
  | .inl (.inl s) => .ys s
  | .inl (.inr x) => .ring x.1 x.2 false
  | .inr (.inl x) => .ring x.1 x.2 true
  | .inr (.inr t) => .y4 t
def xfIx : Xf → Four
  | .ys s => .inl (.inl s)
  | .ring h s false => .inl (.inr (h, s))
  | .ring h s true => .inr (.inl (h, s))
  | .y4 t => .inr (.inr t)
def xfE : Four ≃ Xf := ⟨xfOf, xfIx, by rintro ((s | x) | (x | t)) <;> rfl, by rintro (s | ⟨h, s, _ | _⟩ | t) <;> rfl⟩
def jobOf : Four → Job
  | .inl (.inl s) => .own s
  | .inl (.inr x) => .ring x.1 x.2 false
  | .inr (.inl x) => .ring x.1 x.2 true
  | .inr (.inr t) => .far t
def jobIx : Job → Four
  | .own s => .inl (.inl s)
  | .ring h s false => .inl (.inr (h, s))
  | .ring h s true => .inr (.inl (h, s))
  | .far t => .inr (.inr t)
def jobE : Four ≃ Job := ⟨jobOf, jobIx, by rintro ((s | x) | (x | t)) <;> rfl, by rintro (s | ⟨h, s, _ | _⟩ | t) <;> rfl⟩

theorem big_xf (Φ : Xf → sProp 𝕄) : bigSep Finset.univ Φ
    = iprop(((bigSep Finset.univ fun s => Φ (.ys s)) ∗ bigSep Finset.univ fun x : Fin 3 × Fin 4 => Φ (.ring x.1 x.2 false))
      ∗ (bigSep Finset.univ fun x : Fin 3 × Fin 4 => Φ (.ring x.1 x.2 true)) ∗ bigSep Finset.univ fun t => Φ (.y4 t)) := by
  rw [bigSep_univ_equiv xfE, big_four]; rfl
theorem big_job (Φ : Job → sProp 𝕄) : bigSep Finset.univ Φ
    = iprop(((bigSep Finset.univ fun s => Φ (.own s)) ∗ bigSep Finset.univ fun x : Fin 3 × Fin 4 => Φ (.ring x.1 x.2 false))
      ∗ (bigSep Finset.univ fun x : Fin 3 × Fin 4 => Φ (.ring x.1 x.2 true)) ∗ bigSep Finset.univ fun t => Φ (.far t)) := by
  rw [bigSep_univ_equiv jobE, big_four]; rfl

/-! ## The buffers opened -/

theorem emp_one (P : sProp 𝕄) : P ⊢ iprop(P ∗ emp) := by
  iintro H
  isplitl; · iexact H
  iempintro

/-- What a device hands its partner: the slots of the product slices and of the far chunk's halves. -/
theorem mine0 : iprop(buf (F := F) c cc0_scratch5 ∗ buf c cc0_scratch10) ⊢ mine c 0 := by
  unfold mine
  rw [slots5, slots10, big_xf]
  have e (b : Bool) : (bigSep Finset.univ fun x : Fin 3 × Fin 4 => if barOf (.ring x.1 x.2 b) = 0 then slotOwn (F := F) c (.ring x.1 x.2 b) else iprop(emp)) = iprop(emp) := by
    exact (bigSep_congr fun x _ => if_neg (by cases b <;> simp [barOf])).trans (bigSep_emp_const Finset.univ)
  rw [e, e]
  iintro ⟨H, H'⟩
  isplitl [H]
  · isplitl; · iexact H
    iempintro
  · isplitr; · iempintro
    iexact H'
theorem mine_ring (b : Bool) (i : Fin 3) (hi : i = if b then 2 else 1) : (bigSep Finset.univ fun x : Fin 3 × Fin 4 => iprop(∃ X, owns (c : Thread nD τ) (sl43 (bufR b) x.2 x.1) fullShare X)) ⊢ mine (F := F) c i := by
  unfold mine
  rw [big_xf]
  have e0 : (bigSep Finset.univ fun s : Fin 4 => if barOf (.ys s) = i then slotOwn (F := F) c (.ys s) else iprop(emp)) = iprop(emp) := by
    exact (bigSep_congr fun x _ => if_neg (by subst hi; cases b <;> simp [barOf])).trans (bigSep_emp_const Finset.univ)
  have e1 : (bigSep Finset.univ fun s : Fin 2 => if barOf (.y4 s) = i then slotOwn (F := F) c (.y4 s) else iprop(emp)) = iprop(emp) := by
    exact (bigSep_congr fun x _ => if_neg (by subst hi; cases b <;> simp [barOf])).trans (bigSep_emp_const Finset.univ)
  have e2 : (bigSep Finset.univ fun x : Fin 3 × Fin 4 => if barOf (.ring x.1 x.2 (!b)) = i then slotOwn (F := F) c (.ring x.1 x.2 (!b)) else iprop(emp)) = iprop(emp) := by
    exact (bigSep_congr fun x _ => if_neg (by subst hi; cases b <;> simp [barOf])).trans (bigSep_emp_const Finset.univ)
  have e3 : (bigSep Finset.univ fun x : Fin 3 × Fin 4 => if barOf (.ring x.1 x.2 b) = i then slotOwn (F := F) c (.ring x.1 x.2 b) else iprop(emp))
      = bigSep Finset.univ fun x : Fin 3 × Fin 4 => iprop(∃ X, owns (c : Thread nD τ) (sl43 (bufR b) x.2 x.1) fullShare X) :=
    bigSep_congr fun x _ => (if_pos (by subst hi; cases b <;> rfl)).trans rfl
  rw [e0, e1]
  cases b
  · rw [e3, show (bigSep Finset.univ fun x : Fin 3 × Fin 4 => if barOf (.ring x.1 x.2 true) = i then slotOwn (F := F) c (.ring x.1 x.2 true) else iprop(emp)) = iprop(emp) from e2]
    iintro H
    isplitl
    · isplitr; · iempintro
      iexact H
    · isplitr <;> iempintro
  · rw [e3, show (bigSep Finset.univ fun x : Fin 3 × Fin 4 => if barOf (.ring x.1 x.2 false) = i then slotOwn (F := F) c (.ring x.1 x.2 false) else iprop(emp)) = iprop(emp) from e2]
    iintro H
    isplitr
    · isplitr <;> iempintro
    · isplitl; · iexact H
      iempintro

/-- The scratch buffers opened: what the barrier hands over, and the slots the body starts from. -/
theorem scratch_open : iprop(buf (F := F) c cc0_scratch0 ∗ buf c cc0_scratch1 ∗ buf c cc0_scratch2 ∗ buf c cc0_scratch3 ∗ buf c cc0_scratch4 ∗ buf c cc0_scratch5 ∗ buf c cc0_scratch6
      ∗ buf c cc0_scratch7 ∗ buf c cc0_scratch8 ∗ buf c cc0_scratch9 ∗ buf c cc0_scratch10 ∗ buf c cc0_scratch11)
    ⊢ iprop((mine c 0 ∗ mine c 1 ∗ mine c 2) ∗ ((∃ X, owns (c : Thread nD τ) (slx xstM 0) fullShare X) ∗ (∃ X, owns (c : Thread nD τ) (slx xstM 1) fullShare X))
      ∗ (∃ X, owns (c : Thread nD τ) dyM fullShare X) ∗ (∃ X, owns (c : Thread nD τ) xpM fullShare X) ∗ (∃ X, owns (c : Thread nD τ) xmM fullShare X)
      ∗ ((∃ X, owns (c : Thread nD τ) (sl4 ysM 0) fullShare X) ∗ (∃ X, owns (c : Thread nD τ) (sl4 ysM 1) fullShare X) ∗ (∃ X, owns (c : Thread nD τ) (sl4 ysM 2) fullShare X) ∗ (∃ X, owns (c : Thread nD τ) (sl4 ysM 3) fullShare X))
      ∗ ((∃ X, owns (c : Thread nD τ) (sl4 redM 0) fullShare X) ∗ (∃ X, owns (c : Thread nD τ) (sl4 redM 1) fullShare X) ∗ (∃ X, owns (c : Thread nD τ) (sl4 redM 2) fullShare X) ∗ (∃ X, owns (c : Thread nD τ) (sl4 redM 3) fullShare X))
      ∗ ((∃ X, owns (c : Thread nD τ) (sl2 y4sM 0) fullShare X) ∗ (∃ X, owns (c : Thread nD τ) (sl2 y4sM 1) fullShare X))
      ∗ ((∃ X, owns (c : Thread nD τ) (sl2 red4M 0) fullShare X) ∗ (∃ X, owns (c : Thread nD τ) (sl2 red4M 1) fullShare X))) := by
  rw [slots2, slots4, slots6, slots7, slots8, slots9, slots11, big2, big2, big2, big4, big4]
  iintro ⟨H0, H1, H2, H3, H4, H5, H6, H7, H8, H9, H10, H11⟩
  isplitl [H5 H7 H8 H10]
  · isplitl [H5 H10]
    · iapply (mine0 c)
      isplitl [H5] <;> iassumption
    isplitl [H7]
    · iapply (mine_ring c false 1 rfl) $$ H7
    · iapply (mine_ring c true 2 rfl) $$ H8
  isplitl [H2]; · iexact H2
  isplitl [H3]; · iapply (ent_of_eq (one_eq c cc0_scratch3)) $$ H3
  isplitl [H0]; · iapply (ent_of_eq (one_eq c cc0_scratch0)) $$ H0
  isplitl [H1]; · iapply (ent_of_eq (one_eq c cc0_scratch1)) $$ H1
  isplitl [H4]; · iexact H4
  isplitl [H6]; · iexact H6
  isplitl [H9]; · iexact H9
  iexact H11

end
end Cert.Wgrad
-- ==== Proof.Result.lean ====
/- The result: its columns part into the pieces the program stores; what each holds is a part of one array. -/
module

public import proofs.«01_k».proof.Proof.Slots
public import Idealize.ShloMosaic.Lib.Pointwise.Index

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → Vec F S2048x2048 .f32) (B : Dev nD → Vec F S2048x8192 .f32) (c : Dev nD)

/-! ## Where the pieces lie -/

/-- The first column of a piece, and its width. -/
def jcol (c : Dev nD) : Job → ℕ
  | .own s => 1024 * pos c + 256 * s.val
  | .ring h s false => 1024 * ((pos c + 7 - h.val) % 8) + 256 * s.val
  | .ring h s true => 1024 * ((pos c + 1 + h.val) % 8) + 256 * s.val
  | .far t => 1024 * ((pos c + 4) % 8) + 512 * t.val
def jwid : Job → ℕ
  | .far _ => 512
  | _ => 256

theorem own_off : ∀ (c : Dev nD) (s : Fin 4), k0_off3 c (BitVec.ofNat 32 (256 * s.val)) = ![0, jcol c (.own s)] := by decide +kernel
theorem ringl_off : ∀ (c : Dev nD) (h : Fin 3) (s : Fin 4), k0_off4 c (BitVec.ofNat 32 h.val) (BitVec.ofNat 32 (256 * s.val)) = ![0, jcol c (.ring h s false)] := by decide +kernel
theorem ringr_off : ∀ (c : Dev nD) (h : Fin 3) (s : Fin 4), k0_off5 c (BitVec.ofNat 32 h.val) (BitVec.ofNat 32 (256 * s.val)) = ![0, jcol c (.ring h s true)] := by decide +kernel
theorem far_off : ∀ (c : Dev nD) (t : Fin 2), k0_off6 c (BitVec.ofNat 32 (512 * t.val)) = ![0, jcol c (.far t)] := by decide +kernel
theorem pos_lt8 : ∀ c : Dev nD, pos c < 8 := by decide +kernel

theorem mem_col (c : Dev nD) (j : Job) (i : S1024x8192.Idx) : i ∈ (jrect c j).set ↔ (jcol c j ≤ (i 1).val ∧ (i 1).val < jcol c j + jwid j) := by
  have h0 : (i 0).val < 1024 := (i 0).isLt
  rcases j with s | ⟨h, s, _ | _⟩ | t
  · refine (Rect.mem_set_unit (s := S1024x8192)).trans ?_
    rw [own_off]
    exact ⟨fun h => h 1, fun h a => by fin_cases a; exacts [⟨Nat.zero_le _, by simpa [S1024x256] using h0⟩, h]⟩
  · refine (Rect.mem_set_unit (s := S1024x8192)).trans ?_
    rw [ringl_off]
    exact ⟨fun h => h 1, fun h a => by fin_cases a; exacts [⟨Nat.zero_le _, by simpa [S1024x256] using h0⟩, h]⟩
  · refine (Rect.mem_set_unit (s := S1024x8192)).trans ?_
    rw [ringr_off]
    exact ⟨fun h => h 1, fun h a => by fin_cases a; exacts [⟨Nat.zero_le _, by simpa [S1024x256] using h0⟩, h]⟩
  · refine (Rect.mem_set_unit (s := S1024x8192)).trans ?_
    rw [far_off]
    exact ⟨fun h => h 1, fun h a => by fin_cases a; exacts [⟨Nat.zero_le _, by simpa [S1024x512] using h0⟩, h]⟩

/-- The slice, and the half, of its chunk a column lies in. -/
def colS (n : ℕ) : Fin 4 := ⟨n % 1024 / 256, by omega⟩
def colT (n : ℕ) : Fin 2 := ⟨n % 1024 / 512, by omega⟩
/-- How far, going right, the chunk of a column is from the device's own. -/
def rel (c : Dev nD) (n : ℕ) : ℕ := (n / 1024 + 8 - pos c) % 8
/-- The piece a column belongs to. -/
def jkey (c : Dev nD) (n : ℕ) : Job :=
  if rel c n = 0 then .own (colS n) else if rel c n = 4 then .far (colT n)
  else if rel c n < 4 then .ring ⟨(rel c n - 1) % 3, Nat.mod_lt _ (by decide)⟩ (colS n) true
  else .ring ⟨(7 - rel c n) % 3, Nat.mod_lt _ (by decide)⟩ (colS n) false

theorem jkey_mem (c : Dev nD) (n : ℕ) (hn : n < 8192) : jcol c (jkey c n) ≤ n ∧ n < jcol c (jkey c n) + jwid (jkey c n) := by
  have hp := pos_lt8 c
  have hr : rel c n = (n / 1024 + 8 - pos c) % 8 := rfl
  unfold jkey
  split
  · simp only [jcol, jwid, colS]; omega
  split
  · simp only [jcol, jwid, colT]; omega
  split
  · simp only [jcol, jwid, colS]; omega
  · simp only [jcol, jwid, colS]; omega

theorem jkey_eq (c : Dev nD) (n : ℕ) (j : Job) (h : jcol c j ≤ n ∧ n < jcol c j + jwid j) : jkey c n = j := by
  have hp := pos_lt8 c
  have hr : rel c n = (n / 1024 + 8 - pos c) % 8 := rfl
  unfold jkey
  rcases j with s | ⟨k, s, _ | _⟩ | t
  · have hs := s.isLt
    simp only [jcol, jwid] at h
    rw [if_pos (by omega)]
    congr 1; apply Fin.ext; simp only [colS]; omega
  · have hs := s.isLt
    have hk := k.isLt
    simp only [jcol, jwid] at h
    have h1 : rel c n = 7 - k.val := by omega
    rw [if_neg (by omega), if_neg (by omega), if_neg (by omega)]
    congr 1
    · apply Fin.ext; simp only; omega
    · apply Fin.ext; simp only [colS]; omega
  · have hs := s.isLt
    have hk := k.isLt
    simp only [jcol, jwid] at h
    have h1 : rel c n = 1 + k.val := by omega
    rw [if_neg (by omega), if_neg (by omega), if_pos (by omega)]
    congr 1
    · apply Fin.ext; simp only; omega
    · apply Fin.ext; simp only [colS]; omega
  · have hs := t.isLt
    simp only [jcol, jwid] at h
    have h1 : rel c n = 4 := by omega
    rw [if_neg (by omega), if_pos (by omega)]
    congr 1; apply Fin.ext; simp only [colT]; omega

theorem mem_job (c : Dev nD) (j : Job) (i : S1024x8192.Idx) : i ∈ (jrect c j).set ↔ jkey c (i 1).val = j :=
  (mem_col c j i).trans ⟨jkey_eq c _ j, fun h => h ▸ jkey_mem c _ (i 1).isLt⟩

/-! ## What the result holds -/

/-- The result of device `c`: in its far chunk the sum it makes itself, elsewhere the sum made by the device of its
    row that owns the chunk. -/
def OUT : Vec F S1024x8192 .bf16 := fun i =>
  if rel c (i 1).val = 4 then RED4 A B c (colT (i 1).val) (ix2 (i 0 : Fin 1024) (⟨(i 1).val % 512, Nat.mod_lt _ (by decide)⟩ : Fin 512))
  else RED A B (devAt (row c) ((i 1).val / 1024)) (colS (i 1).val) (ix2 (i 0 : Fin 1024) (⟨(i 1).val % 256, Nat.mod_lt _ (by decide)⟩ : Fin 256))

theorem dev_pos : ∀ c : Dev nD, devAt (row c) (pos c) = c := by decide +kernel
theorem stp_left : ∀ (c : Dev nD) (h : Fin 3), stp false (h.val + 1) c = devAt (row c) ((pos c + 7 - h.val) % 8) := by decide +kernel
theorem stp_right : ∀ (c : Dev nD) (h : Fin 3), stp true (h.val + 1) c = devAt (row c) ((pos c + 1 + h.val) % 8) := by decide +kernel

theorem ix_eq {n0 n1 : ℕ} (x : (⟨2, ![n0, n1]⟩ : Shape).Idx) (a : Fin n0) (b : Fin n1) (h0 : (x 0).val = a.val) (h1 : (x 1).val = b.val) : x = ix2 a b := by
  funext k
  apply Fin.ext
  fin_cases k
  · exact h0
  · exact h1

/-- The columns and rows a piece's indices stand for. -/
theorem emb_col (j : Job) (x : (jrect c j).shape.Idx) : ((jrect c j).emb x 1).val = jcol c j + (x 1).val ∧ ((jrect c j).emb x 0).val = (x 0).val := by
  rcases j with s | ⟨h, s, _ | _⟩ | t
  · constructor
    · show k0_off3 c (BitVec.ofNat 32 (256 * s.val)) 1 + 1 * (x 1).val = _
      rw [own_off, Nat.one_mul]; rfl
    · show k0_off3 c (BitVec.ofNat 32 (256 * s.val)) 0 + 1 * (x 0).val = _
      rw [own_off, Nat.one_mul]; exact Nat.zero_add _
  · constructor
    · show k0_off4 c (BitVec.ofNat 32 h.val) (BitVec.ofNat 32 (256 * s.val)) 1 + 1 * (x 1).val = _
      rw [ringl_off, Nat.one_mul]; rfl
    · show k0_off4 c (BitVec.ofNat 32 h.val) (BitVec.ofNat 32 (256 * s.val)) 0 + 1 * (x 0).val = _
      rw [ringl_off, Nat.one_mul]; exact Nat.zero_add _
  · constructor
    · show k0_off5 c (BitVec.ofNat 32 h.val) (BitVec.ofNat 32 (256 * s.val)) 1 + 1 * (x 1).val = _
      rw [ringr_off, Nat.one_mul]; rfl
    · show k0_off5 c (BitVec.ofNat 32 h.val) (BitVec.ofNat 32 (256 * s.val)) 0 + 1 * (x 0).val = _
      rw [ringr_off, Nat.one_mul]; exact Nat.zero_add _
  · constructor
    · show k0_off6 c (BitVec.ofNat 32 (512 * t.val)) 1 + 1 * (x 1).val = _
      rw [far_off, Nat.one_mul]; rfl
    · show k0_off6 c (BitVec.ofNat 32 (512 * t.val)) 0 + 1 * (x 0).val = _
      rw [far_off, Nat.one_mul]; exact Nat.zero_add _

/-- A slice of a chunk summed by the device at position `q` of the row. -/
theorem OUT_slice (i : S1024x8192.Idx) (q : ℕ) (s : Fin 4) (x : S1024x256.Idx) (hq : q < 8) (hne : (q + 8 - pos c) % 8 ≠ 4)
    (h1 : (i 1).val = 1024 * q + 256 * s.val + (x 1).val) (h0 : (i 0).val = (x 0).val) : OUT A B c i = RED A B (devAt (row c) q) s x := by
  have hs := s.isLt
  have hx : (x 1).val < 256 := (x 1).isLt
  have e1 : (i 1).val / 1024 = q := by omega
  have e2 : colS (i 1).val = s := by apply Fin.ext; simp only [colS]; omega
  unfold OUT
  rw [if_neg (by unfold rel; rw [e1]; exact hne), e1, e2]
  congr 1
  refine (ix_eq x _ _ ?_ ?_).symm
  · exact h0.symm
  · show (x 1).val = (i 1).val % 256
    omega
/-- A half of the far chunk. -/
theorem OUT_half (i : S1024x8192.Idx) (t : Fin 2) (x : S1024x512.Idx)
    (h1 : (i 1).val = 1024 * ((pos c + 4) % 8) + 512 * t.val + (x 1).val) (h0 : (i 0).val = (x 0).val) : OUT A B c i = RED4 A B c t x := by
  have hp := pos_lt8 c
  have ht := t.isLt
  have hx : (x 1).val < 512 := (x 1).isLt
  have e2 : colT (i 1).val = t := by apply Fin.ext; simp only [colT]; omega
  unfold OUT
  rw [if_pos (by unfold rel; omega), e2]
  congr 1
  refine (ix_eq x _ _ ?_ ?_).symm
  · exact h0.symm
  · show (x 1).val = (i 1).val % 512
    omega

/-- Each piece holds its part of the result. -/
theorem OUT_piece (j : Job) : (fun x => OUT A B c ((jrect c j).emb x)) = jval A B c j := by
  have hp := pos_lt8 c
  funext x
  obtain ⟨h1, h0⟩ := emb_col c j x
  rcases j with s | ⟨h, s, _ | _⟩ | t
  · rw [OUT_slice A B c _ (pos c) s x hp (by omega) h1 h0, dev_pos]; rfl
  · have hh := h.isLt
    rw [OUT_slice A B c _ ((pos c + 7 - h.val) % 8) s x (by omega) (by omega) h1 h0, ← stp_left]; rfl
  · have hh := h.isLt
    rw [OUT_slice A B c _ ((pos c + 1 + h.val) % 8) s x (by omega) (by omega) h1 h0, ← stp_right]; rfl
  · rw [OUT_half A B c _ t x h1 h0]; rfl

/-! ## The result opened and closed -/

theorem out_start (X : Vec F S1024x8192 .bf16) : (owns (c : Thread nD τ) outM fullShare X : sProp 𝕄) ⊢ Out A B c 0 0 := by
  refine BIBase.Entails.trans (owns_rects (c : Thread nD τ) outM fullShare (jrect c) (jrect_stride c) (part_disj (mem_job c)) (part_cover (mem_job c)) X) ?_
  unfold Out
  refine big_mono fun j => ?_
  unfold outj
  rw [if_pos (Nat.zero_le _)]
  iintro H
  iexists _
  iexact H

theorem jord_lt : ∀ j : Job, jord j < 30 := by decide +kernel
theorem out_end : Out A B c 30 30 ⊢ iprop(owns (c : Thread nD τ) outM fullShare (OUT A B c) ∗ bigSep Finset.univ (lent A B c)) := by
  have h : Out A B c 30 30 = iprop((bigSep Finset.univ fun j => owns (c : Thread nD τ) (jpiece c j) fullShare (fun x => OUT A B c ((jrect c j).emb x))) ∗ bigSep Finset.univ (lent A B c)) := by
    unfold Out
    rw [← bigSep_sep']
    refine bigSep_congr fun j _ => ?_
    have := jord_lt j
    unfold outj
    rw [if_neg (by omega), if_neg (by omega), OUT_piece]
  rw [h]
  iintro ⟨H, Hl⟩
  isplitl [H]
  · iapply (owns_of_rects (c : Thread nD τ) outM fullShare (jrect c) (jrect_stride c) (part_disj (mem_job c)) (part_cover (mem_job c)) (OUT A B c)) $$ H
  · iexact Hl

end
end Cert.Wgrad
-- ==== Proof.Close.lean ====
/- The end of the body: what its transfers and stores give back makes the scratch buffers whole again. -/
module

public import proofs.«01_k».proof.Proof.Result

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (A : Dev nD → Vec F S2048x2048 .f32) (B : Dev nD → Vec F S2048x8192 .f32) (c : Dev nD)

/-- Two families joined member by member. -/
theorem big_zip {T : Type} [Fintype T] [DecidableEq T] {P R Q : T → sProp (MT nD τ sig Unit (Elt F) ℕ UU ℕ)} (h : ∀ t, iprop(P t ∗ R t) ⊢ Q t) :
    iprop(bigSep Finset.univ P ∗ bigSep Finset.univ R) ⊢ bigSep Finset.univ Q :=
  BIBase.Entails.trans (ent_of_eq (bigSep_sep' Finset.univ P R).symm) (big_mono h)

/-- The two halves of a slot are the slot. -/
theorem halves {sp : Space} {s : Shape} {e : EltTy} (m : Memref sig .tc sp s e) (q : PosShare TreeShare) (X : s.Idx → Elt F e) :
    iprop(owns (c : Thread nD τ) m q.left X ∗ owns (c : Thread nD τ) m q.right X) ⊢ (owns (c : Thread nD τ) m q X : sProp 𝕄) :=
  (owns_halves (c : Thread nD τ) m q X).2
theorem some_of {sp : Space} {s : Shape} {e : EltTy} (m : Memref sig .tc sp s e) (X : s.Idx → Elt F e) :
    (owns (c : Thread nD τ) m fullShare X : sProp 𝕄) ⊢ iprop(∃ X, owns (c : Thread nD τ) m fullShare X) := by
  iintro H
  iexists X
  iexact H

/-- The slots of the sums: what two transfers and a store borrowed. -/
theorem red_back : iprop((bigSep Finset.univ fun s => sent A B c (.ring 0 s false)) ∗ (bigSep Finset.univ fun s => sent A B c (.ring 0 s true)) ∗ bigSep Finset.univ fun s => lent A B c (.own s))
    ⊢ buf (F := F) c cc0_scratch6 := by
  rw [slots6]
  have h (s : Fin 4) : iprop(sent A B c (.ring 0 s false) ∗ sent A B c (.ring 0 s true)) ⊢ (owns (c : Thread nD τ) (sl4 redM s) fullShare.left (RED A B c s) : sProp 𝕄) :=
    halves c (sl4 redM s) fullShare.left (RED A B c s)
  have h' (s : Fin 4) : iprop(owns (c : Thread nD τ) (sl4 redM s) fullShare.left (RED A B c s) ∗ lent A B c (.own s)) ⊢ (iprop(∃ X, owns (c : Thread nD τ) (sl4 redM s) fullShare X) : sProp 𝕄) :=
    BIBase.Entails.trans (halves c (sl4 redM s) fullShare (RED A B c s)) (some_of c _ _)
  iintro ⟨H0, H1, H2⟩
  iapply (big_zip h')
  isplitl [H0 H1]
  · iapply (big_zip h)
    isplitl [H0] <;> iassumption
  · iexact H2

/-- The slots of a ring buffer: what the next hop's transfer and the store borrowed. -/
theorem ring_back (b : Bool) : iprop((bigSep Finset.univ fun s => sent A B c (.ring 1 s b)) ∗ (bigSep Finset.univ fun s => sent A B c (.ring 2 s b))
      ∗ bigSep Finset.univ fun x : Fin 3 × Fin 4 => lent A B c (.ring x.1 x.2 b))
    ⊢ (bigSep Finset.univ fun x : Fin 3 × Fin 4 => iprop(∃ X, owns (c : Thread nD τ) (sl43 (bufR b) x.2 x.1) fullShare X) : sProp 𝕄) := by
  rw [big_hops, big_hops]
  have h0 (s : Fin 4) : iprop(sent A B c (.ring 1 s b) ∗ lent A B c (.ring 0 s b)) ⊢ (iprop(∃ X, owns (c : Thread nD τ) (sl43 (bufR b) s 0) fullShare X) : sProp 𝕄) :=
    BIBase.Entails.trans (halves c (sl43 (bufR b) s 0) fullShare (RV A B c 0 s b)) (some_of c _ _)
  have h1 (s : Fin 4) : iprop(sent A B c (.ring 2 s b) ∗ lent A B c (.ring 1 s b)) ⊢ (iprop(∃ X, owns (c : Thread nD τ) (sl43 (bufR b) s 1) fullShare X) : sProp 𝕄) :=
    BIBase.Entails.trans (halves c (sl43 (bufR b) s 1) fullShare (RV A B c 1 s b)) (some_of c _ _)
  have h2 (s : Fin 4) : lent A B c (.ring 2 s b) ⊢ (iprop(∃ X, owns (c : Thread nD τ) (sl43 (bufR b) s 2) fullShare X) : sProp 𝕄) :=
    some_of c (sl43 (bufR b) s 2) (RV A B c 2 s b)
  iintro ⟨S1, S2, J0, J1, J2⟩
  isplitl [S1 J0]
  · iapply (big_zip h0)
    isplitl [S1] <;> iassumption
  isplitl [S2 J1]
  · iapply (big_zip h1)
    isplitl [S2] <;> iassumption
  · iapply (big_mono h2) $$ J2

/-- The scratch buffers closed. -/
theorem scratch_close : iprop(bigSep Finset.univ (sent A B c) ∗ bigSep Finset.univ (lent A B c)
      ∗ owns (c : Thread nD τ) (slx xstM 0) fullShare (AX A c 0) ∗ owns (c : Thread nD τ) (slx xstM 1) fullShare (AX A c 1) ∗ owns (c : Thread nD τ) (dyM) fullShare (DF B c) ∗ owns (c : Thread nD τ) (xpM) fullShare (XP A c) ∗ owns (c : Thread nD τ) (xmM) fullShare (XM A c) ∗ owns (c : Thread nD τ) (sl4 yrM 0) fullShare (YS A B (partner c) 0) ∗ owns (c : Thread nD τ) (sl4 yrM 1) fullShare (YS A B (partner c) 1) ∗ owns (c : Thread nD τ) (sl4 yrM 2) fullShare (YS A B (partner c) 2) ∗ owns (c : Thread nD τ) (sl4 yrM 3) fullShare (YS A B (partner c) 3) ∗ owns (c : Thread nD τ) (sl2 y4rM 0) fullShare (Y4 A B (partner c) 0) ∗ owns (c : Thread nD τ) (sl2 y4rM 1) fullShare (Y4 A B (partner c) 1))
    ⊢ iprop(buf (F := F) c cc0_scratch0 ∗ buf c cc0_scratch1 ∗ buf c cc0_scratch2 ∗ buf c cc0_scratch3 ∗ buf c cc0_scratch4 ∗ buf c cc0_scratch5 ∗ buf c cc0_scratch6
      ∗ buf c cc0_scratch7 ∗ buf c cc0_scratch8 ∗ buf c cc0_scratch9 ∗ buf c cc0_scratch10 ∗ buf c cc0_scratch11) := by
  have hy (s : Fin 4) : sent A B c (.ys s) ⊢ (iprop(∃ X, owns (c : Thread nD τ) (sl4 ysM s) fullShare X) : sProp 𝕄) := some_of c (sl4 ysM s) (YS A B c s)
  have hz (t : Fin 2) : sent A B c (.y4 t) ⊢ (iprop(∃ X, owns (c : Thread nD τ) (sl2 y4sM t) fullShare X) : sProp 𝕄) := some_of c (sl2 y4sM t) (Y4 A B c t)
  have hf (t : Fin 2) : lent A B c (.far t) ⊢ (iprop(∃ X, owns (c : Thread nD τ) (sl2 red4M t) fullShare X) : sProp 𝕄) := some_of c (sl2 red4M t) (RED4 A B c t)
  rw [big_xf, big_job, big_hops (fun x => sent A B c (.ring x.1 x.2 false)), big_hops (fun x => sent A B c (.ring x.1 x.2 true))]
  iintro ⟨⟨⟨Sy, Sa0, Sa1, Sa2⟩, ⟨Sb0, Sb1, Sb2⟩, Sz⟩, ⟨⟨Jo, Ja⟩, Jb, Jf⟩, X0, X1, Dy, XP, XM, Y0, Y1, Y2, Y3, Z0, Z1⟩
  isplitl [XP]; · iapply (ent_of_eq (one_eq c cc0_scratch0).symm); iapply (some_of c xpM (XP A c)) $$ XP
  isplitl [XM]; · iapply (ent_of_eq (one_eq c cc0_scratch1).symm); iapply (some_of c xmM (XM A c)) $$ XM
  isplitl [X0 X1]
  · iapply (ent_of_eq ((slots2 c).trans (big2 _)).symm)
    isplitl [X0]
    · iapply (some_of c (slx xstM 0) (AX A c 0)) $$ X0
    · iapply (some_of c (slx xstM 1) (AX A c 1)) $$ X1
  isplitl [Dy]; · iapply (ent_of_eq (one_eq c cc0_scratch3).symm); iapply (some_of c dyM (DF B c)) $$ Dy
  isplitl [Sy]; · iapply (ent_of_eq (slots4 c).symm); iapply (big_mono hy) $$ Sy
  isplitl [Y0 Y1 Y2 Y3]
  · iapply (ent_of_eq ((slots5 c).trans (big4 _)).symm)
    isplitl [Y0]; · iapply (some_of c (sl4 yrM 0) (YS A B (partner c) 0)) $$ Y0
    isplitl [Y1]; · iapply (some_of c (sl4 yrM 1) (YS A B (partner c) 1)) $$ Y1
    isplitl [Y2]; · iapply (some_of c (sl4 yrM 2) (YS A B (partner c) 2)) $$ Y2
    iapply (some_of c (sl4 yrM 3) (YS A B (partner c) 3)) $$ Y3
  isplitl [Sa0 Sb0 Jo]
  · iapply (red_back A B c)
    isplitl [Sa0]; · iexact Sa0
    isplitl [Sb0]; · iexact Sb0
    iexact Jo
  isplitl [Sa1 Sa2 Ja]
  · iapply (ent_of_eq (slots7 c).symm)
    iapply (ring_back A B c false)
    isplitl [Sa1]; · iexact Sa1
    isplitl [Sa2]; · iexact Sa2
    iexact Ja
  isplitl [Sb1 Sb2 Jb]
  · iapply (ent_of_eq (slots8 c).symm)
    iapply (ring_back A B c true)
    isplitl [Sb1]; · iexact Sb1
    isplitl [Sb2]; · iexact Sb2
    iexact Jb
  isplitl [Sz]; · iapply (ent_of_eq (slots9 c).symm); iapply (big_mono hz) $$ Sz
  isplitl [Z0 Z1]
  · iapply (ent_of_eq ((slots10 c).trans (big2 _)).symm)
    isplitl [Z0]
    · iapply (some_of c (sl2 y4rM 0) (Y4 A B (partner c) 0)) $$ Z0
    · iapply (some_of c (sl2 y4rM 1) (Y4 A B (partner c) 1)) $$ Z1
  · iapply (ent_of_eq (slots11 c).symm); iapply (big_mono hf) $$ Jf

/-! ## The counters at the end -/

theorem swX_lt : ∀ d : Xf, swX d < 30 := by decide +kernel
theorem wordX_lt : ∀ d : Xf, wordX d < 30 := by decide +kernel
theorem ow_end : Ow A B c 33 30 ⊢ iprop((∃ W, owes (c : Thread nD τ) (0 : CellTallies nD τ sig Unit) W) ∗ bigSep Finset.univ (sent A B c)
    ∗ bigSep Finset.univ fun d : Xf => semVal ((c : Thread nD τ), SemLoc.dma (ssem d)) 0) := by
  have h : bigSep Finset.univ (outp A B c 33 30) = iprop(bigSep Finset.univ (sent A B c) ∗ bigSep Finset.univ fun d : Xf => semVal ((c : Thread nD τ), SemLoc.dma (ssem d)) 0) := by
    rw [← bigSep_sep']
    refine bigSep_congr fun d _ => ?_
    have h1 : ordX d < 33 := ord_lt (.xf d)
    have h2 := swX_lt d
    unfold outp
    rw [if_neg (by omega), if_neg (by omega)]
  unfold Ow
  rw [h, O_end]
theorem rx_end : Rx (F := F) c 30 = bigSep Finset.univ fun d : Xf => semVal ((c : Thread nD τ), SemLoc.dma (rsem d)) 0 := by
  unfold Rx
  refine bigSep_congr fun d _ => ?_
  have h2 := wordX_lt d
  unfold inp
  rw [if_neg (by omega)]
theorem rx_start : Rx (F := F) c 0 = iprop((bigSep Finset.univ fun d : Xf => atPos ER ((c : Thread nD τ), .dma (rsem d)) 0 ∅ 0)
    ∗ bigSep Finset.univ fun d : Xf => cred (tallyAt ((c : Thread nD τ), .dma (rsem d)) () (amt (.xf d)))) := by
  unfold Rx
  rw [← bigSep_sep']
  refine bigSep_congr fun d _ => ?_
  unfold inp
  rw [if_pos (Nat.zero_le _)]

end
end Cert.Wgrad
-- ==== Proof.Mint.lean ====
/- The launch's ghost state: the cells, the tokens and the credits dealt out to the devices. -/
module

public import proofs.«01_k».proof.Proof.Close
public import proofs.«01_k».proof.Proof.Gen.KernelIdeal.Launch
public import Idealize.ShloMosaic.Lib.Pipeline.Launch

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores the kernel's scope holds -/

/-- The local copies' semaphores, the transfers' at their senders, the transfers' at their receivers. -/
abbrev Own : Type := Fin 7 ⊕ (Xf ⊕ Xf)
def osem : Own → SemLoc sig
  | .inl i => .dma (lsem i)
  | .inr (.inl d) => .dma (ssem d)
  | .inr (.inr d) => .dma (rsem d)

theorem osem_inj : ∀ k k' : Own, osem k = osem k' → k = k' := by decide +kernel
theorem ownSemFacts : Pipeline.OwnSemFacts cfg0.spec osem :=
  ⟨by decide +kernel, osem_inj, fun _ w => w.elim0⟩

theorem ownSems0_eq (c : Dev nD) : (Pipeline.ownSems0 (Ix := Unit) (Name := ℕ) (U := UU) (Lvl := ℕ) (Val := Elt F) (τ := τ) osem c : sProp 𝕄)
    = iprop((bigSep Finset.univ fun i : Fin 7 => semVal ((c : Thread nD τ), SemLoc.dma (lsem i)) 0)
      ∗ (bigSep Finset.univ fun d : Xf => semVal ((c : Thread nD τ), SemLoc.dma (ssem d)) 0)
      ∗ bigSep Finset.univ fun d : Xf => semVal ((c : Thread nD τ), SemLoc.dma (rsem d)) 0) := by
  unfold Pipeline.ownSems0
  rw [bigSep_univ_sum, bigSep_univ_sum]; rfl
theorem unscopedSems0_eq (c : Dev nD) : (unscopedSems0 c : sProp 𝕄) = semVal ((c : Thread nD τ), SemLoc.reg barS) 0 := by
  unfold unscopedSems0; rw [bigSep_eq_bigSepL_of_eq [SemLoc.reg barS] (by decide) (by decide)]; rfl

/-- A separating conjunction over a device's cells: its barrier's part, and its transfers'. -/
theorem big_opt (Φ : Option Xf → sProp 𝕄) : bigSep Finset.univ Φ = iprop(Φ none ∗ bigSep Finset.univ fun d => Φ (some d)) := by
  rw [bigSep_univ_at Φ none, show Finset.univ.erase (none : Option Xf) = Finset.univ.image some from by decide +kernel,
    bigSep_image_of_injOn (fun _ _ _ _ h => Option.some.inj h)]

def dueE : Fin 3 ⊕ Xf ≃ Due where
  toFun := fun | .inl i => .bar i | .inr d => .xf d
  invFun := fun | .bar i => .inl i | .xf d => .inr d
  left_inv := by rintro (_ | _) <;> rfl
  right_inv := by rintro (_ | _) <;> rfl
theorem big_due (Φ : Due → sProp 𝕄) : bigSep Finset.univ Φ
    = iprop((bigSep Finset.univ fun i => Φ (.bar i)) ∗ bigSep Finset.univ fun d => Φ (.xf d)) := by
  rw [bigSep_univ_equiv dueE, bigSep_univ_sum]; rfl

theorem ckSem_inj : ∀ k k' : Option Xf, ckSem k = ckSem k' → k = k'
  | none, none, _ => rfl
  | none, some _, h => by cases h
  | some _, none, h => by cases h
  | some d, some d', h => congrArg some (rsem_inj d d' (SemLoc.dma.inj h))

theorem kcell_injective : Function.Injective kcell := by
  rintro ⟨c, k⟩ ⟨c', k'⟩ h
  have h1 : c = c' := congrArg (fun g : GSem nD τ sig => g.1.1) h
  have h2 : k = k' := ckSem_inj k k' (congrArg Prod.snd h)
  rw [h1, h2]
def cellsF : Finset (GSem nD τ sig) := Finset.univ.map ⟨kcell, kcell_injective⟩

/-- The tokens as minted: a device's semaphore, and a due paid on it. -/
def tokOf (x : Dev nD × Due) : GSem nD τ sig × ℕ × Due := (((x.1 : Thread nD τ), dsem x.2), 0, x.2)
theorem tokOf_injective : Function.Injective tokOf := by
  rintro ⟨c, d⟩ ⟨c', d'⟩ h
  have h1 : c = c' := congrArg (fun g : GSem nD τ sig × ℕ × Due => g.1.1.1) h
  have h2 : d = d' := congrArg (fun g : GSem nD τ sig × ℕ × Due => g.2.2) h
  rw [h1, h2]
def toksF : Finset (GSem nD τ sig × ℕ × Due) := Finset.univ.map ⟨tokOf, tokOf_injective⟩

def u₀ : UU :=
  (initOf (Pipeline.cells cfgs cellOf_inj) (Pipeline.launchToks cfgs cellOf_inj), (initOf cellsF toksF, 1))

theorem u₀_split : (ownU u₀ : sProp 𝕄) ⊢ iprop(BI.own (EP (initOf (Pipeline.cells cfgs cellOf_inj) (Pipeline.launchToks cfgs cellOf_inj)))
    ∗ BI.own (ER (initOf cellsF toksF))) := by
  unfold u₀ ownU EP ER
  exact BI.own_op_elim ((uEmb (nD := nD) (τ := τ) (sig := sig) (Ix := Unit) (Val := Elt F) (Name := ℕ) (U := UU) (Lvl := ℕ)).toEmb.op_of_mem
    (Prod.mk_mem_op (URA.mem_op_one _) (URA.mem_one_op ((initOf cellsF toksF, 1) : UB × Counters))))

variable (A : Dev nD → Vec F S2048x2048 .f32) (B : Dev nD → Vec F S2048x8192 .f32)

/-! ## The cells funded, and their tokens dealt to the devices that pay -/

/-- What the launch deals a device: its cells' states and positions, and the tokens of the dues its cells receive. -/
def G (c : Dev nD) : sProp (MT nD τ sig Unit (Elt F) ℕ UU ℕ) :=
  iprop((bigSep Finset.univ fun k : Option Xf => roundState ER (plan A B) (kcell (c, k)) 0)
    ∗ (bigSep Finset.univ fun k : Option Xf => reached ER (kcell (c, k)) 0) ∗ (bigSep Finset.univ fun k : Option Xf => atPos ER (kcell (c, k)) 0 ∅ 0)
    ∗ bigSep Finset.univ fun d : Due => dutyTok ER ((c : Thread nD τ), dsem d) 0 d)

theorem fund : BI.own (ER (initOf cellsF toksF)) ⊢ (|==> bigSep Finset.univ (G A B) : sProp 𝕄) := by
  have hX (Φ : GSem nD τ sig → sProp 𝕄) : bigSep cellsF Φ = bigSep Finset.univ fun c : Dev nD => bigSep Finset.univ fun k : Option Xf => Φ (kcell (c, k)) := by
    unfold cellsF; rw [bigSep_map, bigSep_univ_prod]; rfl
  have hT : bigSep toksF (fun x => (dutyTok ER x.1 x.2.1 x.2.2 : sProp 𝕄))
      = bigSep Finset.univ fun c : Dev nD => bigSep Finset.univ fun d : Due => dutyTok ER ((c : Thread nD τ), dsem d) 0 d := by
    unfold toksF; rw [bigSep_map, bigSep_univ_prod]; rfl
  have hG : bigSep Finset.univ (G A B) = (iprop(bigSep cellsF (fun g => roundState ER (plan A B) g 0) ∗ bigSep cellsF (fun g => reached ER g 0)
      ∗ bigSep cellsF (fun g => atPos ER g 0 ∅ 0) ∗ bigSep toksF (fun x => dutyTok ER x.1 x.2.1 x.2.2)) : sProp 𝕄) := by
    rw [hX, hX, hX, hT]; unfold G; rw [bigSep_sep', bigSep_sep', bigSep_sep']
  rw [hG]
  exact Rounds.fund ER (plan A B) cellsF toksF

/-- What a device holds once the cells stand: its positions, its tokens by payer, and the semaphores of its own copies. -/
def linear (c : Dev nD) : sProp (MT nD τ sig Unit (Elt F) ℕ UU ℕ) :=
  iprop((bigSep Finset.univ fun k : Option Xf => atPos ER (kcell (c, k)) 0 ∅ 0) ∗ (bigSep Finset.univ fun d : Due => dutyTok ER (dcell c d) 0 d)
    ∗ (bigSep Finset.univ fun i : Fin 7 => semVal ((c : Thread nD τ), SemLoc.dma (lsem i)) 0)
    ∗ bigSep Finset.univ fun d : Xf => semVal ((c : Thread nD τ), SemLoc.dma (ssem d)) 0)

/-- The cells, as every device knows them. -/
def known (K : CK → ℕ) : sProp (MT nD τ sig Unit (Elt F) ℕ UU ℕ) :=
  bigSep Finset.univ (fun x : CK => iprop(cellInv ER (plan A B) (K x) (kcell x) ∗ reached ER (kcell x) 0))
instance (K : CK → ℕ) : Persistent (known A B K) := by unfold known; infer_instance

def G' (c : Dev nD) : sProp (MT nD τ sig Unit (Elt F) ℕ UU ℕ) := iprop(∃ K, known A B K ∗ linear c)

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> (iprop((bigSep Finset.univ fun k => iprop(∃ κ : ℕ, cellInv ER (plan A B) κ (kcell (c, k))))
          ∗ (bigSep Finset.univ fun k : Option Xf => reached ER (kcell (c, k)) 0) ∗ (bigSep Finset.univ fun k : Option Xf => atPos ER (kcell (c, k)) 0 ∅ 0)
          ∗ (bigSep Finset.univ fun d : Due => dutyTok ER ((c : Thread nD τ), dsem d) 0 d)
          ∗ (bigSep Finset.univ fun i : Fin 7 => semVal ((c : Thread nD τ), SemLoc.dma (lsem i)) 0)
          ∗ bigSep Finset.univ fun d : Xf => semVal ((c : Thread nD τ), SemLoc.dma (ssem d)) 0) : sProp 𝕄) := by
  have hv : iprop(semVal ((c : Thread nD τ), SemLoc.reg barS) 0 ∗ bigSep Finset.univ fun d : Xf => semVal ((c : Thread nD τ), SemLoc.dma (rsem d)) 0)
      ⊢ (bigSep Finset.univ fun k : Option Xf => semVal (kcell (c, k)) 0 : sProp 𝕄) :=
    ent_of_eq (big_opt fun k : Option Xf => semVal (kcell (c, k)) 0).symm
  have hi : iprop((bigSep Finset.univ fun k : Option Xf => semVal (kcell (c, k)) 0) ∗ bigSep Finset.univ fun k : Option Xf => roundState ER (plan A B) (kcell (c, k)) 0)
      ⊢ (|={Set.univ}=> bigSep Finset.univ fun k => iprop(∃ κ : ℕ, cellInv ER (plan A B) κ (kcell (c, k))) : sProp 𝕄) := by
    rw [← bigSep_sep']
    exact (bigSep_mono fun k _ => (Rounds.body_intro ER (plan A B) (kcell (c, k))).trans inv_alloc).trans (bigSep_fupd _ _)
  rw [ownSems0_eq, unscopedSems0_eq]
  unfold G
  iintro ⟨⟨Hl, Hs, Hr⟩, Hb, Hst, Hre, Hat, Htok⟩
  ihave Hv := hv $$ [Hb Hr]
  · isplitl [Hb] <;> iassumption
  imod hi $$ [Hv Hst] with Hinv
  · isplitl [Hv] <;> iassumption
  imodintro
  isplitl [Hinv]; · iexact Hinv
  isplitl [Hre]; · iexact Hre
  isplitl [Hat]; · iexact Hat
  isplitl [Htok]; · iexact Htok
  isplitl [Hl]; · iexact Hl
  iexact Hs

/-- Every due is paid by one device to another, so the tokens by receiver are the tokens by payer. -/
def payE : Dev nD × Due ≃ Dev nD × Due where
  toFun x := (tgt x.1 x.2, x.2)
  invFun x := (src x.1 x.2, x.2)
  left_inv x := Prod.ext (src_tgt x.1 x.2) rfl
  right_inv x := Prod.ext (tgt_src x.1 x.2) rfl
theorem toks_around : (bigSep Finset.univ fun c : Dev nD => bigSep Finset.univ fun d : Due => dutyTok ER ((c : Thread nD τ), dsem d) 0 d)
    = (bigSep Finset.univ fun c : Dev nD => bigSep Finset.univ fun d : Due => dutyTok ER (dcell c d) 0 d : sProp 𝕄) := by
  rw [← bigSep_univ_prod (fun x : Dev nD × Due => dutyTok ER ((x.1 : Thread nD τ), dsem x.2) 0 x.2), bigSep_univ_equiv payE,
    ← bigSep_univ_prod (fun x : Dev nD × Due => dutyTok ER (dcell x.1 x.2) 0 x.2)]
  rfl

theorem with_known {K : CK → ℕ} : iprop(known A B K ∗ bigSep Finset.univ (linear (F := F))) ⊢ bigSep Finset.univ (G' A B) :=
  (sep_mono_left (BI.bigSep_of_persistent Finset.univ (known A B K))).trans (by
    rw [← bigSep_sep']
    refine big_mono fun c => ?_
    unfold G'
    iintro H
    iexists K
    iexact H)

theorem regroup :
    (bigSep Finset.univ fun c : Dev nD => iprop((bigSep Finset.univ fun k => iprop(∃ κ : ℕ, cellInv ER (plan A B) κ (kcell (c, k))))
          ∗ (bigSep Finset.univ fun k : Option Xf => reached ER (kcell (c, k)) 0) ∗ (bigSep Finset.univ fun k : Option Xf => atPos ER (kcell (c, k)) 0 ∅ 0)
          ∗ (bigSep Finset.univ fun d : Due => dutyTok ER ((c : Thread nD τ), dsem d) 0 d)
          ∗ (bigSep Finset.univ fun i : Fin 7 => semVal ((c : Thread nD τ), SemLoc.dma (lsem i)) 0)
          ∗ bigSep Finset.univ fun d : Xf => semVal ((c : Thread nD τ), SemLoc.dma (ssem d)) 0) : sProp 𝕄)
      ⊢ bigSep Finset.univ (G' A B) := by
  have hk (K : CK → ℕ) : iprop((bigSep Finset.univ fun x : CK => cellInv ER (plan A B) (K x) (kcell x)) ∗ bigSep Finset.univ fun x : CK => reached ER (kcell x) 0)
      ⊢ known A B K := ent_of_eq (bigSep_sep' _ _ _).symm
  have hl : iprop((bigSep Finset.univ fun c : Dev nD => bigSep Finset.univ fun k : Option Xf => atPos ER (kcell (c, k)) 0 ∅ 0)
        ∗ (bigSep Finset.univ fun c : Dev nD => bigSep Finset.univ fun d : Due => dutyTok ER ((c : Thread nD τ), dsem d) 0 d)
        ∗ (bigSep Finset.univ fun c : Dev nD => bigSep Finset.univ fun i : Fin 7 => semVal ((c : Thread nD τ), SemLoc.dma (lsem i)) 0)
        ∗ bigSep Finset.univ fun c : Dev nD => bigSep Finset.univ fun d : Xf => semVal ((c : Thread nD τ), SemLoc.dma (ssem d)) 0)
      ⊢ (bigSep Finset.univ linear : sProp 𝕄) := by
    refine ent_of_eq ?_
    unfold linear
    rw [toks_around, bigSep_sep', bigSep_sep', bigSep_sep']
  rw [bigSep_sep', bigSep_sep', bigSep_sep', bigSep_sep', bigSep_sep',
    ← bigSep_univ_prod (fun x : CK => iprop(∃ κ : ℕ, cellInv ER (plan A B) κ (kcell x))), ← bigSep_univ_prod (fun x : CK => (reached ER (kcell x) 0 : sProp 𝕄))]
  iintro ⟨HI, HR, Hat, Htok, Hl, Hs⟩
  ihave HK := (BI.bigSep_exists_pi Finset.univ (fun (x : CK) (κ : ℕ) => (cellInv ER (plan A B) κ (kcell x) : sProp 𝕄))) $$ HI
  icases HK with ⟨%K, HI⟩
  iapply (with_known A B)
  isplitl [HI HR]
  · iapply (hk K)
    isplitl [HI] <;> iassumption
  iapply hl
  isplitl [Hat]; · iexact Hat
  isplitl [Htok]; · iexact Htok
  isplitl [Hl] <;> iassumption

theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## The credits -/

/-- What the devices owe a semaphore of device `c` altogether: the dues paid on it. -/
theorem owed (c : Dev nD) (sm : SemLoc sig) : ∑ c' : Dev nD, O c' 0 ((c : Thread nD τ), sm) () = ∑ d : Due, if dsem d = sm then amt d else 0 := by
  have h (c' : Dev nD) : O c' 0 ((c : Thread nD τ), sm) () = ∑ d : Due, if c' = src c d ∧ dsem d = sm then amt d else 0 := by
    unfold O
    rw [Finset.filter_true_of_mem fun d _ => Nat.zero_le _, Finset.sum_apply, Finsupp.finset_sum_apply]
    refine Finset.sum_congr rfl fun d _ => ?_
    rw [tallyAt_apply]
    by_cases h : c' = src c d ∧ dsem d = sm
    · rw [if_pos h, if_pos ⟨by rw [h.1, ← h.2]; unfold dcell; rw [tgt_src], rfl⟩]
    · rw [if_neg h, if_neg]
      rintro ⟨h1, -⟩
      refine h ⟨?_, (congrArg Prod.snd h1).symm⟩
      have h2 : c = tgt c' d := congrArg (fun g : GSem nD τ sig => g.1.1) h1
      rw [h2, src_tgt]
  rw [Finset.sum_congr rfl fun c' _ => h c', Finset.sum_comm]
  refine Finset.sum_congr rfl fun d _ => ?_
  by_cases hd : dsem d = sm
  · rw [if_pos hd, Finset.sum_congr rfl fun c' _ => show (if c' = src c d ∧ dsem d = sm then amt d else 0) = if c' = src c d then amt d else 0 by simp only [hd, and_true],
      Finset.sum_ite_eq' Finset.univ (src c d) fun _ => amt d, if_pos (Finset.mem_univ _)]
  · rw [if_neg hd, Finset.sum_eq_zero fun c' _ => if_neg fun h => hd h.2]

/-- What a cell is owed in all. -/
def owing : Option Xf → ℕ
  | none => 3
  | some d => amt (.xf d)

theorem owed_ck (c : Dev nD) (k : Option Xf) : ∑ c' : Dev nD, O c' 0 (kcell (c, k)) () = owing k := by
  rw [owed, ← Finset.sum_filter]
  rcases k with _ | d
  · rw [show (Finset.univ.filter fun d : Due => dsem d = ckSem none) = {.bar 0, .bar 1, .bar 2} by decide +kernel]; rfl
  · rw [show (Finset.univ.filter fun e : Due => dsem e = ckSem (some d)) = {.xf d} by revert d; decide +kernel, Finset.sum_singleton]; rfl

theorem launch_ck (c : Dev nD) (k : Option Xf) :
    tallyOn (kcell (c, k)) (launchCredit (Pipeline.owing fun c => O c 0) 0 (kcell (c, k))) = (tallyAt (kcell (c, k)) () (owing k) : CellTallies nD τ sig Unit) := by
  unfold tallyAt; refine congrArg _ (Finsupp.ext fun u => ?_); cases u
  rw [Pipeline.launchCredit_owing, Finsupp.single_eq_same, owed_ck]

theorem creds (c : Dev nD) : (Pipeline.launchCred (fun c => O c 0) c : sProp 𝕄)
    ⊢ iprop(cred (tallyAt ((c : Thread nD τ), SemLoc.reg barS) () 3)
      ∗ bigSep Finset.univ fun d : Xf => cred (tallyAt ((c : Thread nD τ), SemLoc.dma (rsem d)) () (amt (.xf d)))) := by
  have h : (bigSep (Finset.univ.image ckSem) fun sm => cred (tallyOn ((c : Thread nD τ), sm) (launchCredit (Pipeline.owing fun c => O c 0) 0 ((c : Thread nD τ), sm))) : sProp 𝕄)
      = bigSep Finset.univ fun k : Option Xf => cred (tallyAt (kcell (c, k)) () (owing k)) := by
    rw [bigSep_image_of_injOn fun _ _ _ _ h => ckSem_inj _ _ h]
    exact bigSep_congr fun k _ => congrArg cred (launch_ck c k)
  unfold Pipeline.launchCred
  refine BIBase.Entails.trans (BI.bigSep_subset (Finset.subset_univ (Finset.univ.image ckSem))) (ent_of_eq ?_)
  rw [h, big_opt]
  rfl

end Cert.Wgrad
-- ==== Proof.Launch.lean ====
/- The launch: every execution of the program, over any float values, ends with the results and every semaphore at zero. -/
module

public import proofs.«01_k».proof.Proof.Mint
public import Idealize.ShloMosaic.Lib.Pipeline.CollectiveSegs
public import proofs.«01_k».proof.Proof.Gen.KernelIdeal.Points

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The arguments' blocks of each device. -/
def mA (c : Dev nD) : Vec F S2048x2048 .f32 := m ((c : Thread nD τ).loc main_arg0)
def mB (c : Dev nD) : Vec F S2048x8192 .f32 := m ((c : Thread nD τ).loc main_arg1)

/-- What a device starts from, its scratch buffers apart. -/
def start (c : Dev nD) : sProp (MT nD τ sig Unit (Elt F) ℕ UU ℕ) :=
  iprop(G' (mA m) (mB m) c ∗ (cred (tallyAt ((c : Thread nD τ), SemLoc.reg barS) () 3)
      ∗ bigSep Finset.univ fun d : Xf => cred (tallyAt ((c : Thread nD τ), SemLoc.dma (rsem d)) () (amt (.xf d)))) ∗ levAts L lv
    ∗ owns (c : Thread nD τ) arg0M fullShare (mA m c) ∗ owns (c : Thread nD τ) arg1M fullShare (mB m c) ∗ ∃ X, owns (c : Thread nD τ) outM fullShare X)
/-- What it ends with, its scratch buffers and their semaphores apart. -/
def final (c : Dev nD) : sProp (MT nD τ sig Unit (Elt F) ℕ UU ℕ) :=
  iprop(owns (c : Thread nD τ) arg0M fullShare (mA m c) ∗ owns (c : Thread nD τ) arg1M fullShare (mB m c)
    ∗ owns (c : Thread nD τ) outM fullShare (OUT (mA m) (mB m) c) ∗ unscopedSems0 c)

def Φ₀ (c : Dev nD) : sProp (MT nD τ sig Unit (Elt F) ℕ UU ℕ) := iprop(start m c ∗ Pipeline.scopedRest cfg0.spec c)
def Φ₁ (c : Dev nD) : sProp (MT nD τ sig Unit (Elt F) ℕ UU ℕ) := iprop(final m c ∗ Pipeline.ownSems0 osem c ∗ Pipeline.scopedRest cfg0.spec c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O c 0
    | ⟨_ + 1, _⟩ => 0

theorem big_none (Φ : Fin cfg0.W → sProp 𝕄) : bigSep Finset.univ Φ = iprop(emp) := by
  rw [show (Finset.univ : Finset (Fin cfg0.W)) = ∅ from rfl, bigSep_empty]; rfl

theorem scratch_eq (c : Dev nD) : (Pipeline.scopedRest cfg0.spec c : sProp 𝕄)
    = iprop(buf (F := F) c cc0_scratch0 ∗ buf c cc0_scratch1 ∗ buf c cc0_scratch2 ∗ buf c cc0_scratch3 ∗ buf c cc0_scratch4 ∗ buf c cc0_scratch5 ∗ buf c cc0_scratch6
      ∗ buf c cc0_scratch7 ∗ buf c cc0_scratch8 ∗ buf c cc0_scratch9 ∗ buf c cc0_scratch10 ∗ buf c cc0_scratch11) := scopedRest0_eq c

/-- The body's run, from what the launch hands it to what the launch takes back. -/
theorem body_whole (c : Dev nD) : iprop(Φ₀ m c ∗ ∃ W, owes (c : Thread nD τ) (O c 0) W)
    ⊢ wp frame (wpE (defs₀ (F := F)) 𝒱₀ (c : Thread nD τ) none) Set.univ (at₀ (cc0__body (F := F)))
        (fun _ => iprop(Φ₁ m c ∗ ∃ W, owes (c : Thread nD τ) (0 : CellTallies nD τ sig Unit) W)) := by
  have hi (K : CK → ℕ) : iprop(levAts L lv ∗ known (mA m) (mB m) K) ⊢ Inv (mA m) (mB m) K := .rfl
  have hx : iprop((bigSep Finset.univ fun d : Xf => dutyTok ER (dcell c (.xf d)) 0 (.xf d)) ∗ bigSep Finset.univ fun d : Xf => semVal ((c : Thread nD τ), SemLoc.dma (ssem d)) 0)
      ⊢ (bigSep Finset.univ (fun d : Xf => iprop(dutyTok ER (dcell c (.xf d)) 0 (.xf d) ∗ semVal ((c : Thread nD τ), .dma (ssem d)) 0)) : sProp 𝕄) := ent_of_eq (bigSep_sep' _ _ _).symm
  have hb : (atPos ER (kcell (c, none)) 0 ∅ 0 : sProp 𝕄) ⊢ atPos ER ((c : Thread nD τ), SemLoc.reg barS) 0 ∅ 0 := .rfl
  have hr : (bigSep Finset.univ fun d : Xf => atPos ER (kcell (c, some d)) 0 ∅ 0 : sProp 𝕄) ⊢ bigSep Finset.univ fun d : Xf => atPos ER ((c : Thread nD τ), SemLoc.dma (rsem d)) 0 ∅ 0 := .rfl
  unfold Φ₀ start G' linear
  rw [scratch_eq, big_opt, big_due, big3, big7]
  iintro ⟨⟨⟨⟨%K, #HK, ⟨Hb, Hat⟩, ⟨⟨T0, T1, T2⟩, Htok⟩, ⟨S0, S1, S2, S3, S4, S5, S6⟩, Hss⟩, ⟨Hcb, Hcr⟩, #Hlev, HA, HB, ⟨%X, HX⟩⟩, Hscr⟩, HO⟩
  ihave Hb := hb $$ Hb
  ihave Hat := hr $$ Hat
  ihave Hscr := (scratch_open c) $$ Hscr
  icases Hscr with ⟨⟨M0, M1, M2⟩, ⟨X0, X1⟩, Dy, XP, XM, ⟨Y0, Y1, Y2, Y3⟩, ⟨R0, R1, R2, R3⟩, ⟨Z0, Z1⟩, D0, D1⟩
  ihave Hout := (out_start (mA m) (mB m) c X) $$ HX
  ihave Hrx := (ent_of_eq (rx_start (F := F) c).symm) $$ [Hat Hcr]
  · isplitl [Hat] <;> iassumption
  ihave Hbx := hx $$ [Htok Hss]
  · isplitl [Htok] <;> iassumption
  ihave #HI := (hi K) $$ []
  · isplitr; · iexact Hlev
    iexact HK
  iapply (body_run c) $$ HI HO T0 T1 T2 M0 M1 M2 Hb Hcb Hbx Hrx Hout HA HB X0 X1 Dy XP XM Y0 Y1 Y2 Y3 R0 R1 R2 R3 Z0 Z1 D0 D1 S0 S1 S2 S3 S4 S5 S6
  iintro Ow Bs Rx Out A0l A0r A1 X0 X1 Dy XP XM Gy0 Gy1 Gy2 Gy3 Gz0 Gz1 S0 S1 S2 S3 S4 S5 S6
  ihave Ow := (ow_end (mA m) (mB m) c) $$ Ow
  icases Ow with ⟨HO, Hsent, Hss⟩
  ihave Hrs := (ent_of_eq (rx_end (F := F) c)) $$ Rx
  ihave Out := (out_end (mA m) (mB m) c) $$ Out
  icases Out with ⟨Hout, Hlent⟩
  ihave Hscr := (scratch_close (mA m) (mB m) c) $$ [Hsent Hlent X0 X1 Dy XP XM Gy0 Gy1 Gy2 Gy3 Gz0 Gz1]
  · iframe
  ihave A0 := (halves c arg0M fullShare (mA m c)) $$ [A0l A0r]
  · isplitl [A0l] <;> iassumption
  isplitr [HO]
  · unfold Φ₁ final
    ihave Hown := (ent_of_eq (ownSems0_eq (F := F) c).symm) $$ [S0 S1 S2 S3 S4 S5 S6 Hss Hrs]
    · isplitl [S0 S1 S2 S3 S4 S5 S6]
      · iapply (ent_of_eq (big7 (fun i : Fin 7 => semVal ((c : Thread nD τ), SemLoc.dma (lsem i)) 0)).symm)
        iframe
      isplitl [Hss] <;> iassumption
    ihave Hbs := (ent_of_eq (unscopedSems0_eq (F := F) c).symm) $$ Bs
    ihave Hscr := (ent_of_eq (scratch_eq (F := F) c).symm) $$ Hscr
    iframe
  · iexact HO

theorem body_obligation (c : Dev nD) : BodyObligation (dats m 0 c) (defs₀ (F := F)) 𝒱₀ () Set.univ := fun t => by
  rw [fin_N0 t, big_none]
  have h : ∀ x : PUnit, iprop(Φ₁ m c ∗ ∃ W, owes (c : Thread nD τ) (0 : CellTallies nD τ sig Unit) W)
      ⊢ iprop(Φ₁ m c ∗ (dats m 0 c).owesAt () t0_0.succ ∗ emp) := fun _ => by
    unfold Dat.owesAt Pipeline.owesWithin
    iintro ⟨HΦ, ⟨%W, HO⟩⟩
    isplitl [HΦ]; · iexact HΦ
    isplitl [HO]
    · iexists W
      isplitr; · ipureintro; exact fun _ _ => Or.inl trivial
      iexact HO
    · iempintro
  have h' : iprop(Φ₀ m c ∗ (dats m 0 c).owesAt () t0_0.castSucc ∗ emp) ⊢ iprop(Φ₀ m c ∗ ∃ W, owes (c : Thread nD τ) (O c 0) W) := by
    unfold Dat.owesAt Pipeline.owesWithin
    iintro ⟨HΦ, ⟨%W, %hW, HO⟩, -⟩
    isplitl [HΦ]; · iexact HΦ
    iexists W
    iexact HO
  show iprop(Φ₀ m c ∗ (dats m 0 c).owesAt () t0_0.castSucc ∗ emp) ⊢ wp frame (wpE (defs₀ (F := F)) 𝒱₀ (c : Thread nD τ) none) Set.univ (at₀ (cc0__body (F := F)))
    (fun _ => iprop(Φ₁ m c ∗ (dats m 0 c).owesAt () t0_0.succ ∗ bigSep Finset.univ _))
  rw [big_none]
  exact (h'.trans (body_whole m c)).trans (wp_mono _ _ _ h)

/-! ## The launch's conditions -/

theorem start_intro (c : Dev nD) :
    iprop(Pipeline.unscopedRestP Pipeline.Prefetch.none cfg0.spec c (fun b => m ((c : Thread nD τ).loc b)) ∗ levAts L lv
        ∗ Pipeline.launchCred (fun c => O c 0) c ∗ prngReg c (ρ c) ∗ G' (mA m) (mB m) c)
      ⊢ |={Set.univ}=> iprop(start m c ∗ emp) := by
  have h0 : (((c : Thread nD τ).loc main_arg0) ↦{fullShare} m ((c : Thread nD τ).loc main_arg0) : sProp 𝕄) ⊢ owns (c : Thread nD τ) arg0M fullShare (mA m c) := ent_of_eq (owns_whole (c : Thread nD τ) main_arg0 fullShare (mA m c)).symm
  have h1 : (((c : Thread nD τ).loc main_arg1) ↦{fullShare} m ((c : Thread nD τ).loc main_arg1) : sProp 𝕄) ⊢ owns (c : Thread nD τ) arg1M fullShare (mB m c) := ent_of_eq (owns_whole (c : Thread nD τ) main_arg1 fullShare (mB m c)).symm
  have h2 : (((c : Thread nD τ).loc main_v1) ↦{fullShare} m ((c : Thread nD τ).loc main_v1) : sProp 𝕄) ⊢ owns (c : Thread nD τ) outM fullShare (m ((c : Thread nD τ).loc main_v1)) := ent_of_eq (owns_whole (c : Thread nD τ) main_v1 fullShare (m ((c : Thread nD τ).loc main_v1))).symm
  rw [Pipeline.unscopedRestP_none, unscopedRest0_eq]
  iintro ⟨⟨H0, H1, H2⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [H0]; · iapply h0 $$ H0
    isplitl [H1]; · iapply h1 $$ H1
    iexists _
    iapply h2 $$ H2
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem waits (c : Dev nD) : (levAts L lv : sProp 𝕄) ⊢ Pipeline.cellsWaits cfgs (dats m) () 0 c :=
  Pipeline.cellsWaits_intro cfgs (dats m) () 0 c fun w => w.elim0

/-! ## The run -/

/-- What the final memory holds at device `c`. -/
def atEnd (c : Dev nD) (s : MemSt nD τ sig (Elt F)) : Prop :=
  s.mem ((c : Thread nD τ).loc main_arg0) = mA m c ∧ s.mem ((c : Thread nD τ).loc main_arg1) = mB m c
    ∧ s.mem ((c : Thread nD τ).loc main_v1) = OUT (mA m) (mB m) c

theorem read_whole (c : Dev nD) (b : Ref sig .tc) (f : Buf (Elt F) ((c : Thread nD τ).loc b)) (s' : Phys nD τ sig (Elt F)) :
    iprop(owns (c : Thread nD τ) (Memref.whole b) fullShare f ∗ SI s') ⊢ (⌜s'.mem.mem ((c : Thread nD τ).loc b) = f⌝ : sProp 𝕄) := by
  rw [owns_whole]
  iintro ⟨Hx, HSI⟩
  ihave H := (SI_pointsTo_agree (st := s') (ℓ := (c : Thread nD τ).loc b) (I := Finset.univ) (q := fullShare) (f := f)) $$ [HSI Hx]
  · isplitl [HSI] <;> iassumption
  icases H with %hx
  ipureintro; exact funext fun i => hx i (Finset.mem_univ i)

theorem final_read (c : Dev nD) (s' : Phys nD τ sig (Elt F)) : iprop(final m c ∗ emp ∗ SI s') ⊢ |={Set.univ}=>
    iprop(⌜atEnd m c s'.mem ∧ ∀ sm : SemLoc sig, sm.isScoped .tc = false → s'.mem.sem ((c.tc : Thread nD τ), sm) = 0⌝ ∗ SI s') := by
  unfold final atEnd
  iintro ⟨⟨H0, H1, H2, Hu⟩, -, HSI⟩
  ihave %h0 := (read_whole c main_arg0 (mA m c) s') $$ [H0 HSI]
  · isplitl [H0] <;> iassumption
  ihave %h1 := (read_whole c main_arg1 (mB m c) s') $$ [H1 HSI]
  · isplitl [H1] <;> iassumption
  ihave %h2 := (read_whole c main_v1 (OUT (mA m) (mB m) c) s') $$ [H2 HSI]
  · isplitl [H2] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨⟨h0, h1, h2⟩, hs⟩
  iexact HSI

/-- At the sixteen devices, over any float values, from any memory with zero counters: every weakly fair execution of
    @main terminates, and every final state has each device's arguments unchanged, its result at `OUT` of the
    arguments, and every semaphore counter at zero. -/
theorem run_main : θ_run defs (onTc (τ := τ) (main (F := F))) (s₀ m ρ) (fun r => (∀ c, atEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => O c 0) (howed₀ := fun _ => rfl) (howedN := fun _ => rfl)
    (L := L) (lv := lv) (hL := L_of_ne) (hwaits := waits m)
    (G := G (mA m) (mB m)) (G' := G' (mA m) (mB m)) (u₀ := u₀)
    (hu₀ := by
      iintro Hu
      ihave H := (u₀_split (F := F)) $$ Hu
      icases H with ⟨HP, HX⟩
      imod (fund (mA m) (mB m)) $$ HX with HG
      imodintro
      isplitl [HP] <;> iassumption)
    (hglob := glob (mA m) (mB m))
    (hA := fun _ w => w.elim0) (hpf := fun _ k => k.elim0)
    (X := start m) (Y := final m) (Z := fun _ => iprop(emp))
    (hX := start_intro m ρ) (hin := phi0_intro m) (hout := fun _ => .rfl)
    (QY := fun c s => atEnd m c s ∧ ∀ sm : SemLoc sig, sm.isScoped .tc = false → s.sem ((c.tc : Thread nD τ), sm) = 0)
    (hY := final_read m)
    (hQ := fun _ h hs => ⟨fun c => (h c).2.2.1, sem_eq_zero hs fun c => (h c).2.2.2⟩)

end Cert.Wgrad
-- ==== Proof.Algebra.lean ====
/- The values over the extended reals: each device's result is its block of the one product. -/
module

public import proofs.«01_k».proof.Proof.Result
public import proofs.«01_k».proof.Proof.Gen.ReferenceIdeal
public import Idealize.ShloMosaic.Lib.Layout
public import Idealize.ShloMosaic.Lib.Pointwise.Contract
public import Idealize.ShloMosaic.PureOps.Ideal.Laws

@[expose] public section

set_option maxRecDepth 16384

noncomputable section

namespace Cert.Wgrad

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Entries by number -/

/-- The entry of a matrix at two numbers, zero outside it. -/
def at2 {n0 n1 : ℕ} (X : (⟨2, ![n0, n1]⟩ : Shape).Idx → EReal) (i j : ℕ) : EReal :=
  if h : i < n0 ∧ j < n1 then X (ix2 (⟨i, h.1⟩ : Fin n0) (⟨j, h.2⟩ : Fin n1)) else 0
/-- An entry is the one at its index's numbers. -/
theorem at2_eq {n0 n1 : ℕ} (X : (⟨2, ![n0, n1]⟩ : Shape).Idx → EReal) (x : (⟨2, ![n0, n1]⟩ : Shape).Idx) : X x = at2 X (x 0).val (x 1).val := by
  have h : (x 0).val < n0 ∧ (x 1).val < n1 := ⟨(x 0).isLt, (x 1).isLt⟩
  unfold at2
  rw [dif_pos h]
  exact congrArg X (ix_eq x ⟨_, h.1⟩ ⟨_, h.2⟩ rfl rfl)
/-- An entry at two numbers, whichever way they are written. -/
theorem at2_of {n0 n1 : ℕ} (X : (⟨2, ![n0, n1]⟩ : Shape).Idx → EReal) (x : (⟨2, ![n0, n1]⟩ : Shape).Idx) (i j : ℕ) (hi : (x 0).val = i) (hj : (x 1).val = j) :
    X x = at2 X i j := by
  subst hi hj
  exact at2_eq X x

/-! ## The products -/

/-- A product of columns by columns, at an index. -/
theorem mm256 (X : FVec Ideal S2048x1024 .bf16) (Y : FVec Ideal S2048x256 .bf16) (j : S1024x256.Idx) :
    matmul dot_S2048x1024_S2048x256_S1024x256_0_0_1_1_n_n none X Y (constant S1024x256 .f32 0x00000000#32) j
      = ∑ k : Fin 2048, at2 X k.val (j 0).val * at2 Y k.val (j 1).val := by
  refine (Ideal.matmul_apply₁ dot_S2048x1024_S2048x256_S1024x256_0_0_1_1_n_n (a := 0) rfl (K := 2048) rfl X Y _ j).trans ?_
  rw [show (constant S1024x256 .f32 0x00000000#32 : FVec Ideal S1024x256 .f32) j = 0 from Ideal.ofBits_zero_f32, zero_add]
  exact Finset.sum_congr rfl fun k _ => congrArg₂ _ (at2_of X _ _ _ rfl rfl) (at2_of Y _ _ _ rfl rfl)
/-- The same for the wider strips. -/
theorem mm512 (X : FVec Ideal S2048x1024 .bf16) (Y : FVec Ideal S2048x512 .bf16) (j : S1024x512.Idx) :
    matmul dot_S2048x1024_S2048x512_S1024x512_0_0_1_1_n_n none X Y (constant S1024x512 .f32 0x00000000#32) j
      = ∑ k : Fin 2048, at2 X k.val (j 0).val * at2 Y k.val (j 1).val := by
  refine (Ideal.matmul_apply₁ dot_S2048x1024_S2048x512_S1024x512_0_0_1_1_n_n (a := 0) rfl (K := 2048) rfl X Y _ j).trans ?_
  rw [show (constant S1024x512 .f32 0x00000000#32 : FVec Ideal S1024x512 .f32) j = 0 from Ideal.ofBits_zero_f32, zero_add]
  exact Finset.sum_congr rfl fun k _ => congrArg₂ _ (at2_of X _ _ _ rfl rfl) (at2_of Y _ _ _ rfl rfl)
/-- The reference's product. -/
theorem dotRef (X : FVec Ideal Cert.ReferenceIdeal.S4096x2048 .f32) (Y : FVec Ideal Cert.ReferenceIdeal.S4096x8192 .f32) (j : Cert.ReferenceIdeal.S2048x8192.Idx) :
    Host.dotGeneral Cert.ReferenceIdeal.dot_S2048x4096_S4096x8192_S2048x8192_1_0_0_1_n_n none
        (transpose Cert.ReferenceIdeal.S2048x4096 [1, 0] X Cert.ReferenceIdeal.Facts₀.transposes_S4096x2048_S2048x4096_1_0) Y j
      = ∑ k : Fin 4096, at2 X k.val (j 0).val * at2 Y k.val (j 1).val := by
  refine (Ideal.matmul_apply₁ Cert.ReferenceIdeal.dot_S2048x4096_S4096x8192_S2048x8192_1_0_0_1_n_n (a := 1) rfl (K := 4096) rfl _ Y _ j).trans ?_
  rw [zero_add]
  exact Finset.sum_congr rfl fun k _ => congrArg₂ _ (at2_of X _ _ _ rfl rfl) (at2_of Y _ _ _ rfl rfl)

section
variable (X : FVec Ideal Cert.ReferenceIdeal.S4096x2048 .f32) (D : FVec Ideal Cert.ReferenceIdeal.S4096x8192 .f32)

/-- The part of an entry of the product summed over the rows one ring holds. -/
def half (y r n : ℕ) : EReal := ∑ k : Fin 2048, at2 X (2048 * y + k.val) r * at2 D (2048 * y + k.val) n

/-- The product's sum over all rows is the sum of the two parts. -/
theorem whole_eq (r n : ℕ) : ∑ k : Fin 4096, at2 X k.val r * at2 D k.val n = half X D 0 r n + half X D 1 r n := by
  refine (Fin.sum_univ_add (a := 2048) (b := 2048) fun k => at2 X k.val r * at2 D k.val n).trans ?_
  unfold half
  congr 1
/-- The two parts add up to the whole in either order. -/
theorem halves_eq (y r n : ℕ) (hy : y < 2) : half X D y r n + half X D (1 - y) r n = ∑ k : Fin 4096, at2 X k.val r * at2 D k.val n := by
  rw [whole_eq]
  rcases (by omega : y = 0 ∨ y = 1) with rfl | rfl
  · rfl
  · exact add_comm _ _

/-! ## What the devices compute -/

variable (A : Dev nD → Vec Ideal S2048x2048 .f32) (B : Dev nD → Vec Ideal S2048x8192 .f32)
variable (hA : ∀ (c : Dev nD) (x : S2048x2048.Idx), A c x = at2 X (2048 * row c + (x 0).val) (x 1).val)
variable (hB : ∀ (c : Dev nD) (x : S2048x8192.Idx), B c x = at2 D (2048 * row c + (x 0).val) (x 1).val)

/-- The columns of `dy` a device multiplies first are those of its place in the ring. -/
theorem off1 : ∀ c : Dev nD, k0_off1 c = ![0, 1024 * pos c] := by decide +kernel
/-- The columns it multiplies last are those of the place opposite. -/
theorem off2 : ∀ c : Dev nD, k0_off2 c = ![0, 1024 * ((pos c + 4) % 8)] := by decide +kernel

include hA in
/-- The columns of `x` a device multiplies for its partner. -/
theorem xp_at (c : Dev nD) (x : S2048x1024.Idx) : XPl A c x = at2 X (2048 * row c + (x 0).val) ((x 1).val + 1024 * (1 - row c)) := by
  refine (hA c _).trans ?_
  congr 1
  · show 2048 * row c + (0 + 1 * (x 0).val) = _
    omega
  · show (0 + 1 * (x 1).val) + 1024 * (1 - row c) = _
    omega
include hA in
/-- The columns of `x` it multiplies for itself. -/
theorem xm_at (c : Dev nD) (x : S2048x1024.Idx) : XMl A c x = at2 X (2048 * row c + (x 0).val) ((x 1).val + 1024 * row c) := by
  refine (hA c _).trans ?_
  congr 1
  · show 2048 * row c + (0 + 1 * (x 0).val) = _
    omega
  · show (0 + 1 * (x 1).val) + 1024 * row c = _
    omega
include hB in
/-- A strip of the first columns of `dy`. -/
theorem dys_at (c : Dev nD) (s : Fin 4) (x : S2048x256.Idx) : DYs B c s x = at2 D (2048 * row c + (x 0).val) (1024 * pos c + 256 * s.val + (x 1).val) := by
  refine (hB c _).trans ?_
  congr 1
  · show 2048 * row c + (k0_off1 c 0 + 1 * (0 + 1 * (x 0).val)) = _
    rw [off1]; show 2048 * row c + (0 + 1 * (0 + 1 * (x 0).val)) = _
    omega
  · show k0_off1 c 1 + 1 * (256 * s.val + 1 * (x 1).val) = _
    rw [off1]; show 1024 * pos c + 1 * (256 * s.val + 1 * (x 1).val) = _
    omega
include hB in
/-- A strip of the last columns of `dy`. -/
theorem dft_at (c : Dev nD) (t : Fin 2) (x : S2048x512.Idx) : DFt B c t x = at2 D (2048 * row c + (x 0).val) (1024 * ((pos c + 4) % 8) + 512 * t.val + (x 1).val) := by
  refine (hB c _).trans ?_
  congr 1
  · show 2048 * row c + (k0_off2 c 0 + 1 * (0 + 1 * (x 0).val)) = _
    rw [off2]; show 2048 * row c + (0 + 1 * (0 + 1 * (x 0).val)) = _
    omega
  · show k0_off2 c 1 + 1 * (512 * t.val + 1 * (x 1).val) = _
    rw [off2]; show 1024 * ((pos c + 4) % 8) + 1 * (512 * t.val + 1 * (x 1).val) = _
    omega

theorem at2_ix {n0 n1 : ℕ} (Z : (⟨2, ![n0, n1]⟩ : Shape).Idx → EReal) (i : Fin n0) (j : Fin n1) : at2 Z i.val j.val = Z (ix2 i j) :=
  (at2_of Z (ix2 i j) i.val j.val rfl rfl).symm

/-- A product of the loaded columns is a part of the whole product's entries. -/
theorem half_of {n : ℕ} (y o q : ℕ) (P : S2048x1024.Idx → EReal) (Q : (⟨2, ![2048, n]⟩ : Shape).Idx → EReal)
    (hP : ∀ x, P x = at2 X (2048 * y + (x 0).val) ((x 1).val + 1024 * o)) (hQ : ∀ x, Q x = at2 D (2048 * y + (x 0).val) (q + (x 1).val))
    (r : Fin 1024) (x : Fin n) : ∑ k : Fin 2048, at2 P k.val r.val * at2 Q k.val x.val = half X D y (r.val + 1024 * o) (q + x.val) :=
  Finset.sum_congr rfl fun k _ => by rw [at2_ix P k r, at2_ix Q k x, hP, hQ]; rfl

/-- What the kernel computes of a strip is a product, narrowed. -/
theorem pay5_eq (P : Vec Ideal S2048x1024 .bf16) (Q : Vec Ideal S2048x256 .f32) :
    sq (k0_pay5 P Q) = (truncf .bf16 (F := Ideal) (matmul (φ₁ := .bf16) dot_S2048x1024_S2048x256_S1024x256_0_0_1_1_n_n none P (truncf .bf16 Q bitsLt_bf16_f32) (constant S1024x256 .f32 0x00000000#32)) bitsLt_bf16_f32 : FVec Ideal S1024x256 .bf16) :=
  shapeCast_shapeCast _ _ _
theorem pay22_eq (P : Vec Ideal S2048x1024 .bf16) (Q : Vec Ideal S2048x512 .f32) :
    sq5 (k0_pay22 P Q) = (truncf .bf16 (F := Ideal) (matmul (φ₁ := .bf16) dot_S2048x1024_S2048x512_S1024x512_0_0_1_1_n_n none P (truncf .bf16 Q bitsLt_bf16_f32) (constant S1024x512 .f32 0x00000000#32)) bitsLt_bf16_f32 : FVec Ideal S1024x512 .bf16) :=
  shapeCast_shapeCast _ _ _
/-- The sum of the own and the received strip, entry by entry. -/
theorem pay17_eq (P Q : Vec Ideal S1024x256 .bf16) (x : S1024x256.Idx) : sq (k0_pay17 (usq P) (usq Q)) x = (P x + Q x : EReal) := by
  have h : sq (k0_pay17 (usq P) (usq Q)) = fun x => (sq (usq P) x + sq (usq Q) x : EReal) := shapeCast_shapeCast _ _ _
  rw [h, show sq (usq P) = P from shapeCast_shapeCast _ _ _, show sq (usq Q) = Q from shapeCast_shapeCast _ _ _]
theorem pay27_eq (P Q : Vec Ideal S1024x512 .bf16) (x : S1024x512.Idx) : sq5 (k0_pay27 (usq5 P) (usq5 Q)) x = (P x + Q x : EReal) := by
  have h : sq5 (k0_pay27 (usq5 P) (usq5 Q)) = fun x => (sq5 (usq5 P) x + sq5 (usq5 Q) x : EReal) := shapeCast_shapeCast _ _ _
  rw [h, show sq5 (usq5 P) = P from shapeCast_shapeCast _ _ _, show sq5 (usq5 Q) = Q from shapeCast_shapeCast _ _ _]

/-- An entry of the whole product. -/
def entry (r n : ℕ) : EReal := ∑ k : Fin 4096, at2 X k.val r * at2 D k.val n

include hA hB in
/-- A reduced strip holds entries of the whole product. -/
theorem red_at (c : Dev nD) (s : Fin 4) (x : S1024x256.Idx) :
    RED A B c s x = entry X D ((x 0).val + 1024 * row c) (1024 * pos c + 256 * s.val + (x 1).val) := by
  have hO : OWN A B c s x = half X D (row c) ((x 0).val + 1024 * row c) (1024 * pos c + 256 * s.val + (x 1).val) := by
    unfold OWN
    rw [pay5_eq]
    refine (mm256 _ _ x).trans ?_
    exact half_of X D (row c) (row c) _ _ _ (xm_at X A hA c) (dys_at D B hB c s) (x 0) (x 1)
  have hY : YS A B (partner c) s x = half X D (1 - row c) ((x 0).val + 1024 * row c) (1024 * pos c + 256 * s.val + (x 1).val) := by
    have h := row_lt c
    unfold YS
    rw [pay5_eq]
    refine (mm256 _ _ x).trans ?_
    refine (half_of X D (row (partner c)) (1 - row (partner c)) _ _ _ (xp_at X A hA (partner c)) (dys_at D B hB (partner c) s) (x 0) (x 1)).trans ?_
    rw [row_partner, pos_partner, show 1 - (1 - row c) = row c by omega]
  unfold RED entry
  rw [pay17_eq, hO, hY, halves_eq X D _ _ _ (row_lt c)]
include hA hB in
/-- A reduced strip of the opposite place holds entries of the whole product. -/
theorem red4_at (c : Dev nD) (t : Fin 2) (x : S1024x512.Idx) :
    RED4 A B c t x = entry X D ((x 0).val + 1024 * row c) (1024 * ((pos c + 4) % 8) + 512 * t.val + (x 1).val) := by
  have hO : OWN4 A B c t x = half X D (row c) ((x 0).val + 1024 * row c) (1024 * ((pos c + 4) % 8) + 512 * t.val + (x 1).val) := by
    unfold OWN4
    rw [pay22_eq]
    refine (mm512 _ _ x).trans ?_
    exact half_of X D (row c) (row c) _ _ _ (xm_at X A hA c) (dft_at D B hB c t) (x 0) (x 1)
  have hY : Y4 A B (partner c) t x = half X D (1 - row c) ((x 0).val + 1024 * row c) (1024 * ((pos c + 4) % 8) + 512 * t.val + (x 1).val) := by
    have h := row_lt c
    unfold Y4
    rw [pay22_eq]
    refine (mm512 _ _ x).trans ?_
    refine (half_of X D (row (partner c)) (1 - row (partner c)) _ _ _ (xp_at X A hA (partner c)) (dft_at D B hB (partner c) t) (x 0) (x 1)).trans ?_
    rw [row_partner, pos_partner, show 1 - (1 - row c) = row c by omega]
  unfold RED4 entry
  rw [pay27_eq, hO, hY, halves_eq X D _ _ _ (row_lt c)]

/-- The device at a place of a ring is in that ring, at that place. -/
theorem row_devAt : ∀ (c : Dev nD) (q : Fin 8), row (devAt (row c) q.val) = row c := by decide +kernel
theorem pos_devAt : ∀ (c : Dev nD) (q : Fin 8), pos (devAt (row c) q.val) = q.val := by decide +kernel

include hA hB in
/-- Each device's result holds the rows of the product its row of devices keeps. -/
theorem OUT_at (c : Dev nD) (i : S1024x8192.Idx) : OUT A B c i = entry X D ((i 0).val + 1024 * row c) (i 1).val := by
  have hi : (i 1).val < 8192 := (i 1).isLt
  have hp := pos_lt8 c
  unfold OUT
  split
  · rename_i h
    unfold rel at h
    rw [red4_at X D A B hA hB]
    congr 1
    show 1024 * ((pos c + 4) % 8) + 512 * ((i 1).val % 1024 / 512) + (i 1).val % 512 = (i 1).val
    omega
  · rw [red_at X D A B hA hB]
    have hr := row_devAt c ⟨(i 1).val / 1024, by omega⟩
    have hq := pos_devAt c ⟨(i 1).val / 1024, by omega⟩
    dsimp only at hr hq
    rw [hr, hq]
    congr 1
    show 1024 * ((i 1).val / 1024) + 256 * ((i 1).val % 1024 / 256) + (i 1).val % 256 = (i 1).val
    omega

/-! ## The blocks -/

/-- A device's block of `x`, entry by entry. -/
theorem blockA (c : Dev nD) (x : S2048x2048.Idx) :
    (Layout.blockN ⟨2, ![2048, 2048]⟩ ⟨2, ![4096, 2048]⟩ (Layout.meshBlock [2, 2, 4] ![[1], []] c) X : (⟨2, ![2048, 2048]⟩ : Shape).Idx → EReal) x = at2 X (2048 * row c + (x 0).val) (x 1).val := by
  refine at2_of X _ _ _ ?_ ?_
  · show (c.val / 4 % 2 * 1 + 0) * 2048 + (x 0).val = 2048 * (c.val / 4 % 2) + (x 0).val
    omega
  · show 0 * 2048 + (x 1).val = _
    omega
/-- A device's block of `dy`, entry by entry. -/
theorem blockB (c : Dev nD) (x : S2048x8192.Idx) :
    (Layout.blockN ⟨2, ![2048, 8192]⟩ ⟨2, ![4096, 8192]⟩ (Layout.meshBlock [2, 2, 4] ![[1], []] c) D : (⟨2, ![2048, 8192]⟩ : Shape).Idx → EReal) x = at2 D (2048 * row c + (x 0).val) (x 1).val := by
  refine at2_of D _ _ _ ?_ ?_
  · show (c.val / 4 % 2 * 1 + 0) * 2048 + (x 0).val = 2048 * (c.val / 4 % 2) + (x 0).val
    omega
  · show 0 * 8192 + (x 1).val = _
    omega

/-- Device `c`'s result is its block of the reference's. -/
theorem OUT_block (hA' : ∀ c, A c = Layout.blockN ⟨2, ![2048, 2048]⟩ ⟨2, ![4096, 2048]⟩ (Layout.meshBlock [2, 2, 4] ![[1], []] c) X)
    (hB' : ∀ c, B c = Layout.blockN ⟨2, ![2048, 8192]⟩ ⟨2, ![4096, 8192]⟩ (Layout.meshBlock [2, 2, 4] ![[1], []] c) D) (c : Dev nD) :
    OUT A B c = Layout.blockN ⟨2, ![1024, 8192]⟩ ⟨2, ![2048, 8192]⟩ (Layout.meshBlock [2, 2, 4] ![[1], []] c)
      (truncf .bf16 (Host.dotGeneral (F := Ideal) Cert.ReferenceIdeal.dot_S2048x4096_S4096x8192_S2048x8192_1_0_0_1_n_n none
        (transpose Cert.ReferenceIdeal.S2048x4096 [1, 0] X Cert.ReferenceIdeal.Facts₀.transposes_S4096x2048_S2048x4096_1_0) D)
        Cert.ReferenceIdeal.Facts₀.bitsLt_bf16_f32 : FVec Ideal Cert.ReferenceIdeal.S2048x8192 .bf16) := by
  funext i
  rw [OUT_at X D A B (fun c x => by rw [hA', blockA]) (fun c x => by rw [hB', blockB])]
  refine Eq.trans ?_ (dotRef X D _).symm
  unfold entry
  congr 1
  funext k
  congr 2
  · show (i 0).val + 1024 * (c.val / 4 % 2) = (c.val / 4 % 2 * 1 + 0) * 1024 + (i 0).val
    omega
  · show (i 1).val = 0 * 8192 + (i 1).val
    omega

end
end Cert.Wgrad
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel runs without fault, keeps its arguments and leaves every semaphore counter at zero. -/
theorem frame_kernel : Cert.quiescent_Kernel := fun m ρ _ =>
  (θ_run Cert.KernelIdeal.defs _ _).mono (fun _ h => ⟨fun c => ⟨(h.1 c).1, (h.1 c).2.1⟩, h.2⟩) (Cert.Wgrad.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.Wgrad.run_main (F := Ideal) m ρ)

/-- The reference runs without fault, keeps its arguments, and has no semaphores. -/
theorem frame_referenceIdeal : Cert.quiescent_ReferenceIdeal := fun m ρ _ =>
  (θ_run Cert.ReferenceIdeal.defs _ _).mono (fun r h => ⟨fun c => (h c).2, sem_eq_zero_of_no_sems rfl r.2⟩) (Cert.ReferenceIdeal.Value.run m ρ)

/-- Each device's result is its block of the reference's product. -/
theorem algebraic : Cert.algebraic_KernelIdeal_ReferenceIdeal := fun m ρ m' ρ' _ hm =>
  ⟨_, (θ_run Cert.KernelIdeal.defs _ _).mono
      (fun _ h c => ⟨(h.1 c).2.2.trans (Cert.Wgrad.OUT_block _ _ _ _ (fun c => (hm c).1) (fun c => (hm c).2) c), (h.1 c).1, (h.1 c).2.1⟩)
      (Cert.Wgrad.run_main (F := Ideal) m ρ),
    (θ_run Cert.ReferenceIdeal.defs _ _).mono (fun _ h => h 0) (Cert.ReferenceIdeal.Value.run m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
